-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_band [hPre_finite_band : Cert.Pre_finite_band.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_band.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).1 = (fun _ => 1#1)
    ∧ (Cert.Pre_finite_band.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.1 = (fun _ => 1#1)
    ∧ (Cert.Pre_finite_band.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.1 = (fun _ => 1#1)
    ∧ (Cert.Pre_finite_band.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_band [hPre_finite_band : Cert.Pre_finite_band.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_band.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).1 = (fun _ => 1#1)
    ∧ (Cert.Pre_finite_band.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.1 = (fun _ => 1#1)
    ∧ (Cert.Pre_finite_band.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.1 = (fun _ => 1#1)
    ∧ (Cert.Pre_finite_band.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Kernel2Ideal_pre_finite_band [hKernel2Ideal : Cert.Kernel2Ideal.Facts] [hPre_finite_band : Cert.Pre_finite_band.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_band m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Reference2Ideal_pre_finite_band [hReference2Ideal : Cert.Reference2Ideal.Facts] [hPre_finite_band : Cert.Pre_finite_band.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_band m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  IdealRules.named_const.Statement Cert.Kernel2Ideal.κ "log2e" .f32 0x3FB8AA3B#32 (((Real.log 2)⁻¹ : ℝ) : EReal)

def algebraic_Kernel2Ideal_Reference2Ideal_pre_finite_band [hKernel2Ideal : Cert.Kernel2Ideal.Facts] [hReference2Ideal : Cert.Reference2Ideal.Facts] [hPre_finite_band : Cert.Pre_finite_band.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_band m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "qscale" .f32 0x3E38AA3B#32 ((8⁻¹ * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v45) = v2 c
          ∧ r.2.mem ((c.tc : Thread Cert.Reference4Ideal.nD Cert.Reference4Ideal.τ).loc Cert.Reference4Ideal.main_v46) = v3 c
          ∧ r.2.mem ((c.tc : Thread Cert.Reference4Ideal.nD Cert.Reference4Ideal.τ).loc Cert.Reference4Ideal.main_v47) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "qscale" .f32 0x3E38AA3B#32 ((8⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v42) = v2 c
          ∧ r.2.mem ((c.tc : Thread Cert.Reference5Ideal.nD Cert.Reference5Ideal.τ).loc Cert.Reference5Ideal.main_v37) = v3 c
          ∧ r.2.mem ((c.tc : Thread Cert.Reference5Ideal.nD Cert.Reference5Ideal.τ).loc Cert.Reference5Ideal.main_v38) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "qscale" .f32 0x3E38AA3B#32 ((8⁻¹ * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v31_0)) (v1 : (c : Dev Cert.Kernel6Ideal.nD) → Buf (Elt Ideal) ((c.tc : Thread Cert.Kernel6Ideal.nD Cert.Kernel6Ideal.τ).loc Cert.Kernel6Ideal.main_v31_1)) (v2 : (c : Dev Cert.Kernel6Ideal.nD) → Buf (Elt Ideal) ((c.tc : Thread Cert.Kernel6Ideal.nD Cert.Kernel6Ideal.τ).loc Cert.Kernel6Ideal.main_v31_2)) (v3 : (c : Dev Cert.Kernel6Ideal.nD) → Buf (Elt Ideal) ((c.tc : Thread Cert.Kernel6Ideal.nD Cert.Kernel6Ideal.τ).loc Cert.Kernel6Ideal.main_v31_3)) (v4 : (c : Dev Cert.Kernel6Ideal.nD) → Buf (Elt Ideal) ((c.tc : Thread Cert.Kernel6Ideal.nD Cert.Kernel6Ideal.τ).loc Cert.Kernel6Ideal.main_v31_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v31_0) = v0 c
          ∧ r.2.mem ((c.tc : Thread Cert.Kernel6Ideal.nD Cert.Kernel6Ideal.τ).loc Cert.Kernel6Ideal.main_v31_1) = v1 c
          ∧ r.2.mem ((c.tc : Thread Cert.Kernel6Ideal.nD Cert.Kernel6Ideal.τ).loc Cert.Kernel6Ideal.main_v31_2) = v2 c
          ∧ r.2.mem ((c.tc : Thread Cert.Kernel6Ideal.nD Cert.Kernel6Ideal.τ).loc Cert.Kernel6Ideal.main_v31_3) = v3 c
          ∧ r.2.mem ((c.tc : Thread Cert.Kernel6Ideal.nD Cert.Kernel6Ideal.τ).loc Cert.Kernel6Ideal.main_v31_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v99) = v0 c
          ∧ r.2.mem ((c.tc : Thread Cert.Reference6Ideal.nD Cert.Reference6Ideal.τ).loc Cert.Reference6Ideal.main_v92) = v1 c
          ∧ r.2.mem ((c.tc : Thread Cert.Reference6Ideal.nD Cert.Reference6Ideal.τ).loc Cert.Reference6Ideal.main_v101) = v2 c
          ∧ r.2.mem ((c.tc : Thread Cert.Reference6Ideal.nD Cert.Reference6Ideal.τ).loc Cert.Reference6Ideal.main_v93) = v3 c
          ∧ r.2.mem ((c.tc : Thread Cert.Reference6Ideal.nD Cert.Reference6Ideal.τ).loc Cert.Reference6Ideal.main_v104) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "qscale" .f32 0x3E38AA3B#32 ((8⁻¹ * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v39_0)) (v1 : (c : Dev Cert.Kernel7Ideal.nD) → Buf (Elt Ideal) ((c.tc : Thread Cert.Kernel7Ideal.nD Cert.Kernel7Ideal.τ).loc Cert.Kernel7Ideal.main_v39_1)) (v2 : (c : Dev Cert.Kernel7Ideal.nD) → Buf (Elt Ideal) ((c.tc : Thread Cert.Kernel7Ideal.nD Cert.Kernel7Ideal.τ).loc Cert.Kernel7Ideal.main_v39_2)) (v3 : (c : Dev Cert.Kernel7Ideal.nD) → Buf (Elt Ideal) ((c.tc : Thread Cert.Kernel7Ideal.nD Cert.Kernel7Ideal.τ).loc Cert.Kernel7Ideal.main_v39_3)) (v4 : (c : Dev Cert.Kernel7Ideal.nD) → Buf (Elt Ideal) ((c.tc : Thread Cert.Kernel7Ideal.nD Cert.Kernel7Ideal.τ).loc Cert.Kernel7Ideal.main_v39_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v39_0) = v0 c
          ∧ r.2.mem ((c.tc : Thread Cert.Kernel7Ideal.nD Cert.Kernel7Ideal.τ).loc Cert.Kernel7Ideal.main_v39_1) = v1 c
          ∧ r.2.mem ((c.tc : Thread Cert.Kernel7Ideal.nD Cert.Kernel7Ideal.τ).loc Cert.Kernel7Ideal.main_v39_2) = v2 c
          ∧ r.2.mem ((c.tc : Thread Cert.Kernel7Ideal.nD Cert.Kernel7Ideal.τ).loc Cert.Kernel7Ideal.main_v39_3) = v3 c
          ∧ r.2.mem ((c.tc : Thread Cert.Kernel7Ideal.nD Cert.Kernel7Ideal.τ).loc Cert.Kernel7Ideal.main_v39_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v101) = v0 c
          ∧ r.2.mem ((c.tc : Thread Cert.Reference7Ideal.nD Cert.Reference7Ideal.τ).loc Cert.Reference7Ideal.main_v94) = v1 c
          ∧ r.2.mem ((c.tc : Thread Cert.Reference7Ideal.nD Cert.Reference7Ideal.τ).loc Cert.Reference7Ideal.main_v103) = v2 c
          ∧ r.2.mem ((c.tc : Thread Cert.Reference7Ideal.nD Cert.Reference7Ideal.τ).loc Cert.Reference7Ideal.main_v95) = v3 c
          ∧ r.2.mem ((c.tc : Thread Cert.Reference7Ideal.nD Cert.Reference7Ideal.τ).loc Cert.Reference7Ideal.main_v105) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hPre_finite_scores : Cert.Pre_finite_scores.Facts) (hPre_finite_band : Cert.Pre_finite_band.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_band (hKernel2Ideal := hKernel2Ideal) (hPre_finite_band := hPre_finite_band)
    ∧ quiescent_Reference2Ideal (hReference2Ideal := hReference2Ideal)
    ∧ quiescent_Reference2Ideal_pre_finite_band (hReference2Ideal := hReference2Ideal) (hPre_finite_band := hPre_finite_band)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_band (hKernel2Ideal := hKernel2Ideal) (hReference2Ideal := hReference2Ideal) (hPre_finite_band := hPre_finite_band)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
-- ==== Pre_finite_band.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x16x257 : Shape := ⟨3, ![1, 16, 257]⟩
abbrev S32x32x16x64 : Shape := ⟨4, ![32, 32, 16, 64]⟩
abbrev S32x512x16x64 : Shape := ⟨4, ![32, 512, 16, 64]⟩
abbrev S_ : Shape := ⟨0, ![]⟩

class Facts : Prop where
  bcast_S_S1x16x257 : S_.BroadcastsInDim S1x16x257 (![] : Fin 0 → Fin S1x16x257.rank)
  bcast_S_S32x32x16x64 : S_.BroadcastsInDim S32x32x16x64 (![] : Fin 0 → Fin S32x32x16x64.rank)
  bcast_S_S32x512x16x64 : S_.BroadcastsInDim S32x512x16x64 (![] : Fin 0 → Fin S32x512x16x64.rank)

variable [Facts]

def fn {F : FTy → Type} [FloatOps F] (main_arg0 : FVec F S8x2048x1024 .f32) (main_arg1 : FVec F S8x2048x1024 .f32) (main_arg2 : FVec F S1x1024x1024 .f32) (main_arg3 : FVec F S2x1024 .f32) (main_arg4 : FVec F S2x1024x4096 .f32) (main_arg5 : FVec F S2x4096x1024 .f32) (main_arg6 : FVec F S1024 .f32) (main_arg7 : FVec F S1x16x257 .f32) (main_arg8 : FVec F S32x32x16x64 .f32) (main_arg9 : FVec F S32x32x16x64 .f32) (main_arg10 : FVec F S32x32x16x64 .f32) (main_arg11 : FVec F S32x512x16x64 .f32) (main_arg12 : FVec F S32x512x16x64 .f32) : IVec S1x16x257 1 × IVec S32x32x16x64 1 × IVec S32x32x16x64 1 × IVec S32x512x16x64 1 :=
  let main_v0 : FVec F S1x16x257 .f32 := Host.absf main_arg7
  let main_cst : FVec F S_ .f32 := constant S_ .f32 0x7F800000#32
  let main_v1 : FVec F S1x16x257 .f32 := broadcastInDim S1x16x257 ![] bcast_S_S1x16x257 main_cst
  let main_v2 : IVec S1x16x257 1 := cmpf .olt main_v0 main_v1
  let main_v3 : FVec F S32x32x16x64 .f32 := Host.absf main_arg8
  let main_cst_0 : FVec F S_ .f32 := constant S_ .f32 0x7F800000#32
  let main_v4 : FVec F S32x32x16x64 .f32 := broadcastInDim S32x32x16x64 ![] bcast_S_S32x32x16x64 main_cst_0
  let main_v5 : IVec S32x32x16x64 1 := cmpf .olt main_v3 main_v4
  let main_v6 : FVec F S32x32x16x64 .f32 := Host.absf main_arg9
  let main_cst_1 : FVec F S_ .f32 := constant S_ .f32 0x7F800000#32
  let main_v7 : FVec F S32x32x16x64 .f32 := broadcastInDim S32x32x16x64 ![] bcast_S_S32x32x16x64 main_cst_1
  let main_v8 : IVec S32x32x16x64 1 := cmpf .olt main_v6 main_v7
  let main_v9 : FVec F S32x512x16x64 .f32 := Host.absf main_arg11
  let main_cst_2 : FVec F S_ .f32 := constant S_ .f32 0x7F800000#32
  let main_v10 : FVec F S32x512x16x64 .f32 := broadcastInDim S32x512x16x64 ![] bcast_S_S32x512x16x64 main_cst_2
  let main_v11 : IVec S32x512x16x64 1 := cmpf .olt main_v9 main_v10
  (main_v2, main_v5, main_v8, main_v11)
-- ==== Pre_finite_scores.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x4x64 : Shape := ⟨3, ![1, 4, 64]⟩
abbrev S1x128 : Shape := ⟨2, ![1, 128]⟩
abbrev S32x32x8x2x64 : Shape := ⟨5, ![32, 32, 8, 2, 64]⟩
abbrev S32x32x8x128 : Shape := ⟨4, ![32, 32, 8, 128]⟩
abbrev S1x32x1024x8x128 : Shape := ⟨5, ![1, 32, 1024, 8, 128]⟩
abbrev S_ : Shape := ⟨0, ![]⟩

class Facts : Prop where
  bcast_S_S32x32x8x2x64 : S_.BroadcastsInDim S32x32x8x2x64 (![] : Fin 0 → Fin S32x32x8x2x64.rank)
  bcast_S_S1x32x1024x8x128 : S_.BroadcastsInDim S1x32x1024x8x128 (![] : Fin 0 → Fin S1x32x1024x8x128.rank)

variable [Facts]

def fn {F : FTy → Type} [FloatOps F] (main_arg0 : FVec F S8x2048x1024 .f32) (main_arg1 : FVec F S8x2048x1024 .f32) (main_arg2 : FVec F S1x1024x1024 .f32) (main_arg3 : FVec F S2x1024 .f32) (main_arg4 : FVec F S2x1024x4096 .f32) (main_arg5 : FVec F S2x4096x1024 .f32) (main_arg6 : FVec F S1x4x64 .f32) (main_arg7 : FVec F S1x128 .f32) (main_arg8 : FVec F S32x32x8x2x64 .f32) (main_arg9 : FVec F S32x32x8x2x64 .f32) (main_arg10 : FVec F S32x32x8x128 .f32) (main_arg11 : FVec F S1x32x1024x8x128 .f32) (main_arg12 : FVec F S1x32x1024x8x128 .f32) : IVec S32x32x8x2x64 1 × IVec S32x32x8x2x64 1 × IVec S1x32x1024x8x128 1 :=
  let main_v0 : FVec F S32x32x8x2x64 .f32 := Host.absf main_arg8
  let main_cst : FVec F S_ .f32 := constant S_ .f32 0x7F800000#32
  let main_v1 : FVec F S32x32x8x2x64 .f32 := broadcastInDim S32x32x8x2x64 ![] bcast_S_S32x32x8x2x64 main_cst
  let main_v2 : IVec S32x32x8x2x64 1 := cmpf .olt main_v0 main_v1
  let main_v3 : FVec F S32x32x8x2x64 .f32 := Host.absf main_arg9
  let main_cst_0 : FVec F S_ .f32 := constant S_ .f32 0x7F800000#32
  let main_v4 : FVec F S32x32x8x2x64 .f32 := broadcastInDim S32x32x8x2x64 ![] bcast_S_S32x32x8x2x64 main_cst_0
  let main_v5 : IVec S32x32x8x2x64 1 := cmpf .olt main_v3 main_v4
  let main_v6 : FVec F S1x32x1024x8x128 .f32 := Host.absf main_arg11
  let main_cst_1 : FVec F S_ .f32 := constant S_ .f32 0x7F800000#32
  let main_v7 : FVec F S1x32x1024x8x128 .f32 := broadcastInDim S1x32x1024x8x128 ![] bcast_S_S1x32x1024x8x128 main_cst_1
  let main_v8 : IVec S1x32x1024x8x128 1 := cmpf .olt main_v6 main_v7
  (main_v2, main_v5, main_v8)
-- ==== Kernel.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x4x64 : Shape := ⟨3, ![1, 4, 64]⟩
abbrev S1x128 : Shape := ⟨2, ![1, 128]⟩
abbrev S32x32x8x2x64 : Shape := ⟨5, ![32, 32, 8, 2, 64]⟩
abbrev S32x32x8x128 : Shape := ⟨4, ![32, 32, 8, 128]⟩
abbrev S1x32x1024x8x128 : Shape := ⟨5, ![1, 32, 1024, 8, 128]⟩
abbrev S1024x1024 : Shape := ⟨2, ![1024, 1024]⟩
abbrev S1x1024 : Shape := ⟨2, ![1, 1024]⟩
abbrev S1024 : Shape := ⟨1, ![1024]⟩
abbrev S4x64 : Shape := ⟨2, ![4, 64]⟩
abbrev S128 : Shape := ⟨1, ![128]⟩
abbrev S32x8192x128 : Shape := ⟨3, ![32, 8192, 128]⟩
abbrev S16384x1024 : Shape := ⟨2, ![16384, 1024]⟩
abbrev S32x32x1024 : Shape := ⟨3, ![32, 32, 1024]⟩
abbrev S_ : Shape := ⟨0, ![]⟩
abbrev S512x1024 : Shape := ⟨2, ![512, 1024]⟩
abbrev S1x1024x4096 : Shape := ⟨3, ![1, 1024, 4096]⟩
abbrev S1x4096x1024 : Shape := ⟨3, ![1, 4096, 1024]⟩
abbrev S1x32x1024 : Shape := ⟨3, ![1, 32, 1024]⟩
abbrev S1x8192x128 : Shape := ⟨3, ![1, 8192, 128]⟩
abbrev S1x64 : Shape := ⟨2, ![1, 64]⟩
abbrev S1 : Shape := ⟨1, ![1]⟩
abbrev S1x1 : Shape := ⟨2, ![1, 1]⟩
abbrev S32x128 : Shape := ⟨2, ![32, 128]⟩
abbrev S1x32x128 : Shape := ⟨3, ![1, 32, 128]⟩
abbrev S64x128 : Shape := ⟨2, ![64, 128]⟩
abbrev S1x1024x128 : Shape := ⟨3, ![1, 1024, 128]⟩
abbrev S1024x128 : Shape := ⟨2, ![1024, 128]⟩
abbrev S64x1024 : Shape := ⟨2, ![64, 1024]⟩
abbrev S64x32 : Shape := ⟨2, ![64, 32]⟩
abbrev S64 : Shape := ⟨1, ![64]⟩
abbrev S64x1 : Shape := ⟨2, ![64, 1]⟩
abbrev S32x1024 : Shape := ⟨2, ![32, 1024]⟩
abbrev S32x32 : Shape := ⟨2, ![32, 32]⟩
abbrev S512 : Shape := ⟨1, ![512]⟩
abbrev S512x1 : Shape := ⟨2, ![512, 1]⟩
abbrev S32 : Shape := ⟨1, ![32]⟩
abbrev S32x1 : Shape := ⟨2, ![32, 1]⟩

abbrev nBuf : Space → Nat
  | .hbm => 42
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1x4x64, .f32⟩
  | .hbm, ⟨7, _⟩ => ⟨S1x128, .f32⟩
  | .hbm, ⟨8, _⟩ => ⟨S32x32x8x2x64, .f32⟩
  | .hbm, ⟨9, _⟩ => ⟨S32x32x8x2x64, .f32⟩
  | .hbm, ⟨10, _⟩ => ⟨S32x32x8x128, .f32⟩
  | .hbm, ⟨11, _⟩ => ⟨S1x32x1024x8x128, .f32⟩
  | .hbm, ⟨12, _⟩ => ⟨S1x32x1024x8x128, .f32⟩
  | .hbm, ⟨13, _⟩ => ⟨S1024x1024, .f32⟩
  | .hbm, ⟨14, _⟩ => ⟨S1024x1024, .bf16⟩
  | .hbm, ⟨15, _⟩ => ⟨S2x1024x4096, .bf16⟩
  | .hbm, ⟨16, _⟩ => ⟨S2x4096x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S4x64, .f32⟩
  | .hbm, ⟨21, _⟩ => ⟨S128, .f32⟩
  | .hbm, ⟨22, _⟩ => ⟨S1x128, .f32⟩
  | .hbm, ⟨23, _⟩ => ⟨S32x8192x128, .f32⟩
  | .hbm, ⟨24, _⟩ => ⟨S32x8192x128, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S32x32x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x32x1024, .f32⟩
  | .hbm, ⟨34, _⟩ => ⟨S32x32x1024, .f32⟩
  | .hbm, ⟨35, _⟩ => ⟨S32x32x1024, .bf16⟩
  | .hbm, ⟨36, _⟩ => ⟨S32x32x1024, .f32⟩
  | .hbm, ⟨37, _⟩ => ⟨S32x32x1024, .bf16⟩
  | .hbm, ⟨38, _⟩ => ⟨S32x32x1024, .f32⟩
  | .hbm, ⟨39, _⟩ => ⟨S32x32x1024, .bf16⟩
  | .hbm, ⟨40, _⟩ => ⟨S16384x1024, .f32⟩
  | .hbm, ⟨41, _⟩ => ⟨S32x32x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S4x64, .f32⟩
  | .local _ .vmem, ⟨9, _⟩ => ⟨S1x128, .f32⟩
  | .local _ .vmem, ⟨10, _⟩ => ⟨S1x32x1024, .bf16⟩
  | .local _ .vmem, ⟨11, _⟩ => ⟨S1x32x1024, .bf16⟩
  | .local _ .vmem, ⟨12, _⟩ => ⟨S1x32x1024, .bf16⟩
  | .local _ .vmem, ⟨13, _⟩ => ⟨S1x32x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S1x8192x128, .f32⟩
  | .local _ .vmem, ⟨17, _⟩ => ⟨S1x8192x128, .f32⟩
  | .local _ .vmem, ⟨18, _⟩ => ⟨S1x8192x128, .f32⟩
  | .local _ .vmem, ⟨19, _⟩ => ⟨S1x8192x128, .f32⟩
  | .local _ .vmem, ⟨20, _⟩ => ⟨S512x1024, .f32⟩
  | .local _ .vmem, ⟨21, _⟩ => ⟨S512x1024, .f32⟩
  | .local _ .vmem, ⟨22, _⟩ => ⟨S1x32x1024, .bf16⟩
  | .local _ .vmem, ⟨23, _⟩ => ⟨S1x32x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8192x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8192x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x4x64 : Shape := ⟨3, ![1, 4, 64]⟩
abbrev S1x128 : Shape := ⟨2, ![1, 128]⟩
abbrev S32x32x8x2x64 : Shape := ⟨5, ![32, 32, 8, 2, 64]⟩
abbrev S32x32x8x128 : Shape := ⟨4, ![32, 32, 8, 128]⟩
abbrev S1x32x1024x8x128 : Shape := ⟨5, ![1, 32, 1024, 8, 128]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩
abbrev S16384x1024 : Shape := ⟨2, ![16384, 1024]⟩
abbrev S4x64 : Shape := ⟨2, ![4, 64]⟩
abbrev S1x64 : Shape := ⟨2, ![1, 64]⟩
abbrev S64 : Shape := ⟨1, ![64]⟩
abbrev S32x1024x8x128 : Shape := ⟨4, ![32, 1024, 8, 128]⟩
abbrev S32x1024x8x2x64 : Shape := ⟨5, ![32, 1024, 8, 2, 64]⟩
abbrev S32x1056x8x2x64 : Shape := ⟨5, ![32, 1056, 8, 2, 64]⟩
abbrev S32x1056x8x128 : Shape := ⟨4, ![32, 1056, 8, 128]⟩
abbrev S32x8x2x32x1056 : Shape := ⟨5, ![32, 8, 2, 32, 1056]⟩
abbrev S32x8x2x32 : Shape := ⟨4, ![32, 8, 2, 32]⟩
abbrev S32x8x2x32x1 : Shape := ⟨5, ![32, 8, 2, 32, 1]⟩
abbrev S32x8x1x32x1056 : Shape := ⟨5, ![32, 8, 1, 32, 1056]⟩
abbrev S32x8x32x1056 : Shape := ⟨4, ![32, 8, 32, 1056]⟩
abbrev S32x8x128x32 : Shape := ⟨4, ![32, 8, 128, 32]⟩
abbrev S128 : Shape := ⟨1, ![128]⟩
abbrev S32x32x8 : Shape := ⟨3, ![32, 32, 8]⟩
abbrev S32x32x8x1 : Shape := ⟨4, ![32, 32, 8, 1]⟩
abbrev S1x1x1x128 : Shape := ⟨4, ![1, 1, 1, 128]⟩
abbrev S32x32x1024 : Shape := ⟨3, ![32, 32, 1024]⟩

abbrev nBuf : Space → Nat
  | .hbm => 120
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1x4x64, .f32⟩
  | .hbm, ⟨7, _⟩ => ⟨S1x128, .f32⟩
  | .hbm, ⟨8, _⟩ => ⟨S32x32x8x2x64, .f32⟩
  | .hbm, ⟨9, _⟩ => ⟨S32x32x8x2x64, .f32⟩
  | .hbm, ⟨10, _⟩ => ⟨S32x32x8x128, .f32⟩
  | .hbm, ⟨11, _⟩ => ⟨S1x32x1024x8x128, .f32⟩
  | .hbm, ⟨12, _⟩ => ⟨S1x32x1024x8x128, .f32⟩
  | .hbm, ⟨13, _⟩ => ⟨S1024x1024, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S1x1024x4096, .f32⟩
  | .hbm, ⟨35, _⟩ => ⟨S1024x4096, .f32⟩
  | .hbm, ⟨36, _⟩ => ⟨S1x4096x1024, .f32⟩
  | .hbm, ⟨37, _⟩ => ⟨S4096x1024, .f32⟩
  | .hbm, ⟨38, _⟩ => ⟨S8x2048x4096, .f32⟩
  | .hbm, ⟨39, _⟩ => ⟨S_, .f32⟩
  | .hbm, ⟨40, _⟩ => ⟨S8x2048x4096, .f32⟩
  | .hbm, ⟨41, _⟩ => ⟨S8x2048x4096, .f32⟩
  | .hbm, ⟨42, _⟩ => ⟨S8x2048x4096, .f32⟩
  | .hbm, ⟨43, _⟩ => ⟨S8x2048x1024, .f32⟩
  | .hbm, ⟨44, _⟩ => ⟨S8x2048x1024, .f32⟩
  | .hbm, ⟨45, _⟩ => ⟨S16384x1024, .f32⟩
  | .hbm, ⟨46, _⟩ => ⟨S4x64, .f32⟩
  | .hbm, ⟨47, _⟩ => ⟨S1x64, .f32⟩
  | .hbm, ⟨48, _⟩ => ⟨S64, .f32⟩
  | .hbm, ⟨49, _⟩ => ⟨S1x64, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S64, .f32⟩
  | .hbm, ⟨59, _⟩ => ⟨S64, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S32x1024x8x128, .f32⟩
  | .hbm, ⟨67, _⟩ => ⟨S32x1024x8x2x64, .f32⟩
  | .hbm, ⟨68, _⟩ => ⟨S32x1056x8x2x64, .f32⟩
  | .hbm, ⟨69, _⟩ => ⟨S32x1024x8x128, .f32⟩
  | .hbm, ⟨70, _⟩ => ⟨S32x1056x8x128, .f32⟩
  | .hbm, ⟨71, _⟩ => ⟨S32x8x2x32x1056, .f32⟩
  | .hbm, ⟨72, _⟩ => ⟨S_, .f32⟩
  | .hbm, ⟨73, _⟩ => ⟨S32x8x2x32x1056, .f32⟩
  | .hbm, ⟨74, _⟩ => ⟨S32x8x2x32x1056, .f32⟩
  | .hbm, ⟨75, _⟩ => ⟨S_, .f32⟩
  | .hbm, ⟨76, _⟩ => ⟨S32x8x2x32, .f32⟩
  | .hbm, ⟨77, _⟩ => ⟨S_, .f32⟩
  | .hbm, ⟨78, _⟩ => ⟨S32x8x2x32, .f32⟩
  | .hbm, ⟨79, _⟩ => ⟨S32x8x2x32, .f32⟩
  | .hbm, ⟨80, _⟩ => ⟨S32x8x2x32x1, .f32⟩
  | .hbm, ⟨81, _⟩ => ⟨S32x8x2x32x1056, .f32⟩
  | .hbm, ⟨82, _⟩ => ⟨S32x8x2x32x1056, .f32⟩
  | .hbm, ⟨83, _⟩ => ⟨S32x8x2x32x1056, .f32⟩
  | .hbm, ⟨84, _⟩ => ⟨S_, .f32⟩
  | .hbm, ⟨85, _⟩ => ⟨S32x8x2x32, .f32⟩
  | .hbm, ⟨86, _⟩ => ⟨S32x8x2x32x1, .f32⟩
  | .hbm, ⟨87, _⟩ => ⟨S32x8x2x32x1056, .f32⟩
  | .hbm, ⟨88, _⟩ => ⟨S32x8x2x32x1056, .f32⟩
  | .hbm, ⟨89, _⟩ => ⟨S32x8x1x32x1056, .f32⟩
  | .hbm, ⟨90, _⟩ => ⟨S32x8x32x1056, .f32⟩
  | .hbm, ⟨91, _⟩ => ⟨S32x8x1x32x1056, .f32⟩
  | .hbm, ⟨92, _⟩ => ⟨S32x8x32x1056, .f32⟩
  | .hbm, ⟨93, _⟩ => ⟨S32x8x32x1056, .f32⟩
  | .hbm, ⟨94, _⟩ => ⟨S32x8x32x1056, .f32⟩
  | .hbm, ⟨95, _⟩ => ⟨S32x8x32x1056, .f32⟩
  | .hbm, ⟨96, _⟩ => ⟨S32x8x128x32, .f32⟩
  | .hbm, ⟨97, _⟩ => ⟨S32x32x8x128, .f32⟩
  | .hbm, ⟨98, _⟩ => ⟨S128, .f32⟩
  | .hbm, ⟨99, _⟩ => ⟨S32x32x8x128, .f32⟩
  | .hbm, ⟨100, _⟩ => ⟨S_, .f32⟩
  | .hbm, ⟨101, _⟩ => ⟨S32x32x8, .f32⟩
  | .hbm, ⟨102, _⟩ => ⟨S32x32x8x1, .f32⟩
  | .hbm, ⟨103, _⟩ => ⟨S_, .f32⟩
  | .hbm, ⟨104, _⟩ => ⟨S32x32x8x1, .f32⟩
  | .hbm, ⟨105, _⟩ => ⟨S32x32x8x1, .f32⟩
  | .hbm, ⟨106, _⟩ => ⟨S_, .f32⟩
  | .hbm, ⟨107, _⟩ => ⟨S32x32x8x1, .f32⟩
  | .hbm, ⟨108, _⟩ => ⟨S32x32x8x1, .f32⟩
  | .hbm, ⟨109, _⟩ => ⟨S32x32x8x1, .f32⟩
  | .hbm, ⟨110, _⟩ => ⟨S32x32x8x128, .f32⟩
  | .hbm, ⟨111, _⟩ => ⟨S32x32x8x128, .f32⟩
  | .hbm, ⟨112, _⟩ => ⟨S1x1x1x128, .f32⟩
  | .hbm, ⟨113, _⟩ => ⟨S32x32x8x128, .f32⟩
  | .hbm, ⟨114, _⟩ => ⟨S32x32x8x128, .f32⟩
  | .hbm, ⟨115, _⟩ => ⟨S_, .f32⟩
  | .hbm, ⟨116, _⟩ => ⟨S32x32x8x128, .f32⟩
  | .hbm, ⟨117, _⟩ => ⟨S32x32x8x128, .f32⟩
  | .hbm, ⟨118, _⟩ => ⟨S32x32x1024, .f32⟩
  | .hbm, ⟨119, _⟩ => ⟨S32x32x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_5 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_cst_7 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_8 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_9 : Ref sig .tc := ⟨.hbm, 100, rfl⟩
abbrev main_v75 : Ref sig .tc := ⟨.hbm, 101, rfl⟩
abbrev main_v76 : Ref sig .tc := ⟨.hbm, 102, rfl⟩
abbrev main_cst_10 : Ref sig .tc := ⟨.hbm, 103, rfl⟩
abbrev main_v77 : Ref sig .tc := ⟨.hbm, 104, rfl⟩
abbrev main_v78 : Ref sig .tc := ⟨.hbm, 105, rfl⟩
abbrev main_cst_11 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_12 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== Kernel2.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x16x257 : Shape := ⟨3, ![1, 16, 257]⟩
abbrev S32x32x16x64 : Shape := ⟨4, ![32, 32, 16, 64]⟩
abbrev S32x512x16x64 : Shape := ⟨4, ![32, 512, 16, 64]⟩
abbrev S1024x1024 : Shape := ⟨2, ![1024, 1024]⟩
abbrev S1x1024 : Shape := ⟨2, ![1, 1024]⟩
abbrev S16x257 : Shape := ⟨2, ![16, 257]⟩
abbrev S16x256 : Shape := ⟨2, ![16, 256]⟩
abbrev S16x1 : Shape := ⟨2, ![16, 1]⟩
abbrev S16x512 : Shape := ⟨2, ![16, 512]⟩
abbrev S16x768 : Shape := ⟨2, ![16, 768]⟩
abbrev S8x2x768 : Shape := ⟨3, ![8, 2, 768]⟩
abbrev S32x512x1024 : Shape := ⟨3, ![32, 512, 1024]⟩
abbrev S16384x1024 : Shape := ⟨2, ![16384, 1024]⟩
abbrev S32x32x1024 : Shape := ⟨3, ![32, 32, 1024]⟩
abbrev S_ : Shape := ⟨0, ![]⟩
abbrev S512x1024 : Shape := ⟨2, ![512, 1024]⟩
abbrev S1x1024x4096 : Shape := ⟨3, ![1, 1024, 4096]⟩
abbrev S1x4096x1024 : Shape := ⟨3, ![1, 4096, 1024]⟩
abbrev S1x32x1024 : Shape := ⟨3, ![1, 32, 1024]⟩
abbrev S1x512x1024 : Shape := ⟨3, ![1, 512, 1024]⟩
abbrev S32x128 : Shape := ⟨2, ![32, 128]⟩
abbrev S1x32x128 : Shape := ⟨3, ![1, 32, 128]⟩
abbrev S64x128 : Shape := ⟨2, ![64, 128]⟩
abbrev S1x1x768 : Shape := ⟨3, ![1, 1, 768]⟩
abbrev S1x768 : Shape := ⟨2, ![1, 768]⟩
abbrev S32x768 : Shape := ⟨2, ![32, 768]⟩
abbrev S32x256 : Shape := ⟨2, ![32, 256]⟩
abbrev S32x1024 : Shape := ⟨2, ![32, 1024]⟩
abbrev S64x1024 : Shape := ⟨2, ![64, 1024]⟩
abbrev S1x512x128 : Shape := ⟨3, ![1, 512, 128]⟩
abbrev S512x128 : Shape := ⟨2, ![512, 128]⟩
abbrev S64x512 : Shape := ⟨2, ![64, 512]⟩
abbrev S64x32 : Shape := ⟨2, ![64, 32]⟩
abbrev S64 : Shape := ⟨1, ![64]⟩
abbrev S64x1 : Shape := ⟨2, ![64, 1]⟩
abbrev S512 : Shape := ⟨1, ![512]⟩
abbrev S512x1 : Shape := ⟨2, ![512, 1]⟩

abbrev nBuf : Space → Nat
  | .hbm => 47
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1x16x257, .f32⟩
  | .hbm, ⟨8, _⟩ => ⟨S32x32x16x64, .f32⟩
  | .hbm, ⟨9, _⟩ => ⟨S32x32x16x64, .f32⟩
  | .hbm, ⟨10, _⟩ => ⟨S32x32x16x64, .f32⟩
  | .hbm, ⟨11, _⟩ => ⟨S32x512x16x64, .f32⟩
  | .hbm, ⟨12, _⟩ => ⟨S32x512x16x64, .f32⟩
  | .hbm, ⟨13, _⟩ => ⟨S1024x1024, .f32⟩
  | .hbm, ⟨14, _⟩ => ⟨S1024x1024, .bf16⟩
  | .hbm, ⟨15, _⟩ => ⟨S2x1024x4096, .bf16⟩
  | .hbm, ⟨16, _⟩ => ⟨S2x4096x1024, .bf16⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S16x257, .f32⟩
  | .hbm, ⟨22, _⟩ => ⟨S16x256, .f32⟩
  | .hbm, ⟨23, _⟩ => ⟨S16x256, .f32⟩
  | .hbm, ⟨24, _⟩ => ⟨S16x1, .f32⟩
  | .hbm, ⟨25, _⟩ => ⟨S16x512, .f32⟩
  | .hbm, ⟨26, _⟩ => ⟨S16x768, .f32⟩
  | .hbm, ⟨27, _⟩ => ⟨S8x2x768, .f32⟩
  | .hbm, ⟨28, _⟩ => ⟨S32x512x1024, .f32⟩
  | .hbm, ⟨29, _⟩ => ⟨S32x512x1024, .f32⟩
  | .hbm, ⟨30, _⟩ => ⟨S16384x1024, .f32⟩
  | .hbm, ⟨31, _⟩ => ⟨S16384x1024, .f32⟩
  | .hbm, ⟨32, _⟩ => ⟨S16384x1024, .bf16⟩
  | .hbm, ⟨33, _⟩ => ⟨S32x32x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S32x32x1024, .f32⟩
  | .hbm, ⟨39, _⟩ => ⟨S32x32x1024, .f32⟩
  | .hbm, ⟨40, _⟩ => ⟨S32x32x1024, .bf16⟩
  | .hbm, ⟨41, _⟩ => ⟨S32x32x1024, .f32⟩
  | .hbm, ⟨42, _⟩ => ⟨S32x32x1024, .bf16⟩
  | .hbm, ⟨43, _⟩ => ⟨S32x32x1024, .f32⟩
  | .hbm, ⟨44, _⟩ => ⟨S32x32x1024, .bf16⟩
  | .hbm, ⟨45, _⟩ => ⟨S16384x1024, .f32⟩
  | .hbm, ⟨46, _⟩ => ⟨S32x32x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S8x2x768, .f32⟩
  | .local _ .vmem, ⟨10, _⟩ => ⟨S1x32x1024, .bf16⟩
  | .local _ .vmem, ⟨11, _⟩ => ⟨S1x32x1024, .bf16⟩
  | .local _ .vmem, ⟨12, _⟩ => ⟨S1x32x1024, .bf16⟩
  | .local _ .vmem, ⟨13, _⟩ => ⟨S1x32x1024, .bf16⟩
  | .local _ .vmem, ⟨14, _⟩ => ⟨S1x32x1024, .bf16⟩
  | .local _ .vmem, ⟨15, _⟩ => ⟨S1x32x1024, .bf16⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S512x1024, .f32⟩
  | .local _ .vmem, ⟨21, _⟩ => ⟨S512x1024, .f32⟩
  | .local _ .vmem, ⟨22, _⟩ => ⟨S1x32x1024, .bf16⟩
  | .local _ .vmem, ⟨23, _⟩ => ⟨S1x32x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Kernel2Ideal.lean ====
variable {F : FTy → Type} [FloatOps F] [Named F]
def κ : String → Option EReal := fun
  | "log2e" => some (((Real.log 2)⁻¹ : ℝ) : EReal)
  | _ => none
-- ==== Reference2Ideal.lean ====
abbrev S8x2048x1024 : Shape := ⟨3, ![8, 2048, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x16x257 : Shape := ⟨3, ![1, 16, 257]⟩
abbrev S32x32x16x64 : Shape := ⟨4, ![32, 32, 16, 64]⟩
abbrev S32x512x16x64 : Shape := ⟨4, ![32, 512, 16, 64]⟩
abbrev S1024x1024 : Shape := ⟨2, ![1024, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x2048x4096 : Shape := ⟨3, ![8, 2048, 4096]⟩
abbrev S16x257 : Shape := ⟨2, ![16, 257]⟩
abbrev S32x544x16x64 : Shape := ⟨4, ![32, 544, 16, 64]⟩
abbrev S32 : Shape := ⟨1, ![32]⟩
abbrev S544 : Shape := ⟨1, ![544]⟩
abbrev S32x1 : Shape := ⟨2, ![32, 1]⟩
abbrev S1x544 : Shape := ⟨2, ![1, 544]⟩
abbrev S32x544 : Shape := ⟨2, ![32, 544]⟩
abbrev S32x544x1 : Shape := ⟨3, ![32, 544, 1]⟩
abbrev S16x32x544 : Shape := ⟨3, ![16, 32, 544]⟩
abbrev S1x16x32x544 : Shape := ⟨4, ![1, 16, 32, 544]⟩
abbrev S32x16x32x544 : Shape := ⟨4, ![32, 16, 32, 544]⟩
abbrev S32x16x32 : Shape := ⟨3, ![32, 16, 32]⟩
abbrev S32x16x32x1 : Shape := ⟨4, ![32, 16, 32, 1]⟩
abbrev S32x16x64x32 : Shape := ⟨4, ![32, 16, 64, 32]⟩
abbrev S32x32x1024 : Shape := ⟨3, ![32, 32, 1024]⟩
abbrev S16384x1024 : Shape := ⟨2, ![16384, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1x16x257, .f32⟩
  | .hbm, ⟨8, _⟩ => ⟨S32x32x16x64, .f32⟩
  | .hbm, ⟨9, _⟩ => ⟨S32x32x16x64, .f32⟩
  | .hbm, ⟨10, _⟩ => ⟨S32x32x16x64, .f32⟩
  | .hbm, ⟨11, _⟩ => ⟨S32x512x16x64, .f32⟩
  | .hbm, ⟨12, _⟩ => ⟨S32x512x16x64, .f32⟩
  | .hbm, ⟨13, _⟩ => ⟨S1024x1024, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S1x1024x4096, .f32⟩
  | .hbm, ⟨35, _⟩ => ⟨S1024x4096, .f32⟩
  | .hbm, ⟨36, _⟩ => ⟨S1x4096x1024, .f32⟩
  | .hbm, ⟨37, _⟩ => ⟨S4096x1024, .f32⟩
  | .hbm, ⟨38, _⟩ => ⟨S8x2048x4096, .f32⟩
  | .hbm, ⟨39, _⟩ => ⟨S_, .f32⟩
  | .hbm, ⟨40, _⟩ => ⟨S8x2048x4096, .f32⟩
  | .hbm, ⟨41, _⟩ => ⟨S8x2048x4096, .f32⟩
  | .hbm, ⟨42, _⟩ => ⟨S8x2048x4096, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S16x257, .f32⟩
  | .hbm, ⟨62, _⟩ => ⟨S32x544x16x64, .f32⟩
  | .hbm, ⟨63, _⟩ => ⟨S32x544x16x64, .f32⟩
  | .hbm, ⟨64, _⟩ => ⟨S32, .i32⟩
  | .hbm, ⟨65, _⟩ => ⟨S_, .i32⟩
  | .hbm, ⟨66, _⟩ => ⟨S32, .i32⟩
  | .hbm, ⟨67, _⟩ => ⟨S32, .i32⟩
  | .hbm, ⟨68, _⟩ => ⟨S544, .i32⟩
  | .hbm, ⟨69, _⟩ => ⟨S_, .i32⟩
  | .hbm, ⟨70, _⟩ => ⟨S544, .i32⟩
  | .hbm, ⟨71, _⟩ => ⟨S544, .i32⟩
  | .hbm, ⟨72, _⟩ => ⟨S32x1, .i32⟩
  | .hbm, ⟨73, _⟩ => ⟨S1x544, .i32⟩
  | .hbm, ⟨74, _⟩ => ⟨S32x544, .i32⟩
  | .hbm, ⟨75, _⟩ => ⟨S32x544, .i32⟩
  | .hbm, ⟨76, _⟩ => ⟨S32x544, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S32x544, .i32⟩
  | .hbm, ⟨81, _⟩ => ⟨S32x544, .i32⟩
  | .hbm, ⟨82, _⟩ => ⟨S_, .i32⟩
  | .hbm, ⟨83, _⟩ => ⟨S32x544, .i32⟩
  | .hbm, ⟨84, _⟩ => ⟨S32x544, .i32⟩
  | .hbm, ⟨85, _⟩ => ⟨S_, .i32⟩
  | .hbm, ⟨86, _⟩ => ⟨S32x544, .i32⟩
  | .hbm, ⟨87, _⟩ => ⟨S32x544, .i32⟩
  | .hbm, ⟨88, _⟩ => ⟨S_, .i32⟩
  | .hbm, ⟨89, _⟩ => ⟨S32x544, .i32⟩
  | .hbm, ⟨90, _⟩ => ⟨S32x544, .i1⟩
  | .hbm, ⟨91, _⟩ => ⟨S_, .i32⟩
  | .hbm, ⟨92, _⟩ => ⟨S32x544, .i32⟩
  | .hbm, ⟨93, _⟩ => ⟨S32x544, .i32⟩
  | .hbm, ⟨94, _⟩ => ⟨S32x544, .i32⟩
  | .hbm, ⟨95, _⟩ => ⟨S32x544x1, .i32⟩
  | .hbm, ⟨96, _⟩ => ⟨S16x32x544, .f32⟩
  | .hbm, ⟨97, _⟩ => ⟨S1x16x32x544, .f32⟩
  | .hbm, ⟨98, _⟩ => ⟨S32x16x32x544, .f32⟩
  | .hbm, ⟨99, _⟩ => ⟨S_, .f32⟩
  | .hbm, ⟨100, _⟩ => ⟨S32x16x32x544, .f32⟩
  | .hbm, ⟨101, _⟩ => ⟨S32x16x32x544, .f32⟩
  | .hbm, ⟨102, _⟩ => ⟨S32x16x32x544, .f32⟩
  | .hbm, ⟨103, _⟩ => ⟨S32x16x32x544, .f32⟩
  | .hbm, ⟨104, _⟩ => ⟨S_, .f32⟩
  | .hbm, ⟨105, _⟩ => ⟨S32x16x32, .f32⟩
  | .hbm, ⟨106, _⟩ => ⟨S_, .f32⟩
  | .hbm, ⟨107, _⟩ => ⟨S32x16x32, .f32⟩
  | .hbm, ⟨108, _⟩ => ⟨S32x16x32, .f32⟩
  | .hbm, ⟨109, _⟩ => ⟨S32x16x32x1, .f32⟩
  | .hbm, ⟨110, _⟩ => ⟨S32x16x32x544, .f32⟩
  | .hbm, ⟨111, _⟩ => ⟨S32x16x32x544, .f32⟩
  | .hbm, ⟨112, _⟩ => ⟨S32x16x32x544, .f32⟩
  | .hbm, ⟨113, _⟩ => ⟨S_, .f32⟩
  | .hbm, ⟨114, _⟩ => ⟨S32x16x32, .f32⟩
  | .hbm, ⟨115, _⟩ => ⟨S32x16x32x1, .f32⟩
  | .hbm, ⟨116, _⟩ => ⟨S32x16x32x544, .f32⟩
  | .hbm, ⟨117, _⟩ => ⟨S32x16x32x544, .f32⟩
  | .hbm, ⟨118, _⟩ => ⟨S32x16x64x32, .f32⟩
  | .hbm, ⟨119, _⟩ => ⟨S32x32x16x64, .f32⟩
  | .hbm, ⟨120, _⟩ => ⟨S32x32x1024, .f32⟩
  | .hbm, ⟨121, _⟩ => ⟨S16384x1024, .f32⟩
  | .hbm, ⟨122, _⟩ => ⟨S32x32x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_5 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_6 : Ref sig .tc := ⟨.hbm, 77, rfl⟩
abbrev main_c_7 : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v54 : Ref sig .tc := ⟨.hbm, 84, rfl⟩
abbrev main_c_8 : Ref sig .tc := ⟨.hbm, 85, rfl⟩
abbrev main_v55 : Ref sig .tc := ⟨.hbm, 86, rfl⟩
abbrev main_v56 : Ref sig .tc := ⟨.hbm, 87, rfl⟩
abbrev main_c_9 : Ref sig .tc := ⟨.hbm, 88, rfl⟩
abbrev main_v57 : Ref sig .tc := ⟨.hbm, 89, rfl⟩
abbrev main_v58 : Ref sig .tc := ⟨.hbm, 90, rfl⟩
abbrev main_c_10 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_12 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩

abbrev nD : Nat := 1
abbrev τ : Topo := Topo.v7x

variable {F : FTy → Type} [FloatOps F]
-- ==== Kernel3.lean ====
abbrev S32x32x1024 : Shape := ⟨3, ![32, 32, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S1x1024x4096 : Shape := ⟨3, ![1, 1024, 4096]⟩
abbrev S1x4096x1024 : Shape := ⟨3, ![1, 4096, 1024]⟩
abbrev S512 : Shape := ⟨1, ![512]⟩
abbrev S512x1 : Shape := ⟨2, ![512, 1]⟩

abbrev nBuf : Space → Nat
  | .hbm => 19
  | .vmem => 11
  | .smem => 0
  | _ => 0

abbrev bufTy : (tb : Table) → Fin (tcTables nBuf tb) → BufTy
  | .hbm, ⟨0, _⟩ => ⟨S32x32x1024, .f32⟩
  | .hbm, ⟨1, _⟩ => ⟨S32x32x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S2x1024x4096, .bf16⟩
  | .hbm, ⟨10, _⟩ => ⟨S2x4096x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024x1024, .f32⟩
  | .hbm, ⟨16, _⟩ => ⟨S1024x1024, .f32⟩
  | .hbm, ⟨17, _⟩ => ⟨S1024x1024, .bf16⟩
  | .hbm, ⟨18, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024x4096, .bf16⟩
  | .local _ .vmem, ⟨7, _⟩ => ⟨S1x4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32x32x1024 : Shape := ⟨3, ![32, 32, 1024]⟩
abbrev S1x1024x1024 : Shape := ⟨3, ![1, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S32x32 : Shape := ⟨2, ![32, 32]⟩
abbrev S32x32x1 : Shape := ⟨3, ![32, 32, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S32x32x4096 : Shape := ⟨3, ![32, 32, 4096]⟩

abbrev nBuf : Space → Nat
  | .hbm => 56
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S32x32x1024, .f32⟩
  | .hbm, ⟨2, _⟩ => ⟨S1x1024x1024, .f32⟩
  | .hbm, ⟨3, _⟩ => ⟨S2x1024, .f32⟩
  | .hbm, ⟨4, _⟩ => ⟨S2x1024x4096, .f32⟩
  | .hbm, ⟨5, _⟩ => ⟨S2x4096x1024, .f32⟩
  | .hbm, ⟨6, _⟩ => ⟨S1024, .f32⟩
  | .hbm, ⟨7, _⟩ => ⟨S1024x1024, .f32⟩
  | .hbm, ⟨8, _⟩ => ⟨S32x32x1024, .f32⟩
  | .hbm, ⟨9, _⟩ => ⟨S32x32x1024, .f32⟩
  | .hbm, ⟨10, _⟩ => ⟨S1x1024, .f32⟩
  | .hbm, ⟨11, _⟩ => ⟨S1024, .f32⟩
  | .hbm, ⟨12, _⟩ => ⟨S32x32x1024, .f32⟩
  | .hbm, ⟨13, _⟩ => ⟨S_, .f32⟩
  | .hbm, ⟨14, _⟩ => ⟨S32x32, .f32⟩
  | .hbm, ⟨15, _⟩ => ⟨S32x32x1, .f32⟩
  | .hbm, ⟨16, _⟩ => ⟨S_, .f32⟩
  | .hbm, ⟨17, _⟩ => ⟨S32x32x1, .f32⟩
  | .hbm, ⟨18, _⟩ => ⟨S32x32x1, .f32⟩
  | .hbm, ⟨19, _⟩ => ⟨S_, .f32⟩
  | .hbm, ⟨20, _⟩ => ⟨S32x32x1, .f32⟩
  | .hbm, ⟨21, _⟩ => ⟨S32x32x1, .f32⟩
  | .hbm, ⟨22, _⟩ => ⟨S32x32x1, .f32⟩
  | .hbm, ⟨23, _⟩ => ⟨S32x32x1024, .f32⟩
  | .hbm, ⟨24, _⟩ => ⟨S32x32x1024, .f32⟩
  | .hbm, ⟨25, _⟩ => ⟨S1x1x1024, .f32⟩
  | .hbm, ⟨26, _⟩ => ⟨S32x32x1024, .f32⟩
  | .hbm, ⟨27, _⟩ => ⟨S32x32x1024, .f32⟩
  | .hbm, ⟨28, _⟩ => ⟨S1x1024x4096, .f32⟩
  | .hbm, ⟨29, _⟩ => ⟨S1024x4096, .f32⟩
  | .hbm, ⟨30, _⟩ => ⟨S1x4096x1024, .f32⟩
  | .hbm, ⟨31, _⟩ => ⟨S4096x1024, .f32⟩
  | .hbm, ⟨32, _⟩ => ⟨S32x32x4096, .f32⟩
  | .hbm, ⟨33, _⟩ => ⟨S_, .f32⟩
  | .hbm, ⟨34, _⟩ => ⟨S32x32x4096, .f32⟩
  | .hbm, ⟨35, _⟩ => ⟨S32x32x4096, .f32⟩
  | .hbm, ⟨36, _⟩ => ⟨S32x32x4096, .f32⟩
  | .hbm, ⟨37, _⟩ => ⟨S32x32x1024, .f32⟩
  | .hbm, ⟨38, _⟩ => ⟨S32x32x1024, .f32⟩
  | .hbm, ⟨39, _⟩ => ⟨S32x32x1024, .f32⟩
  | .hbm, ⟨40, _⟩ => ⟨S_, .f32⟩
  | .hbm, ⟨41, _⟩ => ⟨S32x32, .f32⟩
  | .hbm, ⟨42, _⟩ => ⟨S32x32x1, .f32⟩
  | .hbm, ⟨43, _⟩ => ⟨S_, .f32⟩
  | .hbm, ⟨44, _⟩ => ⟨S32x32x1, .f32⟩
  | .hbm, ⟨45, _⟩ => ⟨S32x32x1, .f32⟩
  | .hbm, ⟨46, _⟩ => ⟨S_, .f32⟩
  | .hbm, ⟨47, _⟩ => ⟨S32x32x1, .f32⟩
  | .hbm, ⟨48, _⟩ => ⟨S32x32x1, .f32⟩
  | .hbm, ⟨49, _⟩ => ⟨S32x32x1, .f32⟩
  | .hbm, ⟨50, _⟩ => ⟨S32x32x1024, .f32⟩
  | .hbm, ⟨51, _⟩ => ⟨S32x32x1024, .f32⟩
  | .hbm, ⟨52, _⟩ => ⟨S1x1x1024, .f32⟩
  | .hbm, ⟨53, _⟩ => ⟨S32x32x1024, .f32⟩
  | .hbm, ⟨54, _⟩ => ⟨S32x32x1024, .f32⟩
  | .hbm, ⟨55, _⟩ => ⟨S1024x1024, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_cst : Ref sig .tc := ⟨.hbm, 33, rfl⟩
abbrev main_call0_v0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x1024 : Shape := ⟨2, ![2, 1024]⟩
abbrev S1024 : Shape := ⟨1, ![1024]⟩
abbrev S1024x2048 : Shape := ⟨2, ![1024, 2048]⟩
abbrev S1x1024x1024 : Shape := ⟨3, ![1, 1024, 1024]⟩
abbrev S1024x1024 : Shape := ⟨2, ![1024, 1024]⟩
abbrev S1x1024 : Shape := ⟨2, ![1, 1024]⟩
abbrev S16384x1024 : Shape := ⟨2, ![16384, 1024]⟩
abbrev S1024x16384 : Shape := ⟨2, ![1024, 16384]⟩
abbrev S4096x1024 : Shape := ⟨2, ![4096, 1024]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1024, .f32⟩
  | .hbm, ⟨3, _⟩ => ⟨S1024x2048, .f32⟩
  | .hbm, ⟨4, _⟩ => ⟨S1x1024x1024, .f32⟩
  | .hbm, ⟨5, _⟩ => ⟨S1024x2048, .bf16⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S16384x1024, .f32⟩
  | .hbm, ⟨13, _⟩ => ⟨S16384x1024, .bf16⟩
  | .hbm, ⟨14, _⟩ => ⟨S16384x1024, .bf16⟩
  | .hbm, ⟨15, _⟩ => ⟨S1024x16384, .bf16⟩
  | .hbm, ⟨16, _⟩ => ⟨S4096x1024, .f32⟩
  | .hbm, ⟨17, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c4_i32 : BitVec 32 := 4#32
  let c0_i32 : BitVec 32 := 0#32
  let v40 : BitVec 1 := Scalar.cmpi .eq c4_i32 c0_i32
  let c1_i32 : BitVec 32 := 1#32
  let v41 : BitVec 32 := Scalar.select v40 c1_i32 c4_i32
  let v42 : BitVec 32 := Scalar.remsi arg0 v41
  let c0_i32_23 : BitVec 32 := 0#32
  let v44 : BitVec 1 := Scalar.cmpi .slt v42 c0_i32_23
  let c0_i32_24 : BitVec 32 := 0#32
  let v45 : BitVec 1 := Scalar.cmpi .slt v41 c0_i32_24
  let v46 : BitVec 1 := Scalar.xori v44 v45
  let c0_i32_22 : BitVec 32 := 0#32
  let v43 : BitVec 1 := Scalar.cmpi .ne v42 c0_i32_22
  let v47 : BitVec 1 := Scalar.andi v46 v43
  let v48 : BitVec 32 := Scalar.addi v42 v41
  let v49 : BitVec 32 := Scalar.select v47 v48 v42
  let c3_i32 : BitVec 32 := 3#32
  let v50 : BitVec 1 := Scalar.cmpi .eq v49 c3_i32
  let v51 : BitVec 32 := Scalar.extui v50
  let c0_i32_25 : BitVec 32 := 0#32
  let v52 : BitVec 1 := Scalar.cmpi .ne v51 c0_i32_25
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel4Ideal.lean ====
variable {F : FTy → Type} [FloatOps F] [Named F]
def κ : String → Option EReal := fun
  | "qscale" => some ((8⁻¹ * (Real.log 2)⁻¹ : ℝ) : EReal)
  | _ => none
-- ==== Reference4Ideal.lean ====
abbrev S8x2048x1024 : Shape := ⟨3, ![8, 2048, 1024]⟩
abbrev S2x1024 : Shape := ⟨2, ![2, 1024]⟩
abbrev S1024 : Shape := ⟨1, ![1024]⟩
abbrev S1024x2048 : Shape := ⟨2, ![1024, 2048]⟩
abbrev S1x1024x1024 : Shape := ⟨3, ![1, 1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S1x1024 : Shape := ⟨2, ![1, 1024]⟩
abbrev S1024x1024 : Shape := ⟨2, ![1024, 1024]⟩
abbrev S8x512x1024 : Shape := ⟨3, ![8, 512, 1024]⟩
abbrev S16384x1024 : Shape := ⟨2, ![16384, 1024]⟩
abbrev S1024x16384 : Shape := ⟨2, ![1024, 16384]⟩
abbrev S4096x1024 : Shape := ⟨2, ![4096, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1024, .f32⟩
  | .hbm, ⟨3, _⟩ => ⟨S1024x2048, .f32⟩
  | .hbm, ⟨4, _⟩ => ⟨S1x1024x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x2048, .f32⟩
  | .hbm, ⟨22, _⟩ => ⟨S8x2048x1024, .f32⟩
  | .hbm, ⟨23, _⟩ => ⟨S8x2048x1024, .f32⟩
  | .hbm, ⟨24, _⟩ => ⟨S1x1024, .f32⟩
  | .hbm, ⟨25, _⟩ => ⟨S1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S1024x1024, .f32⟩
  | .hbm, ⟨43, _⟩ => ⟨S8x2048x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S8x512x1024, .f32⟩
  | .hbm, ⟨51, _⟩ => ⟨S8x512x1024, .f32⟩
  | .hbm, ⟨52, _⟩ => ⟨S16384x1024, .f32⟩
  | .hbm, ⟨53, _⟩ => ⟨S16384x1024, .bf16⟩
  | .hbm, ⟨54, _⟩ => ⟨S16384x1024, .f32⟩
  | .hbm, ⟨55, _⟩ => ⟨S16384x1024, .bf16⟩
  | .hbm, ⟨56, _⟩ => ⟨S16384x1024, .f32⟩
  | .hbm, ⟨57, _⟩ => ⟨S1024x16384, .f32⟩
  | .hbm, ⟨58, _⟩ => ⟨S1024x16384, .bf16⟩
  | .hbm, ⟨59, _⟩ => ⟨S4096x1024, .f32⟩
  | .hbm, ⟨60, _⟩ => ⟨S4096x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Kernel5.lean ====
abbrev S32x32x1024 : Shape := ⟨3, ![32, 32, 1024]⟩
abbrev S2x1024 : Shape := ⟨2, ![2, 1024]⟩
abbrev S1024 : Shape := ⟨1, ![1024]⟩
abbrev S1024x2048 : Shape := ⟨2, ![1024, 2048]⟩
abbrev S1x1024x1024 : Shape := ⟨3, ![1, 1024, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S32x32x1024, .f32⟩
  | .hbm, ⟨1, _⟩ => ⟨S2x1024, .f32⟩
  | .hbm, ⟨2, _⟩ => ⟨S1024, .f32⟩
  | .hbm, ⟨3, _⟩ => ⟨S1024x2048, .f32⟩
  | .hbm, ⟨4, _⟩ => ⟨S1x1024x1024, .f32⟩
  | .hbm, ⟨5, _⟩ => ⟨S1024x2048, .bf16⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024x1024, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .f32⟩
  | .hbm, ⟨17, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c1_i32 : BitVec 32 := 1#32
  let c0_i32 : BitVec 32 := 0#32
  let v39 : BitVec 1 := Scalar.cmpi .eq c1_i32 c0_i32
  let c1_i32_22 : BitVec 32 := 1#32
  let v40 : BitVec 32 := Scalar.select v39 c1_i32_22 c1_i32
  let v41 : BitVec 32 := Scalar.remsi arg0 v40
  let c0_i32_24 : BitVec 32 := 0#32
  let v43 : BitVec 1 := Scalar.cmpi .slt v41 c0_i32_24
  let c0_i32_25 : BitVec 32 := 0#32
  let v44 : BitVec 1 := Scalar.cmpi .slt v40 c0_i32_25
  let v45 : BitVec 1 := Scalar.xori v43 v44
  let c0_i32_23 : BitVec 32 := 0#32
  let v42 : BitVec 1 := Scalar.cmpi .ne v41 c0_i32_23
  let v46 : BitVec 1 := Scalar.andi v45 v42
  let v47 : BitVec 32 := Scalar.addi v41 v40
  let v48 : BitVec 32 := Scalar.select v46 v47 v41
  let c0_i32_26 : BitVec 32 := 0#32
  let v49 : BitVec 1 := Scalar.cmpi .eq v48 c0_i32_26
  let v50 : BitVec 32 := Scalar.extui v49
  let c0_i32_27 : BitVec 32 := 0#32
  let v51 : BitVec 1 := Scalar.cmpi .ne v50 c0_i32_27
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_9 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel5Ideal.lean ====
variable {F : FTy → Type} [FloatOps F] [Named F]
def κ : String → Option EReal := fun
  | "qscale" => some ((8⁻¹ * (Real.log 2)⁻¹ : ℝ) : EReal)
  | _ => none
-- ==== Reference5Ideal.lean ====
abbrev S32x32x1024 : Shape := ⟨3, ![32, 32, 1024]⟩
abbrev S2x1024 : Shape := ⟨2, ![2, 1024]⟩
abbrev S1024 : Shape := ⟨1, ![1024]⟩
abbrev S1024x2048 : Shape := ⟨2, ![1024, 2048]⟩
abbrev S1x1024x1024 : Shape := ⟨3, ![1, 1024, 1024]⟩
abbrev S_ : Shape := ⟨0, ![]⟩
abbrev S32x32 : Shape := ⟨2, ![32, 32]⟩
abbrev S32x32x1 : Shape := ⟨3, ![32, 32, 1]⟩
abbrev S1x1x1024 : Shape := ⟨3, ![1, 1, 1024]⟩
abbrev S32x32x2048 : Shape := ⟨3, ![32, 32, 2048]⟩
abbrev S1x1024 : Shape := ⟨2, ![1, 1024]⟩
abbrev S1024x1024 : Shape := ⟨2, ![1024, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S2x1024, .f32⟩
  | .hbm, ⟨2, _⟩ => ⟨S1024, .f32⟩
  | .hbm, ⟨3, _⟩ => ⟨S1024x2048, .f32⟩
  | .hbm, ⟨4, _⟩ => ⟨S1x1024x1024, .f32⟩
  | .hbm, ⟨5, _⟩ => ⟨S32x32x1024, .f32⟩
  | .hbm, ⟨6, _⟩ => ⟨S_, .f32⟩
  | .hbm, ⟨7, _⟩ => ⟨S32x32, .f32⟩
  | .hbm, ⟨8, _⟩ => ⟨S32x32x1, .f32⟩
  | .hbm, ⟨9, _⟩ => ⟨S_, .f32⟩
  | .hbm, ⟨10, _⟩ => ⟨S32x32x1, .f32⟩
  | .hbm, ⟨11, _⟩ => ⟨S32x32x1, .f32⟩
  | .hbm, ⟨12, _⟩ => ⟨S_, .f32⟩
  | .hbm, ⟨13, _⟩ => ⟨S32x32x1, .f32⟩
  | .hbm, ⟨14, _⟩ => ⟨S32x32x1, .f32⟩
  | .hbm, ⟨15, _⟩ => ⟨S32x32x1, .f32⟩
  | .hbm, ⟨16, _⟩ => ⟨S32x32x1024, .f32⟩
  | .hbm, ⟨17, _⟩ => ⟨S32x32x1024, .f32⟩
  | .hbm, ⟨18, _⟩ => ⟨S1x1x1024, .f32⟩
  | .hbm, ⟨19, _⟩ => ⟨S32x32x1024, .f32⟩
  | .hbm, ⟨20, _⟩ => ⟨S32x32x1024, .f32⟩
  | .hbm, ⟨21, _⟩ => ⟨S32x32x2048, .f32⟩
  | .hbm, ⟨22, _⟩ => ⟨S32x32x1024, .f32⟩
  | .hbm, ⟨23, _⟩ => ⟨S32x32x1024, .f32⟩
  | .hbm, ⟨24, _⟩ => ⟨S1x1024, .f32⟩
  | .hbm, ⟨25, _⟩ => ⟨S1024, .f32⟩
  | .hbm, ⟨26, _⟩ => ⟨S32x32x1024, .f32⟩
  | .hbm, ⟨27, _⟩ => ⟨S_, .f32⟩
  | .hbm, ⟨28, _⟩ => ⟨S32x32, .f32⟩
  | .hbm, ⟨29, _⟩ => ⟨S32x32x1, .f32⟩
  | .hbm, ⟨30, _⟩ => ⟨S_, .f32⟩
  | .hbm, ⟨31, _⟩ => ⟨S32x32x1, .f32⟩
  | .hbm, ⟨32, _⟩ => ⟨S32x32x1, .f32⟩
  | .hbm, ⟨33, _⟩ => ⟨S_, .f32⟩
  | .hbm, ⟨34, _⟩ => ⟨S32x32x1, .f32⟩
  | .hbm, ⟨35, _⟩ => ⟨S32x32x1, .f32⟩
  | .hbm, ⟨36, _⟩ => ⟨S32x32x1, .f32⟩
  | .hbm, ⟨37, _⟩ => ⟨S32x32x1024, .f32⟩
  | .hbm, ⟨38, _⟩ => ⟨S32x32x1024, .f32⟩
  | .hbm, ⟨39, _⟩ => ⟨S1x1x1024, .f32⟩
  | .hbm, ⟨40, _⟩ => ⟨S32x32x1024, .f32⟩
  | .hbm, ⟨41, _⟩ => ⟨S32x32x1024, .f32⟩
  | .hbm, ⟨42, _⟩ => ⟨S1024x1024, .f32⟩
  | .hbm, ⟨43, _⟩ => ⟨S32x32x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32x32x1024, .f32⟩
  | .hbm, ⟨49, _⟩ => ⟨S32x32x1024, .f32⟩
  | .hbm, ⟨50, _⟩ => ⟨S1024x1024, .f32⟩
  | .hbm, ⟨51, _⟩ => ⟨S1024x1024, .f32⟩
  | .hbm, ⟨52, _⟩ => ⟨S1024x1024, .f32⟩
  | .hbm, ⟨53, _⟩ => ⟨S1024x1024, .bf16⟩
  | .hbm, ⟨54, _⟩ => ⟨S1024x1024, .bf16⟩
  | .hbm, ⟨55, _⟩ => ⟨S1024x1024, .bf16⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel6.lean ====
abbrev S8x2048x1024 : Shape := ⟨3, ![8, 2048, 1024]⟩
abbrev S2x1024 : Shape := ⟨2, ![2, 1024]⟩
abbrev S1x1024x3072 : Shape := ⟨3, ![1, 1024, 3072]⟩
abbrev S1024x3072 : Shape := ⟨2, ![1024, 3072]⟩
abbrev S1x1024 : Shape := ⟨2, ![1, 1024]⟩
abbrev S1024 : Shape := ⟨1, ![1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S131072x128 : Shape := ⟨2, ![131072, 128]⟩
abbrev S1024x16384 : Shape := ⟨2, ![1024, 16384]⟩
abbrev S512x1024 : Shape := ⟨2, ![512, 1024]⟩
abbrev S512x128 : Shape := ⟨2, ![512, 128]⟩
abbrev S4096x128 : Shape := ⟨2, ![4096, 128]⟩
abbrev S1024x512 : Shape := ⟨2, ![1024, 512]⟩
abbrev S512 : Shape := ⟨1, ![512]⟩
abbrev S512x1 : Shape := ⟨2, ![512, 1]⟩
abbrev S1024x1024 : Shape := ⟨2, ![1024, 1024]⟩

abbrev nBuf : Space → Nat
  | .hbm => 42
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S2048, .i32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S2048x32, .f32⟩
  | .hbm, ⟨32, _⟩ => ⟨S2048x64, .f32⟩
  | .hbm, ⟨33, _⟩ => ⟨S1x2048x1x64, .f32⟩
  | .hbm, ⟨34, _⟩ => ⟨S1x2048x2x64, .f32⟩
  | .hbm, ⟨35, _⟩ => ⟨S2048x128, .f32⟩
  | .hbm, ⟨36, _⟩ => ⟨S16384x1024, .f32⟩
  | .hbm, ⟨37, _⟩ => ⟨S16384x1024, .bf16⟩
  | .hbm, ⟨38, _⟩ => ⟨S131072x128, .f32⟩
  | .hbm, ⟨39, _⟩ => ⟨S16384x1024, .bf16⟩
  | .hbm, ⟨40, _⟩ => ⟨S131072x128, .f32⟩
  | .hbm, ⟨41, _⟩ => ⟨S1024x16384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S4096x128, .f32⟩
  | .local _ .vmem, ⟨11, _⟩ => ⟨S4096x128, .f32⟩
  | .local _ .vmem, ⟨12, _⟩ => ⟨S512x1024, .bf16⟩
  | .local _ .vmem, ⟨13, _⟩ => ⟨S512x1024, .bf16⟩
  | .local _ .vmem, ⟨14, _⟩ => ⟨S4096x128, .f32⟩
  | .local _ .vmem, ⟨15, _⟩ => ⟨S4096x128, .f32⟩
  | .local _ .vmem, ⟨16, _⟩ => ⟨S1024x512, .bf16⟩
  | .local _ .vmem, ⟨17, _⟩ => ⟨S1024x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_0 : Ref sig .tc := ⟨.hbm, 37, rfl⟩
abbrev main_v31_1 : Ref sig .tc := ⟨.hbm, 38, rfl⟩
abbrev main_v31_2 : Ref sig .tc := ⟨.hbm, 39, rfl⟩
abbrev main_v31_3 : Ref sig .tc := ⟨.hbm, 40, rfl⟩
abbrev main_v31_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel6Ideal.lean ====
variable {F : FTy → Type} [FloatOps F] [Named F]
def κ : String → Option EReal := fun
  | "qscale" => some ((8⁻¹ * (Real.log 2)⁻¹ : ℝ) : EReal)
  | _ => none
-- ==== Reference6Ideal.lean ====
abbrev S8x2048x1024 : Shape := ⟨3, ![8, 2048, 1024]⟩
abbrev S2x1024 : Shape := ⟨2, ![2, 1024]⟩
abbrev S1x1024x3072 : Shape := ⟨3, ![1, 1024, 3072]⟩
abbrev S2048 : Shape := ⟨1, ![2048]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x3072 : Shape := ⟨2, ![1024, 3072]⟩
abbrev S8x2048x3072 : Shape := ⟨3, ![8, 2048, 3072]⟩
abbrev S8x2048x8x2x64 : Shape := ⟨5, ![8, 2048, 8, 2, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x1x1x32 : Shape := ⟨4, ![2048, 1, 1, 32]⟩
abbrev S8x2048x8x2x32 : Shape := ⟨5, ![8, 2048, 8, 2, 32]⟩
abbrev S1x2048x1x1x32 : Shape := ⟨5, ![1, 2048, 1, 1, 32]⟩
abbrev S8x2048x8x128 : Shape := ⟨4, ![8, 2048, 8, 128]⟩
abbrev S131072x128 : Shape := ⟨2, ![131072, 128]⟩
abbrev S16384x1024 : Shape := ⟨2, ![16384, 1024]⟩
abbrev S1024x16384 : Shape := ⟨2, ![1024, 16384]⟩

abbrev nBuf : Space → Nat
  | .hbm => 119
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S1x1024x3072, .f32⟩
  | .hbm, ⟨3, _⟩ => ⟨S2048, .i32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1024x3072, .f32⟩
  | .hbm, ⟨23, _⟩ => ⟨S8x2048x3072, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x8x2x64, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x1x1x32, .f32⟩
  | .hbm, ⟨46, _⟩ => ⟨S2048x32, .f32⟩
  | .hbm, ⟨47, _⟩ => ⟨S2048x1x1x32, .f32⟩
  | .hbm, ⟨48, _⟩ => ⟨S8x2048x8x2x32, .f32⟩
  | .hbm, ⟨49, _⟩ => ⟨S8x2048x8x2x32, .f32⟩
  | .hbm, ⟨50, _⟩ => ⟨S1x2048x1x1x32, .f32⟩
  | .hbm, ⟨51, _⟩ => ⟨S8x2048x8x2x32, .f32⟩
  | .hbm, ⟨52, _⟩ => ⟨S8x2048x8x2x32, .f32⟩
  | .hbm, ⟨53, _⟩ => ⟨S1x2048x1x1x32, .f32⟩
  | .hbm, ⟨54, _⟩ => ⟨S8x2048x8x2x32, .f32⟩
  | .hbm, ⟨55, _⟩ => ⟨S8x2048x8x2x32, .f32⟩
  | .hbm, ⟨56, _⟩ => ⟨S8x2048x8x2x32, .f32⟩
  | .hbm, ⟨57, _⟩ => ⟨S1x2048x1x1x32, .f32⟩
  | .hbm, ⟨58, _⟩ => ⟨S8x2048x8x2x32, .f32⟩
  | .hbm, ⟨59, _⟩ => ⟨S8x2048x8x2x32, .f32⟩
  | .hbm, ⟨60, _⟩ => ⟨S1x2048x1x1x32, .f32⟩
  | .hbm, ⟨61, _⟩ => ⟨S8x2048x8x2x32, .f32⟩
  | .hbm, ⟨62, _⟩ => ⟨S8x2048x8x2x32, .f32⟩
  | .hbm, ⟨63, _⟩ => ⟨S8x2048x8x2x32, .f32⟩
  | .hbm, ⟨64, _⟩ => ⟨S8x2048x8x2x64, .f32⟩
  | .hbm, ⟨65, _⟩ => ⟨S8x2048x8x2x64, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S2048, .f32⟩
  | .hbm, ⟨77, _⟩ => ⟨S2048x1, .f32⟩
  | .hbm, ⟨78, _⟩ => ⟨S1x32, .f32⟩
  | .hbm, ⟨79, _⟩ => ⟨S2048x32, .f32⟩
  | .hbm, ⟨80, _⟩ => ⟨S2048x32, .f32⟩
  | .hbm, ⟨81, _⟩ => ⟨S2048x32, .f32⟩
  | .hbm, ⟨82, _⟩ => ⟨S2048x32, .f32⟩
  | .hbm, ⟨83, _⟩ => ⟨S2048x1x1x32, .f32⟩
  | .hbm, ⟨84, _⟩ => ⟨S2048x32, .f32⟩
  | .hbm, ⟨85, _⟩ => ⟨S2048x1x1x32, .f32⟩
  | .hbm, ⟨86, _⟩ => ⟨S8x2048x8x2x32, .f32⟩
  | .hbm, ⟨87, _⟩ => ⟨S8x2048x8x2x32, .f32⟩
  | .hbm, ⟨88, _⟩ => ⟨S1x2048x1x1x32, .f32⟩
  | .hbm, ⟨89, _⟩ => ⟨S8x2048x8x2x32, .f32⟩
  | .hbm, ⟨90, _⟩ => ⟨S8x2048x8x2x32, .f32⟩
  | .hbm, ⟨91, _⟩ => ⟨S1x2048x1x1x32, .f32⟩
  | .hbm, ⟨92, _⟩ => ⟨S8x2048x8x2x32, .f32⟩
  | .hbm, ⟨93, _⟩ => ⟨S8x2048x8x2x32, .f32⟩
  | .hbm, ⟨94, _⟩ => ⟨S8x2048x8x2x32, .f32⟩
  | .hbm, ⟨95, _⟩ => ⟨S1x2048x1x1x32, .f32⟩
  | .hbm, ⟨96, _⟩ => ⟨S8x2048x8x2x32, .f32⟩
  | .hbm, ⟨97, _⟩ => ⟨S8x2048x8x2x32, .f32⟩
  | .hbm, ⟨98, _⟩ => ⟨S1x2048x1x1x32, .f32⟩
  | .hbm, ⟨99, _⟩ => ⟨S8x2048x8x2x32, .f32⟩
  | .hbm, ⟨100, _⟩ => ⟨S8x2048x8x2x32, .f32⟩
  | .hbm, ⟨101, _⟩ => ⟨S8x2048x8x2x32, .f32⟩
  | .hbm, ⟨102, _⟩ => ⟨S8x2048x8x2x64, .f32⟩
  | .hbm, ⟨103, _⟩ => ⟨S8x2048x8x128, .f32⟩
  | .hbm, ⟨104, _⟩ => ⟨S131072x128, .f32⟩
  | .hbm, ⟨105, _⟩ => ⟨S131072x128, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S8x2048x8x2x64, .f32⟩
  | .hbm, ⟨111, _⟩ => ⟨S8x2048x8x2x64, .f32⟩
  | .hbm, ⟨112, _⟩ => ⟨S16384x1024, .f32⟩
  | .hbm, ⟨113, _⟩ => ⟨S16384x1024, .bf16⟩
  | .hbm, ⟨114, _⟩ => ⟨S16384x1024, .f32⟩
  | .hbm, ⟨115, _⟩ => ⟨S16384x1024, .bf16⟩
  | .hbm, ⟨116, _⟩ => ⟨S16384x1024, .f32⟩
  | .hbm, ⟨117, _⟩ => ⟨S1024x16384, .f32⟩
  | .hbm, ⟨118, _⟩ => ⟨S1024x16384, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_8 : Ref sig .tc := ⟨.hbm, 106, rfl⟩
abbrev main_v94 : Ref sig .tc := ⟨.hbm, 107, rfl⟩
abbrev main_cst_9 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩

abbrev nD : Nat := 1
abbrev τ : Topo := Topo.v7x

variable {F : FTy → Type} [FloatOps F]
-- ==== Kernel7.lean ====
abbrev S32x32x1024 : Shape := ⟨3, ![32, 32, 1024]⟩
abbrev S2x1024 : Shape := ⟨2, ![2, 1024]⟩
abbrev S1x1024x3072 : Shape := ⟨3, ![1, 1024, 3072]⟩
abbrev S1024x3072 : Shape := ⟨2, ![1024, 3072]⟩
abbrev S1x1024 : Shape := ⟨2, ![1, 1024]⟩
abbrev S1024 : Shape := ⟨1, ![1024]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S1x32x1x128 : Shape := ⟨4, ![1, 32, 1, 128]⟩
abbrev S16x32x1x128 : Shape := ⟨4, ![16, 32, 1, 128]⟩
abbrev S512x128 : Shape := ⟨2, ![512, 128]⟩
abbrev S1024x1024 : Shape := ⟨2, ![1024, 1024]⟩
abbrev S8192x128 : Shape := ⟨2, ![8192, 128]⟩
abbrev S512x1024 : Shape := ⟨2, ![512, 1024]⟩
abbrev S4096x128 : Shape := ⟨2, ![4096, 128]⟩
abbrev S512 : Shape := ⟨1, ![512]⟩
abbrev S512x1 : Shape := ⟨2, ![512, 1]⟩

abbrev nBuf : Space → Nat
  | .hbm => 51
  | .vmem => 16
  | .smem => 0
  | _ => 0

abbrev bufTy : (tb : Table) → Fin (tcTables nBuf tb) → BufTy
  | .hbm, ⟨0, _⟩ => ⟨S32x32x1024, .f32⟩
  | .hbm, ⟨1, _⟩ => ⟨S2x1024, .f32⟩
  | .hbm, ⟨2, _⟩ => ⟨S1x1024x3072, .f32⟩
  | .hbm, ⟨3, _⟩ => ⟨S1024x3072, .f32⟩
  | .hbm, ⟨4, _⟩ => ⟨S1024x3072, .bf16⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S32, .f32⟩
  | .hbm, ⟨23, _⟩ => ⟨S32x1, .f32⟩
  | .hbm, ⟨24, _⟩ => ⟨S1x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S32x32, .f32⟩
  | .hbm, ⟨30, _⟩ => ⟨S32x64, .f32⟩
  | .hbm, ⟨31, _⟩ => ⟨S1x32x1x64, .f32⟩
  | .hbm, ⟨32, _⟩ => ⟨S1x32x2x64, .f32⟩
  | .hbm, ⟨33, _⟩ => ⟨S32x128, .f32⟩
  | .hbm, ⟨34, _⟩ => ⟨S32x32, .f32⟩
  | .hbm, ⟨35, _⟩ => ⟨S32x64, .f32⟩
  | .hbm, ⟨36, _⟩ => ⟨S1x32x1x64, .f32⟩
  | .hbm, ⟨37, _⟩ => ⟨S1x32x2x64, .f32⟩
  | .hbm, ⟨38, _⟩ => ⟨S32x128, .f32⟩
  | .hbm, ⟨39, _⟩ => ⟨S1x32x1x128, .f32⟩
  | .hbm, ⟨40, _⟩ => ⟨S16x32x1x128, .f32⟩
  | .hbm, ⟨41, _⟩ => ⟨S512x128, .f32⟩
  | .hbm, ⟨42, _⟩ => ⟨S1x32x1x128, .f32⟩
  | .hbm, ⟨43, _⟩ => ⟨S16x32x1x128, .f32⟩
  | .hbm, ⟨44, _⟩ => ⟨S512x128, .f32⟩
  | .hbm, ⟨45, _⟩ => ⟨S1024x1024, .f32⟩
  | .hbm, ⟨46, _⟩ => ⟨S1024x1024, .bf16⟩
  | .hbm, ⟨47, _⟩ => ⟨S8192x128, .f32⟩
  | .hbm, ⟨48, _⟩ => ⟨S1024x1024, .bf16⟩
  | .hbm, ⟨49, _⟩ => ⟨S8192x128, .f32⟩
  | .hbm, ⟨50, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x128, .f32⟩
  | .local _ .vmem, ⟨5, _⟩ => ⟨S512x128, .f32⟩
  | .local _ .vmem, ⟨6, _⟩ => ⟨S512x1024, .bf16⟩
  | .local _ .vmem, ⟨7, _⟩ => ⟨S512x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .bf16⟩
  | .local _ .vmem, ⟨11, _⟩ => ⟨S512x1024, .bf16⟩
  | .local _ .vmem, ⟨12, _⟩ => ⟨S4096x128, .f32⟩
  | .local _ .vmem, ⟨13, _⟩ => ⟨S4096x128, .f32⟩
  | .local _ .vmem, ⟨14, _⟩ => ⟨S512x1024, .bf16⟩
  | .local _ .vmem, ⟨15, _⟩ => ⟨S512x1024, .bf16⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39_0 : Ref sig .tc := ⟨.hbm, 46, rfl⟩
abbrev main_v39_1 : Ref sig .tc := ⟨.hbm, 47, rfl⟩
abbrev main_v39_2 : Ref sig .tc := ⟨.hbm, 48, rfl⟩
abbrev main_v39_3 : Ref sig .tc := ⟨.hbm, 49, rfl⟩
abbrev main_v39_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel7Ideal.lean ====
variable {F : FTy → Type} [FloatOps F] [Named F]
def κ : String → Option EReal := fun
  | "qscale" => some ((8⁻¹ * (Real.log 2)⁻¹ : ℝ) : EReal)
  | _ => none
-- ==== Reference7Ideal.lean ====
abbrev S32x32x1024 : Shape := ⟨3, ![32, 32, 1024]⟩
abbrev S2x1024 : Shape := ⟨2, ![2, 1024]⟩
abbrev S1x1024x3072 : Shape := ⟨3, ![1, 1024, 3072]⟩
abbrev S32 : Shape := ⟨1, ![32]⟩
abbrev S_ : Shape := ⟨0, ![]⟩
abbrev S1x1024 : Shape := ⟨2, ![1, 1024]⟩
abbrev S1024 : Shape := ⟨1, ![1024]⟩
abbrev S32x32 : Shape := ⟨2, ![32, 32]⟩
abbrev S32x32x1 : Shape := ⟨3, ![32, 32, 1]⟩
abbrev S1x1x1024 : Shape := ⟨3, ![1, 1, 1024]⟩
abbrev S1024x3072 : Shape := ⟨2, ![1024, 3072]⟩
abbrev S32x32x3072 : Shape := ⟨3, ![32, 32, 3072]⟩
abbrev S32x32x8x2x64 : Shape := ⟨5, ![32, 32, 8, 2, 64]⟩
abbrev S32x1 : Shape := ⟨2, ![32, 1]⟩
abbrev S1x32 : Shape := ⟨2, ![1, 32]⟩
abbrev S32x1x1x32 : Shape := ⟨4, ![32, 1, 1, 32]⟩
abbrev S32x32x8x2x32 : Shape := ⟨5, ![32, 32, 8, 2, 32]⟩
abbrev S1x32x1x1x32 : Shape := ⟨5, ![1, 32, 1, 1, 32]⟩
abbrev S32x32x8x128 : Shape := ⟨4, ![32, 32, 8, 128]⟩
abbrev S8192x128 : Shape := ⟨2, ![8192, 128]⟩
abbrev S1024x1024 : Shape := ⟨2, ![1024, 1024]⟩

abbrev nBuf : Space → Nat
  | .hbm => 121
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S2x1024, .f32⟩
  | .hbm, ⟨2, _⟩ => ⟨S1x1024x3072, .f32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S1x1024, .f32⟩
  | .hbm, ⟨8, _⟩ => ⟨S1024, .f32⟩
  | .hbm, ⟨9, _⟩ => ⟨S32x32x1024, .f32⟩
  | .hbm, ⟨10, _⟩ => ⟨S_, .f32⟩
  | .hbm, ⟨11, _⟩ => ⟨S32x32, .f32⟩
  | .hbm, ⟨12, _⟩ => ⟨S32x32x1, .f32⟩
  | .hbm, ⟨13, _⟩ => ⟨S_, .f32⟩
  | .hbm, ⟨14, _⟩ => ⟨S32x32x1, .f32⟩
  | .hbm, ⟨15, _⟩ => ⟨S32x32x1, .f32⟩
  | .hbm, ⟨16, _⟩ => ⟨S_, .f32⟩
  | .hbm, ⟨17, _⟩ => ⟨S32x32x1, .f32⟩
  | .hbm, ⟨18, _⟩ => ⟨S32x32x1, .f32⟩
  | .hbm, ⟨19, _⟩ => ⟨S32x32x1, .f32⟩
  | .hbm, ⟨20, _⟩ => ⟨S32x32x1024, .f32⟩
  | .hbm, ⟨21, _⟩ => ⟨S32x32x1024, .f32⟩
  | .hbm, ⟨22, _⟩ => ⟨S1x1x1024, .f32⟩
  | .hbm, ⟨23, _⟩ => ⟨S32x32x1024, .f32⟩
  | .hbm, ⟨24, _⟩ => ⟨S32x32x1024, .f32⟩
  | .hbm, ⟨25, _⟩ => ⟨S1024x3072, .f32⟩
  | .hbm, ⟨26, _⟩ => ⟨S32x32x3072, .f32⟩
  | .hbm, ⟨27, _⟩ => ⟨S32x32x1024, .f32⟩
  | .hbm, ⟨28, _⟩ => ⟨S32x32x1024, .f32⟩
  | .hbm, ⟨29, _⟩ => ⟨S32x32x1024, .f32⟩
  | .hbm, ⟨30, _⟩ => ⟨S32x32x8x2x64, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S32x1, .f32⟩
  | .hbm, ⟨43, _⟩ => ⟨S1x32, .f32⟩
  | .hbm, ⟨44, _⟩ => ⟨S32x32, .f32⟩
  | .hbm, ⟨45, _⟩ => ⟨S32x32, .f32⟩
  | .hbm, ⟨46, _⟩ => ⟨S32x32, .f32⟩
  | .hbm, ⟨47, _⟩ => ⟨S32x32, .f32⟩
  | .hbm, ⟨48, _⟩ => ⟨S32x1x1x32, .f32⟩
  | .hbm, ⟨49, _⟩ => ⟨S32x32, .f32⟩
  | .hbm, ⟨50, _⟩ => ⟨S32x1x1x32, .f32⟩
  | .hbm, ⟨51, _⟩ => ⟨S32x32x8x2x32, .f32⟩
  | .hbm, ⟨52, _⟩ => ⟨S32x32x8x2x32, .f32⟩
  | .hbm, ⟨53, _⟩ => ⟨S1x32x1x1x32, .f32⟩
  | .hbm, ⟨54, _⟩ => ⟨S32x32x8x2x32, .f32⟩
  | .hbm, ⟨55, _⟩ => ⟨S32x32x8x2x32, .f32⟩
  | .hbm, ⟨56, _⟩ => ⟨S1x32x1x1x32, .f32⟩
  | .hbm, ⟨57, _⟩ => ⟨S32x32x8x2x32, .f32⟩
  | .hbm, ⟨58, _⟩ => ⟨S32x32x8x2x32, .f32⟩
  | .hbm, ⟨59, _⟩ => ⟨S32x32x8x2x32, .f32⟩
  | .hbm, ⟨60, _⟩ => ⟨S1x32x1x1x32, .f32⟩
  | .hbm, ⟨61, _⟩ => ⟨S32x32x8x2x32, .f32⟩
  | .hbm, ⟨62, _⟩ => ⟨S32x32x8x2x32, .f32⟩
  | .hbm, ⟨63, _⟩ => ⟨S1x32x1x1x32, .f32⟩
  | .hbm, ⟨64, _⟩ => ⟨S32x32x8x2x32, .f32⟩
  | .hbm, ⟨65, _⟩ => ⟨S32x32x8x2x32, .f32⟩
  | .hbm, ⟨66, _⟩ => ⟨S32x32x8x2x32, .f32⟩
  | .hbm, ⟨67, _⟩ => ⟨S32x32x8x2x64, .f32⟩
  | .hbm, ⟨68, _⟩ => ⟨S32x32x8x2x64, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S32, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S32, .f32⟩
  | .hbm, ⟨80, _⟩ => ⟨S32x1, .f32⟩
  | .hbm, ⟨81, _⟩ => ⟨S1x32, .f32⟩
  | .hbm, ⟨82, _⟩ => ⟨S32x32, .f32⟩
  | .hbm, ⟨83, _⟩ => ⟨S32x32, .f32⟩
  | .hbm, ⟨84, _⟩ => ⟨S32x32, .f32⟩
  | .hbm, ⟨85, _⟩ => ⟨S32x32, .f32⟩
  | .hbm, ⟨86, _⟩ => ⟨S32x1x1x32, .f32⟩
  | .hbm, ⟨87, _⟩ => ⟨S32x32, .f32⟩
  | .hbm, ⟨88, _⟩ => ⟨S32x1x1x32, .f32⟩
  | .hbm, ⟨89, _⟩ => ⟨S32x32x8x2x32, .f32⟩
  | .hbm, ⟨90, _⟩ => ⟨S32x32x8x2x32, .f32⟩
  | .hbm, ⟨91, _⟩ => ⟨S1x32x1x1x32, .f32⟩
  | .hbm, ⟨92, _⟩ => ⟨S32x32x8x2x32, .f32⟩
  | .hbm, ⟨93, _⟩ => ⟨S32x32x8x2x32, .f32⟩
  | .hbm, ⟨94, _⟩ => ⟨S1x32x1x1x32, .f32⟩
  | .hbm, ⟨95, _⟩ => ⟨S32x32x8x2x32, .f32⟩
  | .hbm, ⟨96, _⟩ => ⟨S32x32x8x2x32, .f32⟩
  | .hbm, ⟨97, _⟩ => ⟨S32x32x8x2x32, .f32⟩
  | .hbm, ⟨98, _⟩ => ⟨S1x32x1x1x32, .f32⟩
  | .hbm, ⟨99, _⟩ => ⟨S32x32x8x2x32, .f32⟩
  | .hbm, ⟨100, _⟩ => ⟨S32x32x8x2x32, .f32⟩
  | .hbm, ⟨101, _⟩ => ⟨S1x32x1x1x32, .f32⟩
  | .hbm, ⟨102, _⟩ => ⟨S32x32x8x2x32, .f32⟩
  | .hbm, ⟨103, _⟩ => ⟨S32x32x8x2x32, .f32⟩
  | .hbm, ⟨104, _⟩ => ⟨S32x32x8x2x32, .f32⟩
  | .hbm, ⟨105, _⟩ => ⟨S32x32x8x2x64, .f32⟩
  | .hbm, ⟨106, _⟩ => ⟨S32x32x8x128, .f32⟩
  | .hbm, ⟨107, _⟩ => ⟨S8192x128, .f32⟩
  | .hbm, ⟨108, _⟩ => ⟨S8192x128, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S32x32x8x2x64, .f32⟩
  | .hbm, ⟨114, _⟩ => ⟨S32x32x8x2x64, .f32⟩
  | .hbm, ⟨115, _⟩ => ⟨S1024x1024, .f32⟩
  | .hbm, ⟨116, _⟩ => ⟨S1024x1024, .bf16⟩
  | .hbm, ⟨117, _⟩ => ⟨S1024x1024, .f32⟩
  | .hbm, ⟨118, _⟩ => ⟨S1024x1024, .bf16⟩
  | .hbm, ⟨119, _⟩ => ⟨S1024x1024, .f32⟩
  | .hbm, ⟨120, _⟩ => ⟨S1024x1024, .bf16⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_cst_7 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_8 : Ref sig .tc := ⟨.hbm, 109, rfl⟩
abbrev main_v96 : Ref sig .tc := ⟨.hbm, 110, rfl⟩
abbrev main_cst_9 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩

abbrev nD : Nat := 1
abbrev τ : Topo := Topo.v7x

variable {F : FTy → Type} [FloatOps F]
-- ==== Kernel8.lean ====
abbrev S1x4x64 : Shape := ⟨3, ![1, 4, 64]⟩
abbrev S1x128 : Shape := ⟨2, ![1, 128]⟩
abbrev S8x2048x1024 : Shape := ⟨3, ![8, 2048, 1024]⟩
abbrev S1024x16384 : Shape := ⟨2, ![1024, 16384]⟩
abbrev S4x64 : Shape := ⟨2, ![4, 64]⟩
abbrev S128 : Shape := ⟨1, ![128]⟩
abbrev S1x2048x256 : Shape := ⟨3, ![1, 2048, 256]⟩
abbrev S256x2048 : Shape := ⟨2, ![256, 2048]⟩
abbrev S2x144x2048 : Shape := ⟨3, ![2, 144, 2048]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S256x512 : Shape := ⟨2, ![256, 512]⟩
abbrev S128x2048 : Shape := ⟨2, ![128, 2048]⟩
abbrev S1x128x2048 : Shape := ⟨3, ![1, 128, 2048]⟩
abbrev S16x2048 : Shape := ⟨2, ![16, 2048]⟩
abbrev S1x16x2048 : Shape := ⟨3, ![1, 16, 2048]⟩
abbrev S1x256x128 : Shape := ⟨3, ![1, 256, 128]⟩
abbrev S1024x128 : Shape := ⟨2, ![1024, 128]⟩
abbrev S256x1024 : Shape := ⟨2, ![256, 1024]⟩
abbrev S512x128 : Shape := ⟨2, ![512, 128]⟩
abbrev S512x512 : Shape := ⟨2, ![512, 512]⟩
abbrev S1x512x128 : Shape := ⟨3, ![1, 512, 128]⟩
abbrev S512x1024 : Shape := ⟨2, ![512, 1024]⟩
abbrev S1x1024 : Shape := ⟨2, ![1, 1024]⟩
abbrev S144x1024 : Shape := ⟨2, ![144, 1024]⟩
abbrev S1x512 : Shape := ⟨2, ![1, 512]⟩
abbrev S144x512 : Shape := ⟨2, ![144, 512]⟩
abbrev S512 : Shape := ⟨1, ![512]⟩
abbrev S1x144x256 : Shape := ⟨3, ![1, 144, 256]⟩
abbrev S144x256 : Shape := ⟨2, ![144, 256]⟩
abbrev S1x144x512 : Shape := ⟨3, ![1, 144, 512]⟩
abbrev S128x512 : Shape := ⟨2, ![128, 512]⟩
abbrev S128x256 : Shape := ⟨2, ![128, 256]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S1x4x64, .f32⟩
  | .hbm, ⟨1, _⟩ => ⟨S1x128, .f32⟩
  | .hbm, ⟨2, _⟩ => ⟨S8x2048x1024, .bf16⟩
  | .hbm, ⟨3, _⟩ => ⟨S8x2048x1024, .bf16⟩
  | .hbm, ⟨4, _⟩ => ⟨S1024x16384, .bf16⟩
  | .hbm, ⟨5, _⟩ => ⟨S4x64, .f32⟩
  | .hbm, ⟨6, _⟩ => ⟨S128, .f32⟩
  | .hbm, ⟨7, _⟩ => ⟨S1x128, .f32⟩
  | .hbm, ⟨8, _⟩ => ⟨S8x2048x1024, .bf16⟩
  | .local _ .vmem, ⟨0, _⟩ => ⟨S4x64, .f32⟩
  | .local _ .vmem, ⟨1, _⟩ => ⟨S1x128, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S256x2048, .bf16⟩
  | .local _ .vmem, ⟨7, _⟩ => ⟨S256x2048, .bf16⟩
  | .local _ .vmem, ⟨8, _⟩ => ⟨S1x2048x256, .bf16⟩
  | .local _ .vmem, ⟨9, _⟩ => ⟨S1x2048x256, .bf16⟩
  | .local _ .vmem, ⟨10, _⟩ => ⟨S2x144x2048, .bf16⟩
  | _, _ => ⟨S1x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Softmax.lean ====
/- The softmax over the extended reals. The kernel takes it in powers of two, of scores scaled by log2(e), over the cached and
   the new frames apart, and multiplies by the reciprocal of the sum; the reference takes it by `exp` over all frames at once and
   divides. On real scores the two are the same. -/
module
public import Idealize.ShloMosaic.Lib.Pointwise
@[expose] public section
noncomputable section
namespace Cert.Layer
open Idealize.ShloMosaic

/-- The larger of the two row maxima. -/
def topOf {n p : Nat} (a : Fin n → EReal) (b : Fin p → EReal) : EReal :=
  max (Finset.fold max ⊥ a Finset.univ) (Finset.fold max ⊥ b Finset.univ)

/-- The kernel's weight of a score `s` in the row `a`, `b`. -/
def kerWeight {n p : Nat} (a : Fin n → EReal) (b : Fin p → EReal) (s : EReal) : EReal :=
  FloatOps.exp2 (F := Ideal) (φ := .f32) (s - topOf a b)
    * Ideal.div 1 (∑ x, FloatOps.exp2 (F := Ideal) (φ := .f32) (a x - topOf a b)
        + ∑ x, FloatOps.exp2 (F := Ideal) (φ := .f32) (b x - topOf a b))

/-- The reference's weight of a score `s` in the row `x`. -/
def refWeight {n : Nat} (x : Fin n → EReal) (s : EReal) : EReal :=
  Ideal.div (Ideal.exp (s - Finset.fold max ⊥ x Finset.univ))
    (∑ j, Ideal.exp (x j - Finset.fold max ⊥ x Finset.univ))

/-- The differential attention's factor of the second map, from the four rows of the parameters. -/
def lamAt (lp : Fin 4 → Fin 64 → EReal) : EReal :=
  Ideal.exp (∑ x, lp 0 x * lp 1 x) - Ideal.exp (∑ x, lp 2 x * lp 3 x) + Ideal.ofBits FTy.f32 1045220557#32

/-- The values `v` weighted by the first map's softmax less `lam` times the second's. -/
def mixAt {n d : Nat} (lam : EReal) (s0 s1 : Fin n → EReal) (v : Fin n → Fin d → EReal) (e : Fin d) : EReal :=
  ∑ j, v j e * (refWeight s0 (s0 j) - lam * refWeight s1 (s1 j))

theorem lit_bot : Ideal.ofBits FTy.f32 4286578688#32 = ⊥ := by simp [Ideal.ofBits, Ideal.ieee]

theorem lit_eighth : Ideal.ofBits FTy.f32 1040187392#32 = ((1 / 8 : ℝ) : EReal) := by
  simp [Ideal.ofBits, Ideal.ieee, -EReal.coe_mul]; norm_num

theorem lit_two : Ideal.ofBits FTy.f32 1073741824#32 = ((2 : ℝ) : EReal) := by
  simp [Ideal.ofBits, Ideal.ieee, -EReal.coe_mul]; norm_num

/-- A maximum that some term attains. -/
theorem fold_max_eq {n : Nat} (f : Fin n → EReal) (j : Fin n) (h : ∀ i, f i ≤ f j) :
    Finset.fold max ⊥ f Finset.univ = f j := by
  apply le_antisymm
  · rw [Finset.fold_max_le]
    exact ⟨bot_le, fun i _ => h i⟩
  · rw [Finset.le_fold_max]
    exact Or.inr ⟨j, Finset.mem_univ _, le_refl _⟩

/-- The maximum over `n + p` terms is the larger of the maxima over the first `n` and the last `p`. -/
theorem topOf_eq {n p N : Nat} (hN : n + p = N) (f : Fin N → EReal) :
    topOf (fun i : Fin n => f ⟨i, by omega⟩) (fun i : Fin p => f ⟨n + i, by omega⟩) = Finset.fold max ⊥ f Finset.univ := by
  unfold topOf
  apply le_antisymm
  · apply max_le
    · rw [Finset.fold_max_le]
      exact ⟨bot_le, fun i _ => by rw [Finset.le_fold_max]; exact Or.inr ⟨_, Finset.mem_univ _, le_refl _⟩⟩
    · rw [Finset.fold_max_le]
      exact ⟨bot_le, fun i _ => by rw [Finset.le_fold_max]; exact Or.inr ⟨_, Finset.mem_univ _, le_refl _⟩⟩
  · rw [Finset.fold_max_le]
    refine ⟨bot_le, fun i _ => ?_⟩
    by_cases hi : i.val < n
    · apply le_max_of_le_left
      rw [Finset.le_fold_max]
      exact Or.inr ⟨⟨i, hi⟩, Finset.mem_univ _, le_refl _⟩
    · apply le_max_of_le_right
      rw [Finset.le_fold_max]
      refine Or.inr ⟨⟨i - n, by omega⟩, Finset.mem_univ _, le_of_eq ?_⟩
      congr 1
      apply Fin.ext
      show i.val = n + (i.val - n)
      omega

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- On real scores `y`, scaled for the kernel by `1 / log 2`, the kernel's weights are the reference's. -/
theorem kerWeight_eq {n p N : Nat} (hN : n + p = N) (y : Fin N → ℝ) (i : Fin N) :
    kerWeight (fun k : Fin n => ((y ⟨k, by omega⟩ / Real.log 2 : ℝ) : EReal))
        (fun k : Fin p => ((y ⟨n + k, by omega⟩ / Real.log 2 : ℝ) : EReal)) ((y i / Real.log 2 : ℝ) : EReal)
      = refWeight (fun k => ((y k : ℝ) : EReal)) ((y i : ℝ) : EReal) := by
  have hlog : 0 < Real.log 2 := Real.log_pos (by norm_num)
  obtain ⟨t, -, ht⟩ := Finset.exists_max_image Finset.univ y ⟨i, Finset.mem_univ _⟩
  have hy : Finset.fold max ⊥ (fun k => ((y k : ℝ) : EReal)) Finset.univ = ((y t : ℝ) : EReal) :=
    fold_max_eq _ t fun k => EReal.coe_le_coe_iff.2 (ht k (Finset.mem_univ _))
  have htop : topOf (fun k : Fin n => ((y ⟨k, by omega⟩ / Real.log 2 : ℝ) : EReal))
      (fun k : Fin p => ((y ⟨n + k, by omega⟩ / Real.log 2 : ℝ) : EReal)) = ((y t / Real.log 2 : ℝ) : EReal) := by
    refine (topOf_eq hN fun k => ((y k / Real.log 2 : ℝ) : EReal)).trans ?_
    exact fold_max_eq _ t fun k =>
      EReal.coe_le_coe_iff.2 (div_le_div_of_nonneg_right (ht k (Finset.mem_univ _)) hlog.le)
  have hexp : ∀ a : ℝ, FloatOps.exp2 (F := Ideal) (φ := .f32) (((a / Real.log 2 : ℝ) : EReal) - ((y t / Real.log 2 : ℝ) : EReal))
      = ((Real.exp (a - y t) : ℝ) : EReal) := by
    intro a
    rw [← EReal.coe_sub]
    show Ideal.exp2 _ = _
    rw [Ideal.exp2_coe]
    congr 1
    refine (Real.rpow_def_of_pos (by norm_num : (0 : ℝ) < 2) _).trans ?_
    rw [← sub_div, mul_div_cancel₀ _ hlog.ne']
  have hexp' : ∀ a : ℝ, Ideal.exp (((a : ℝ) : EReal) - ((y t : ℝ) : EReal)) = ((Real.exp (a - y t) : ℝ) : EReal) := by
    intro a
    rw [← EReal.coe_sub]
    rfl
  unfold kerWeight refWeight
  rw [htop, hy]
  simp only [hexp, hexp', sum_coe]
  rw [← EReal.coe_add]
  have hsum : (∑ x : Fin n, Real.exp (y ⟨x, by omega⟩ - y t)) + ∑ x : Fin p, Real.exp (y ⟨n + x, by omega⟩ - y t)
      = ∑ k, Real.exp (y k - y t) := by
    subst hN
    rw [Fin.sum_univ_add]
    rfl
  rw [hsum]
  have hpos : 0 < ∑ k, Real.exp (y k - y t) := Finset.sum_pos (fun _ _ => Real.exp_pos _) ⟨i, Finset.mem_univ _⟩
  rw [Ideal.div_coe hpos.ne', Ideal.div_coe hpos.ne', one_mul]

/-- The scale the kernel's queries carry: 1/8 in units of log 2. -/
theorem scale_eq : Ideal.div (Ideal.ofBits FTy.f32 1040187392#32) (Ideal.log (Ideal.ofBits FTy.f32 1073741824#32))
    = ((1 / 8 / Real.log 2 : ℝ) : EReal) := by
  have hlog : Real.log 2 ≠ 0 := (Real.log_pos (by norm_num)).ne'
  rw [lit_eighth, lit_two, Ideal.log_coe, if_neg (by norm_num), Ideal.div_coe hlog, ← EReal.coe_mul]
  congr 1
  ring

/-- A product of scaled real queries with real keys is the scaled product. -/
theorem score_coe {n : Nat} (q k : Fin n → ℝ) (c : ℝ) :
    ∑ x, (((q x : ℝ) : EReal) * ((c / Real.log 2 : ℝ) : EReal)) * ((k x : ℝ) : EReal)
      = (((∑ x, q x * k x) * c / Real.log 2 : ℝ) : EReal) := by
  simp only [← EReal.coe_mul, sum_coe]
  congr 1
  rw [Finset.sum_mul, Finset.sum_div]
  exact Finset.sum_congr rfl fun x _ => by ring

/-- The kernel's mix of values over the cached and the new frames is the reference's over all of them. -/
theorem mixAt_eq {n p N d : Nat} (hN : n + p = N) (lam : EReal) (y0 y1 : Fin N → ℝ) (v : Fin N → Fin d → EReal) (e : Fin d)
    (a0 a1 : Fin n → EReal) (b0 b1 : Fin p → EReal)
    (ha0 : a0 = fun k : Fin n => ((y0 ⟨k, by omega⟩ / Real.log 2 : ℝ) : EReal))
    (ha1 : a1 = fun k : Fin n => ((y1 ⟨k, by omega⟩ / Real.log 2 : ℝ) : EReal))
    (hb0 : b0 = fun k : Fin p => ((y0 ⟨n + k, by omega⟩ / Real.log 2 : ℝ) : EReal))
    (hb1 : b1 = fun k : Fin p => ((y1 ⟨n + k, by omega⟩ / Real.log 2 : ℝ) : EReal)) :
    ∑ j : Fin n, (kerWeight a0 b0 (a0 j) - lam * kerWeight a1 b1 (a1 j)) * v ⟨j, by omega⟩ e
        + ∑ j : Fin p, (kerWeight a0 b0 (b0 j) - lam * kerWeight a1 b1 (b1 j)) * v ⟨n + j, by omega⟩ e
      = mixAt lam (fun j => ((y0 j : ℝ) : EReal)) (fun j => ((y1 j : ℝ) : EReal)) v e := by
  subst ha0 ha1 hb0 hb1
  simp only [kerWeight_eq hN y0, kerWeight_eq hN y1, mixAt]
  subst hN
  rw [Fin.sum_univ_add]
  refine congrArg₂ (· + ·) (Finset.sum_congr rfl fun j _ => ?_) (Finset.sum_congr rfl fun j _ => ?_)
  · exact mul_comm _ _
  · exact mul_comm _ _

end Cert.Layer
end
-- ==== Proof.Finite.lean ====
/- What the precondition says: an array whose magnitudes are all below infinity is an array of reals. -/
module
public import proofs.«01_k».proof.Proof.Softmax
public import proofs.«01_k».proof.Defs
@[expose] public section
noncomputable section
namespace Cert.Layer
open Idealize.ShloMosaic

/-- The bound the precondition compares with is infinity. -/
theorem lit_top : Ideal.ofBits FTy.f32 2139095040#32 = (⊤ : EReal) := by
  simp [Ideal.ofBits, Ideal.ieee]

/-- A magnitude below infinity is a real's. -/
theorem real_of_below (a : EReal) (h : FloatOps.cmpf (F := Ideal) (φ := .f32) .olt (FloatOps.absf (F := Ideal) (φ := .f32) a) (Ideal.ofBits FTy.f32 2139095040#32) = 1#1) :
    ∃ r : ℝ, a = (r : EReal) := by
  rw [lit_top] at h
  induction a with
  | bot => simp [FloatOps.cmpf, FloatOps.absf, Ideal.cmp] at h
  | top => simp [FloatOps.cmpf, FloatOps.absf, Ideal.cmp] at h
  | coe r => exact ⟨r, rfl⟩

/-- An array all of whose magnitudes lie below infinity is an array of reals. -/
theorem reals_of_below {s : Shape} (x : FVec Ideal s .f32) (h : ∀ i, FloatOps.cmpf (F := Ideal) (φ := .f32) .olt
      (FloatOps.absf (F := Ideal) (φ := .f32) (x i)) (Ideal.ofBits FTy.f32 2139095040#32) = 1#1) :
    ∃ r : s.Idx → ℝ, ∀ i, x i = ((r i : ℝ) : EReal) :=
  ⟨fun i => (real_of_below _ (h i)).choose, fun i => (real_of_below _ (h i)).choose_spec⟩

end Cert.Layer
end
-- ==== Proof.Spec.lean ====
/- The layer's mathematics at one row: the residual with the projected attention, the root-mean-square norm, the squared-ReLU
   MLP, over the extended reals. Kernel and reference both are read at an index as these functions. -/
module
public import Idealize.ShloMosaic.Lib.Pointwise
@[expose] public section
noncomputable section
namespace Cert.Layer
open Idealize.ShloMosaic

/-- The root-mean-square norm of a row `x` with gains `g`; `cnt` is the literal of the row's length. -/
def rmsAt {n : Nat} (cnt : BitVec 32) (x g : Fin n → EReal) (j : Fin n) : EReal :=
  x j * Ideal.rsqrt (Ideal.div (∑ k, x k * x k) (Ideal.ofBits FTy.f32 cnt) + Ideal.ofBits FTy.f32 897988541#32) * g j

/-- A row `x` plus the row `o` times the matrix `w`. -/
def residAt (x o : Fin 1024 → EReal) (w : Fin 1024 → Fin 1024 → EReal) (j : Fin 1024) : EReal :=
  x j + ∑ k, o k * w k j

/-- One hidden unit of the MLP before its square. -/
def unitAt (hn : Fin 1024 → EReal) (w1 : Fin 1024 → Fin 4096 → EReal) (f : Fin 4096) : EReal :=
  max (∑ k, hn k * w1 k f) 0

/-- The MLP's output at one column. -/
def mlpAt (hn : Fin 1024 → EReal) (w1 : Fin 1024 → Fin 4096 → EReal) (w2 : Fin 4096 → Fin 1024 → EReal) (j : Fin 1024) :
    EReal :=
  ∑ f, unitAt hn w1 f * unitAt hn w1 f * w2 f j

/-- The half layer after the attention at one row: residual, norm, MLP, residual. -/
def postAt (x o : Fin 1024 → EReal) (w : Fin 1024 → Fin 1024 → EReal) (g : Fin 1024 → EReal)
    (w1 : Fin 1024 → Fin 4096 → EReal) (w2 : Fin 4096 → Fin 1024 → EReal) (j : Fin 1024) : EReal :=
  residAt x o w j + mlpAt (rmsAt 1149239296#32 (residAt x o w) g) w1 w2 j

/-- The MLP's sum over its 4096 hidden units, taken as four sums over 1024 of them. -/
theorem mlpAt_tiles (hn : Fin 1024 → EReal) (w1 : Fin 1024 → Fin 4096 → EReal) (w2 : Fin 4096 → Fin 1024 → EReal)
    (j : Fin 1024) :
    mlpAt hn w1 w2 j =
      ((∑ x : Fin 1024, unitAt hn w1 ⟨x, by omega⟩ * unitAt hn w1 ⟨x, by omega⟩ * w2 ⟨x, by omega⟩ j
        + ∑ x : Fin 1024, unitAt hn w1 ⟨1024 + x, by omega⟩ * unitAt hn w1 ⟨1024 + x, by omega⟩ * w2 ⟨1024 + x, by omega⟩ j)
        + ∑ x : Fin 1024, unitAt hn w1 ⟨2048 + x, by omega⟩ * unitAt hn w1 ⟨2048 + x, by omega⟩ * w2 ⟨2048 + x, by omega⟩ j)
        + ∑ x : Fin 1024, unitAt hn w1 ⟨3072 + x, by omega⟩ * unitAt hn w1 ⟨3072 + x, by omega⟩ * w2 ⟨3072 + x, by omega⟩ j := by
  unfold mlpAt
  rw [Fin.sum_univ_tiles 4 1024 rfl fun f => unitAt hn w1 f * unitAt hn w1 f * w2 f j]
  simp only [Fin.sum_univ_four, Fin.val_zero, Fin.val_one, Fin.val_two, Nat.zero_mul, Nat.zero_add, Nat.one_mul]
  rfl

end Cert.Layer
end
-- ==== Proof.RefPost.lean ====
/- The reference's first result, the prompt after the first layer's second half, read at an index. -/
module
public import proofs.«01_k».proof.Proof.Gen.ReferenceIdeal.Run
public import proofs.«01_k».proof.Proof.Spec
@[expose] public section
set_option maxRecDepth 16384
noncomputable section
namespace Cert.ReferenceIdeal.Value
open Cert.ReferenceIdeal Cert.ReferenceIdeal.Gen Idealize.ShloMosaic Idealize.ShloMosaic.TcCoe Idealize.SL.Sem Cert.Layer

/-- The residual with the projected attention. -/
def refResid (x o : FVec Ideal S8x2048x1024 .f32) (w : FVec Ideal S1x1024x1024 .f32) : FVec Ideal S8x2048x1024 .f32 :=
  addf x (Host.dotGeneral dot_S8x2048x1024_S1024x1024_S8x2048x1024_2_0_01_1_n_n none o
    (shapeCast _ w shapeCasts_S1x1024x1024_S1024x1024))

/-- The norm of every row. -/
def refNorm (h : FVec Ideal S8x2048x1024 .f32) (g : FVec Ideal S2x1024 .f32) : FVec Ideal S8x2048x1024 .f32 :=
  mulf (mulf h (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf h h) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] g slices_S2x1024_S1x1024_0_0) shapeCasts_S1x1024_S1024)))

/-- The hidden units. -/
def refUnit (hn : FVec Ideal S8x2048x1024 .f32) (w1 : FVec Ideal S2x1024x4096 .f32) : FVec Ideal S8x2048x4096 .f32 :=
  maximumf (Host.dotGeneral dot_S8x2048x1024_S1024x4096_S8x2048x4096_2_0_01_1_n_n none hn (shapeCast _ (extractStridedSlice S1x1024x4096 ![0, 0, 0] w1 slices_S2x1024x4096_S1x1024x4096_0_0_0) shapeCasts_S1x1024x4096_S1024x4096)) (broadcastInDim S8x2048x4096 ![] bcast_S_S8x2048x4096 (constant S_ .f32 0x00000000#32))

/-- The MLP's output added to the residual. -/
def refMlp (h : FVec Ideal S8x2048x1024 .f32) (u : FVec Ideal S8x2048x4096 .f32) (w2 : FVec Ideal S2x4096x1024 .f32) :
    FVec Ideal S8x2048x1024 .f32 :=
  addf h (Host.dotGeneral dot_S8x2048x4096_S4096x1024_S8x2048x1024_2_0_01_1_n_n none (mulf u u) (shapeCast _ (extractStridedSlice S1x4096x1024 ![0, 0, 0] w2 slices_S2x4096x1024_S1x4096x1024_0_0_0) shapeCasts_S1x4096x1024_S4096x1024))

theorem refResid_at (x o : FVec Ideal S8x2048x1024 .f32) (w : FVec Ideal S1x1024x1024 .f32) (a : Fin 8) (b : Fin 2048)
    (j : Fin 1024) :
    refResid x o w (ix3 a b j) = residAt (fun k => x (ix3 a b k)) (fun k => o (ix3 a b k)) (fun k j => w (ix3 0 k j)) j := by
  pointwise [refResid, residAt]

theorem refNorm_at (h : FVec Ideal S8x2048x1024 .f32) (g : FVec Ideal S2x1024 .f32) (a : Fin 8) (b : Fin 2048)
    (j : Fin 1024) :
    refNorm h g (ix3 a b j) = rmsAt 1149239296#32 (fun k => h (ix3 a b k)) (fun k => g (ix2 0 k)) j := by
  pointwise [refNorm, rmsAt]

theorem refUnit_at (hn : FVec Ideal S8x2048x1024 .f32) (w1 : FVec Ideal S2x1024x4096 .f32) (a : Fin 8) (b : Fin 2048)
    (f : Fin 4096) :
    refUnit hn w1 (ix3 a b f) = unitAt (fun k => hn (ix3 a b k)) (fun k f => w1 (ix3 0 k f)) f := by
  pointwise [refUnit, unitAt]

theorem refMlp_at (h : FVec Ideal S8x2048x1024 .f32) (u : FVec Ideal S8x2048x4096 .f32) (w2 : FVec Ideal S2x4096x1024 .f32)
    (a : Fin 8) (b : Fin 2048) (j : Fin 1024) :
    refMlp h u w2 (ix3 a b j) = h (ix3 a b j) + ∑ f : Fin 4096, u (ix3 a b f) * u (ix3 a b f) * w2 (ix3 0 f j) := by
  pointwise [refMlp]

/-- The reference's first result as a function of its arrays. -/
def refPost (x o : FVec Ideal S8x2048x1024 .f32) (w : FVec Ideal S1x1024x1024 .f32) (g : FVec Ideal S2x1024 .f32)
    (w1 : FVec Ideal S2x1024x4096 .f32) (w2 : FVec Ideal S2x4096x1024 .f32) : FVec Ideal S16384x1024 .f32 :=
  shapeCast _ (refMlp (refResid x o w) (refUnit (refNorm (refResid x o w) g) w1) w2) shapeCasts_S8x2048x1024_S16384x1024

theorem refPost_at (x o : FVec Ideal S8x2048x1024 .f32) (w : FVec Ideal S1x1024x1024 .f32) (g : FVec Ideal S2x1024 .f32)
    (w1 : FVec Ideal S2x1024x4096 .f32) (w2 : FVec Ideal S2x4096x1024 .f32) (r : Fin 16384) (j : Fin 1024) :
    refPost x o w g w1 w2 (ix2 r j)
      = postAt (fun k => x (ix3 ⟨r / 2048, by omega⟩ ⟨r % 2048, by omega⟩ k))
          (fun k => o (ix3 ⟨r / 2048, by omega⟩ ⟨r % 2048, by omega⟩ k)) (fun k j => w (ix3 0 k j)) (fun k => g (ix2 0 k))
          (fun k f => w1 (ix3 0 k f)) (fun f j => w2 (ix3 0 f j)) j := by
  pointwise [refPost]
  rw [refMlp_at]
  simp only [refUnit_at, refNorm_at, refResid_at, postAt, mlpAt]

theorem res_main_v27_eq (m : (ℓ : Loc nD τ sig) → Buf (Elt Ideal) ℓ) (c : Dev nD) :
    res_main_v27 m c = refPost (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

end Cert.ReferenceIdeal.Value
end
-- ==== Proof.Post.lean ====
/- The kernel's first result: each grid step's block of the prompt after the first layer's second half is the reference's. -/
module
public import proofs.«01_k».proof.Proof.Gen.KernelIdeal.Value
public import proofs.«01_k».proof.Proof.RefPost
public import Idealize.ShloMosaic.Lib.Pipeline.ValueKit
@[expose] public section
set_option maxRecDepth 16384
noncomputable section
namespace Cert.KernelIdeal.Value
open Cert.KernelIdeal Cert.KernelIdeal.Gen Idealize.ShloMosaic Idealize.ShloMosaic.TcCoe Idealize.SL.Sem Cert.Layer
open Idealize.ShloMosaic.Pipeline (Dat)

/-- The body's residual rows. -/
theorem resid_at (x : FVec Ideal S512x1024 .f32) (o : FVec Ideal S512x1024 .bf16) (w : FVec Ideal S1024x1024 .bf16)
    (r : Fin 512) (j : Fin 1024) :
    k0_pay22 (F := Ideal) x o w (ix2 r j) = residAt (fun k => x (ix2 r k)) (fun k => o (ix2 r k)) (fun k j => w (ix2 k j)) j := by
  pointwise [k0_pay22, residAt]

/-- The body's normed rows. -/
theorem norm_at (x : FVec Ideal S512x1024 .f32) (o : FVec Ideal S512x1024 .bf16) (w : FVec Ideal S1024x1024 .bf16)
    (g : FVec Ideal S1x1024 .f32) (r : Fin 512) (j : Fin 1024) :
    k0_pay23 (F := Ideal) x o w g (ix2 r j)
      = rmsAt 1149239296#32 (residAt (fun k => x (ix2 r k)) (fun k => o (ix2 r k)) fun k j => w (ix2 k j))
          (fun k => g (ix2 0 k)) j := by
  pointwise [k0_pay23, k0_pay22, residAt, rmsAt]

/-- The body's four chunks of the MLP, at one row, are the MLP over its 4096 hidden units. -/
theorem chunks_at (h : FVec Ideal S512x1024 .f32) (hn : FVec Ideal S512x1024 .bf16)
    (a0 a1 a2 a3 b0 b1 b2 b3 : FVec Ideal S1x1024x1024 .bf16)
    (w1 : Fin 1024 → Fin 4096 → EReal) (w2 : Fin 4096 → Fin 1024 → EReal)
    (ha0 : ∀ k f : Fin 1024, a0 (ix3 0 k f) = w1 k ⟨f, by omega⟩)
    (ha1 : ∀ k f : Fin 1024, a1 (ix3 0 k f) = w1 k ⟨1024 + f, by omega⟩)
    (ha2 : ∀ k f : Fin 1024, a2 (ix3 0 k f) = w1 k ⟨2048 + f, by omega⟩)
    (ha3 : ∀ k f : Fin 1024, a3 (ix3 0 k f) = w1 k ⟨3072 + f, by omega⟩)
    (hb0 : ∀ f j : Fin 1024, b0 (ix3 0 f j) = w2 ⟨f, by omega⟩ j)
    (hb1 : ∀ f j : Fin 1024, b1 (ix3 0 f j) = w2 ⟨1024 + f, by omega⟩ j)
    (hb2 : ∀ f j : Fin 1024, b2 (ix3 0 f j) = w2 ⟨2048 + f, by omega⟩ j)
    (hb3 : ∀ f j : Fin 1024, b3 (ix3 0 f j) = w2 ⟨3072 + f, by omega⟩ j)
    (r : Fin 512) (j : Fin 1024) :
    k0_pay2 h (k0_pay108 (k0_pay79 (k0_pay49 (k0_pay35 hn a0) b0) (k0_pay64 hn a1) b1) (k0_pay94 hn a2) b2)
        (k0_pay120 hn a3) b3 (ix2 r j)
      = h (ix2 r j) + mlpAt (fun k => hn (ix2 r k)) w1 w2 j := by
  rw [mlpAt_tiles]
  pointwise [k0_pay2, k0_pay108, k0_pay79, k0_pay49, k0_pay35, k0_pay64, k0_pay94, k0_pay120]
  simp only [ha0, ha1, ha2, ha3, hb0, hb1, hb2, hb3, unitAt]

variable (m : (ℓ : Loc nD τ sig) → Buf (Elt Ideal) ℓ)

/-- The host-prepared operands at an index, in the arguments. -/
theorem V_x (c : Dev nD) (r : Fin 16384) (j : Fin 1024) :
    V m c main_v12 (ix2 r j) = m ((c.tc : Thread nD τ).loc main_arg0) (ix3 ⟨r / 2048, by omega⟩ ⟨r % 2048, by omega⟩ j) := by
  entry_read; pointwise; try rfl
theorem V_o (c : Dev nD) (r : Fin 16384) (j : Fin 1024) :
    V m c main_v14 (ix2 r j) = m ((c.tc : Thread nD τ).loc main_arg1) (ix3 ⟨r / 2048, by omega⟩ ⟨r % 2048, by omega⟩ j) := by
  entry_read; pointwise; try rfl
theorem V_w (c : Dev nD) (k j : Fin 1024) :
    V m c main_v1 (ix2 k j) = m ((c.tc : Thread nD τ).loc main_arg2) (ix3 0 k j) := by
  entry_read; pointwise; try rfl
theorem V_g (c : Dev nD) (j : Fin 1024) :
    V m c main_v6 (ix2 0 j) = m ((c.tc : Thread nD τ).loc main_arg3) (ix2 0 j) := by
  entry_read; pointwise; try rfl
theorem V_w1 (c : Dev nD) (l : Fin 2) (k : Fin 1024) (f : Fin 4096) :
    V m c main_v2 (ix3 l k f) = m ((c.tc : Thread nD τ).loc main_arg4) (ix3 l k f) := by
  entry_read; pointwise; try rfl
theorem V_w2 (c : Dev nD) (l : Fin 2) (f : Fin 4096) (j : Fin 1024) :
    V m c main_v3 (ix3 l f j) = m ((c.tc : Thread nD τ).loc main_arg5) (ix3 l f j) := by
  entry_read; pointwise; try rfl

/-- Where the windows lie at each grid step. -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![0, 0]
    ∧ win0_7.index t = ![0, 0] ∧ win0_8.index t = ![t.val, 0, 0] ∧ win0_9.index t = ![t.val, 0, 0]
    ∧ win0_10.index t = ![t.val, 0, 0] ∧ win0_11.index t = ![t.val, 0, 0] ∧ win0_12.index t = ![t.val, 0, 0]
    ∧ win0_13.index t = ![t.val, 0] ∧ win0_14.index t = ![t.val, 0, 0] :=
  (by decide +kernel : ∀ t : Fin grid0.N, _)

theorem lt_N (t : Fin cfg0.N) : t.val < 32 := t.isLt.trans_eq N_0

/-- The blocks of the operands at an index, in the arguments. -/
theorem blk_x (c : Dev nD) (t : Fin cfg0.N) (i : Fin 512) (j : Fin 1024) :
    iblk m c 0 t (ix2 i j) = m ((c.tc : Thread nD τ).loc main_arg0)
      (ix3 ⟨(t.val * 512 + i) / 2048, by have := lt_N t; omega⟩ ⟨(t.val * 512 + i) % 2048, by omega⟩ j) := by
  refine Eq.trans ?_ (V_x m c ⟨t.val * 512 + i, by have := lt_N t; omega⟩ j)
  blk_simp [iblk]
  blk_point [idx t]
theorem blk_o (c : Dev nD) (t : Fin cfg0.N) (i : Fin 512) (j : Fin 1024) :
    iblk m c 1 t (ix2 i j) = m ((c.tc : Thread nD τ).loc main_arg1)
      (ix3 ⟨(t.val * 512 + i) / 2048, by have := lt_N t; omega⟩ ⟨(t.val * 512 + i) % 2048, by omega⟩ j) := by
  refine Eq.trans ?_ (V_o m c ⟨t.val * 512 + i, by have := lt_N t; omega⟩ j)
  blk_simp [iblk]
  blk_point [idx t]
theorem blk_w (c : Dev nD) (t : Fin cfg0.N) (k j : Fin 1024) :
    iblk m c 2 t (ix2 k j) = m ((c.tc : Thread nD τ).loc main_arg2) (ix3 0 k j) := by
  refine Eq.trans ?_ (V_w m c k j)
  blk_simp [iblk]
  blk_point [idx t]
theorem blk_g (c : Dev nD) (t : Fin cfg0.N) (j : Fin 1024) :
    iblk m c 3 t (ix2 0 j) = m ((c.tc : Thread nD τ).loc main_arg3) (ix2 0 j) := by
  refine Eq.trans ?_ (V_g m c j)
  blk_simp [iblk]
  blk_point [idx t]
theorem blk_w1 (c : Dev nD) (t : Fin cfg0.N) (k : Fin 1024) (f : Fin 4096) :
    iblk m c 4 t (ix3 0 k f) = m ((c.tc : Thread nD τ).loc main_arg4) (ix3 0 k f) := by
  refine Eq.trans ?_ (V_w1 m c 0 k f)
  blk_simp [iblk]
  blk_point [idx t]
theorem blk_w2 (c : Dev nD) (t : Fin cfg0.N) (f : Fin 4096) (j : Fin 1024) :
    iblk m c 5 t (ix3 0 f j) = m ((c.tc : Thread nD τ).loc main_arg5) (ix3 0 f j) := by
  refine Eq.trans ?_ (V_w2 m c 0 f j)
  blk_simp [iblk]
  blk_point [idx t]

set_option maxHeartbeats 1000000 in
/-- The kernel's first result is the reference's. -/
theorem final13 (c : Dev nD) :
    (dats m 0 c).arrAt 13 cfg0.N
      = Cert.ReferenceIdeal.Value.refPost (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (dats m 0 c).arrAt_eq_of_covers 13 _ (by decide +kernel) fun t _ y => ?_
  have hout : ∀ (i : Fin 512) (j : Fin 1024), ((View.whole main_v25_0).slice (win0_13.rect t)).emb (ix2 i j)
      = ix2 ⟨t.val * 512 + i, by have := lt_N t; omega⟩ j := by
    intro i j
    blk_ext [idx t]
  blk_simp
  rw [after0_13]
  unfold outsAt0
  frame_out
  obtain ⟨i, j, rfl⟩ : ∃ (i : Fin 512) (j : Fin 1024), y = ix2 i j := ⟨y 0, y 1, by funext a; fin_cases a <;> rfl⟩
  refine (chunks_at _ _ _ _ _ _ _ _ _ _ (fun k f => m ((c.tc : Thread nD τ).loc main_arg4) (ix3 0 k f))
    (fun f j => m ((c.tc : Thread nD τ).loc main_arg5) (ix3 0 f j)) ?_ ?_ ?_ ?_ ?_ ?_ ?_ ?_ i j).trans ?_
  case refine_9 =>
    rw [hout, Cert.ReferenceIdeal.Value.refPost_at]
    simp only [resid_at, norm_at, blk_x, blk_o, blk_w, blk_g, postAt]
  case refine_1 | refine_2 | refine_3 | refine_4 =>
    intro k f
    pointwise
    exact blk_w1 m c t _ _
  all_goals
    intro f j
    pointwise
    exact blk_w2 m c t _ _

end Cert.KernelIdeal.Value
end
-- ==== Proof.Head.lean ====
/- One head of the kernel's differential attention, read at an index. -/
module
public import proofs.«01_k».proof.Proof.Gen.KernelIdeal.Skeleton
public import proofs.«01_k».proof.Proof.Spec
public import proofs.«01_k».proof.Proof.Softmax
@[expose] public section
set_option maxRecDepth 16384
noncomputable section
namespace Cert.KernelIdeal.Value
open Cert.KernelIdeal Cert.KernelIdeal.Gen Idealize.ShloMosaic Idealize.ShloMosaic.TcCoe Idealize.SL.Sem Cert.Layer

/-- The lane mask of the first map. -/
theorem lane_lt (x : Fin 128) (y : EReal) :
    Scalar.select (IntOp.cmpi CmpIPredicate.slt (BitVec.ofNat 32 x.val) 64#32) y 0 = if x.val < 64 then y else 0 := by
  have h : IntOp.cmpi CmpIPredicate.slt (BitVec.ofNat 32 x.val) 64#32 = if x.val < 64 then 1#1 else 0#1 := by
    revert x; decide +kernel
  rw [h]; split_ifs <;> rfl

/-- The lane mask of the second map. -/
theorem lane_ge (x : Fin 128) (y : EReal) :
    Scalar.select (IntOp.cmpi CmpIPredicate.sge (BitVec.ofNat 32 x.val) 64#32) y 0 = if x.val < 64 then 0 else y := by
  have h : IntOp.cmpi CmpIPredicate.sge (BitVec.ofNat 32 x.val) 64#32 = if x.val < 64 then 0#1 else 1#1 := by
    revert x; decide +kernel
  rw [h]; split_ifs <;> rfl

/-- A product over 128 lanes of which the upper are masked off is one over the lower 64. -/
theorem lower_half (f : Fin 128 → EReal) :
    ∑ x : Fin 128, Scalar.select (IntOp.cmpi CmpIPredicate.slt (BitVec.ofNat 32 x.val) 64#32) (f x) 0
      = ∑ x : Fin 64, f ⟨x, by omega⟩ := by
  simp only [lane_lt]
  rw [Fin.sum_univ_two_halves 64 64 rfl]
  have h : ∀ x : Fin 64, ¬ (64 + x.val < 64) := fun x => by omega
  simp only [Fin.is_lt, if_true, h, if_false, Finset.sum_const_zero, add_zero]

/-- And with the lower masked off, one over the upper 64. -/
theorem upper_half (f : Fin 128 → EReal) :
    ∑ x : Fin 128, Scalar.select (IntOp.cmpi CmpIPredicate.sge (BitVec.ofNat 32 x.val) 64#32) (f x) 0
      = ∑ x : Fin 64, f ⟨64 + x, by omega⟩ := by
  simp only [lane_ge]
  rw [Fin.sum_univ_two_halves 64 64 rfl]
  have h : ∀ x : Fin 64, ¬ (64 + x.val < 64) := fun x => by omega
  simp only [Fin.is_lt, if_true, h, if_false, Finset.sum_const_zero, zero_add]

section Scores
variable (q kn : FVec Ideal S1x32x128 .bf16) (kc : FVec Ideal S1x1024x128 .f32)

/-- The scores of both maps against the cached keys. -/
theorem cached0 (i : Fin 32) (j : Fin 1024) :
    k0_pay6 (F := Ideal) q kc (ix2 ⟨i, by omega⟩ j) = ∑ x : Fin 64, q (ix3 0 i ⟨x, by omega⟩) * kc (ix3 0 j ⟨x, by omega⟩) := by
  pointwise [k0_pay6, k0_pay5]
  exact lower_half fun x => q (ix3 0 i x) * kc (ix3 0 j x)
theorem cached1 (i : Fin 32) (j : Fin 1024) :
    k0_pay6 (F := Ideal) q kc (ix2 ⟨32 + i, by omega⟩ j)
      = ∑ x : Fin 64, q (ix3 0 i ⟨64 + x, by omega⟩) * kc (ix3 0 j ⟨64 + x, by omega⟩) := by
  pointwise [k0_pay6, k0_pay5]
  exact upper_half fun x => q (ix3 0 i x) * kc (ix3 0 j x)
/-- The scores of both maps against the new keys. -/
theorem new0 (i j : Fin 32) :
    k0_pay7 (F := Ideal) q kn (ix2 ⟨i, by omega⟩ j) = ∑ x : Fin 64, q (ix3 0 i ⟨x, by omega⟩) * kn (ix3 0 j ⟨x, by omega⟩) := by
  pointwise [k0_pay7, k0_pay5]
  exact lower_half fun x => q (ix3 0 i x) * kn (ix3 0 j x)
theorem new1 (i j : Fin 32) :
    k0_pay7 (F := Ideal) q kn (ix2 ⟨32 + i, by omega⟩ j)
      = ∑ x : Fin 64, q (ix3 0 i ⟨64 + x, by omega⟩) * kn (ix3 0 j ⟨64 + x, by omega⟩) := by
  pointwise [k0_pay7, k0_pay5]
  exact upper_half fun x => q (ix3 0 i x) * kn (ix3 0 j x)
end Scores

section Weights
variable (a : FVec Ideal S64x1024 .f32) (b : FVec Ideal S64x32 .f32)

theorem weight_cached (r : Fin 64) (j : Fin 1024) :
    k0_pay15 (F := Ideal) a b (ix2 r j) = kerWeight (fun x => a (ix2 r x)) (fun x => b (ix2 r x)) (a (ix2 r j)) := by
  pointwise [k0_pay15, k0_pay14, k0_pay12, k0_pay13, k0_pay11, kerWeight, topOf, lit_bot]
theorem weight_new (r : Fin 64) (j : Fin 32) :
    k0_pay16 (F := Ideal) a b (ix2 r j) = kerWeight (fun x => a (ix2 r x)) (fun x => b (ix2 r x)) (b (ix2 r j)) := by
  pointwise [k0_pay16, k0_pay14, k0_pay12, k0_pay13, k0_pay11, kerWeight, topOf, lit_bot]
theorem diff_cached (l : FVec Ideal S1x1 .f32) (i : Fin 32) (j : Fin 1024) :
    k0_pay20 (F := Ideal) (k0_pay17 a b) (k0_pay18 a b) (k0_pay19 l) (ix2 i j)
      = k0_pay15 a b (ix2 ⟨i, by omega⟩ j) - l (ix2 0 0) * k0_pay15 a b (ix2 ⟨32 + i, by omega⟩ j) := by
  pointwise [k0_pay20, k0_pay17, k0_pay18, k0_pay19]
theorem diff_new (l : FVec Ideal S1x1 .f32) (p : FVec Ideal S64x32 .f32) (i j : Fin 32) :
    k0_pay21 (F := Ideal) l p (ix2 i j) = p (ix2 ⟨i, by omega⟩ j) - l (ix2 0 0) * p (ix2 ⟨32 + i, by omega⟩ j) := by
  pointwise [k0_pay21]
end Weights

theorem lam_at (lp : FVec Ideal S4x64 .f32) : k0_pay3 (F := Ideal) lp (ix2 0 0) = lamAt fun a x => lp (ix2 a x) := by
  pointwise [k0_pay3, lamAt]

/-- The mixed values, normed and scaled. -/
theorem out_at (g : FVec Ideal S1x128 .f32) (a : FVec Ideal S32x1024 .bf16) (b : FVec Ideal S32x32 .bf16)
    (vc : FVec Ideal S1x1024x128 .f32) (vn : FVec Ideal S1x32x128 .bf16) (i : Fin 32) (e : Fin 128) :
    k0_pay34 (F := Ideal) (k0_pay4 g) a b (k0_pay33 vc) vn (ix3 0 i e)
      = rmsAt 1124073472#32 (fun e => ∑ x, a (ix2 i x) * vc (ix3 0 x e) + ∑ x, b (ix2 i x) * vn (ix3 0 x e))
          (fun e => g (ix2 0 e)) e * Ideal.ofBits FTy.f32 1061997773#32 := by
  pointwise [k0_pay34, k0_pay33, k0_pay4, rmsAt]

/-- One head of the body: its scores, weights, mixed values and norm. -/
def headOf (lp : FVec Ideal S4x64 .f32) (sg : FVec Ideal S1x128 .f32) (q kn vn : FVec Ideal S1x32x128 .bf16)
    (kc vc : FVec Ideal S1x1024x128 .f32) : FVec Ideal S1x32x128 .bf16 :=
  k0_pay34 (k0_pay4 sg)
    (k0_pay20 (k0_pay17 (k0_pay6 q kc) (k0_pay7 q kn)) (k0_pay18 (k0_pay6 q kc) (k0_pay7 q kn)) (k0_pay19 (k0_pay3 lp)))
    (k0_pay21 (k0_pay3 lp) (k0_pay16 (k0_pay6 q kc) (k0_pay7 q kn))) (k0_pay33 vc) vn

/-- One head at an index, when its queries and keys are real: the reference's mix of the values, normed and scaled. -/
theorem headOf_at (lp : FVec Ideal S4x64 .f32) (sg : FVec Ideal S1x128 .f32) (q kn vn : FVec Ideal S1x32x128 .bf16)
    (kc vc : FVec Ideal S1x1024x128 .f32) (Q : Fin 2 → Fin 32 → Fin 64 → ℝ) (K : Fin 2 → Fin 1056 → Fin 64 → ℝ)
    (v : Fin 1056 → Fin 128 → EReal)
    (hq0 : ∀ (i : Fin 32) (x : Fin 64), q (ix3 0 i ⟨x, by omega⟩) = ((Q 0 i x : ℝ) : EReal) * ((1 / 8 / Real.log 2 : ℝ) : EReal))
    (hq1 : ∀ (i : Fin 32) (x : Fin 64),
      q (ix3 0 i ⟨64 + x, by omega⟩) = ((Q 1 i x : ℝ) : EReal) * ((1 / 8 / Real.log 2 : ℝ) : EReal))
    (hc0 : ∀ (j : Fin 1024) (x : Fin 64), kc (ix3 0 j ⟨x, by omega⟩) = ((K 0 ⟨j, by omega⟩ x : ℝ) : EReal))
    (hc1 : ∀ (j : Fin 1024) (x : Fin 64), kc (ix3 0 j ⟨64 + x, by omega⟩) = ((K 1 ⟨j, by omega⟩ x : ℝ) : EReal))
    (hn0 : ∀ (j : Fin 32) (x : Fin 64), kn (ix3 0 j ⟨x, by omega⟩) = ((K 0 ⟨1024 + j, by omega⟩ x : ℝ) : EReal))
    (hn1 : ∀ (j : Fin 32) (x : Fin 64), kn (ix3 0 j ⟨64 + x, by omega⟩) = ((K 1 ⟨1024 + j, by omega⟩ x : ℝ) : EReal))
    (hvc : ∀ (j : Fin 1024) (e : Fin 128), vc (ix3 0 j e) = v ⟨j, by omega⟩ e)
    (hvn : ∀ (j : Fin 32) (e : Fin 128), vn (ix3 0 j e) = v ⟨1024 + j, by omega⟩ e)
    (i : Fin 32) (e : Fin 128) :
    headOf lp sg q kn vn kc vc (ix3 0 i e)
      = rmsAt 1124073472#32
          (mixAt (lamAt fun a x => lp (ix2 a x)) (fun j => (((∑ x, Q 0 i x * K 0 j x) * (1 / 8) : ℝ) : EReal))
            (fun j => (((∑ x, Q 1 i x * K 1 j x) * (1 / 8) : ℝ) : EReal)) v)
          (fun e => sg (ix2 0 e)) e * Ideal.ofBits FTy.f32 1061997773#32 := by
  unfold headOf
  rw [out_at]
  congr 2
  funext e
  simp only [diff_cached, diff_new, weight_cached, weight_new, lam_at, cached0, cached1, new0, new1, hq0, hq1, hc0, hc1, hn0, hn1,
    hvc, hvn, score_coe]
  exact mixAt_eq (n := 1024) (p := 32) rfl _ (fun j => (∑ x, Q 0 i x * K 0 j x) * (1 / 8))
    (fun j => (∑ x, Q 1 i x * K 1 j x) * (1 / 8)) v e _ _ _ _ rfl rfl rfl rfl

end Cert.KernelIdeal.Value
end
-- ==== Proof.Tiles.lean ====
/- The eight heads of a grid step are one function of their loads: each head's chain of payloads is `headOf`. -/
module
public import proofs.«01_k».proof.Proof.Head
@[expose] public section
set_option maxRecDepth 16384
noncomputable section
namespace Cert.KernelIdeal.Value
open Cert.KernelIdeal Cert.KernelIdeal.Gen Idealize.ShloMosaic Idealize.ShloMosaic.TcCoe Idealize.SL.Sem Cert.Layer

/-- The lane numbers the heads' masks are cut from. -/
abbrev iotaLanes : IVec S32x128 32 := iota Kind.tc S32x128 32 [1] iota_S32x128_d1_w32

variable (lp : Vec Ideal S4x64 .f32) (sg : Vec Ideal S1x128 .f32) (q kn vn : Vec Ideal S1x32x128 .bf16) (kc vc : Vec Ideal S1x1024x128 .f32)

theorem head1_eq :
    k0_pay48 (k0_pay4 sg) (k0_pay31 (k0_pay3 lp) (k0_pay9 iotaLanes q kc) (k0_pay10 iotaLanes q kn)) (k0_pay32 (k0_pay3 lp) (k0_pay9 iotaLanes q kc) (k0_pay10 iotaLanes q kn)) vc vn
      = headOf lp sg q kn vn kc vc := rfl

theorem head2_eq :
    k0_pay63 (k0_pay4 sg) (k0_pay46 (k0_pay3 lp) (k0_pay25 (k0_pay24 iotaLanes q) kc) (k0_pay26 (k0_pay24 iotaLanes q) kn)) (k0_pay47 (k0_pay3 lp) (k0_pay25 (k0_pay24 iotaLanes q) kc) (k0_pay26 (k0_pay24 iotaLanes q) kn)) vc vn
      = headOf lp sg q kn vn kc vc := rfl

theorem head3_eq :
    k0_pay78 (k0_pay4 sg) (k0_pay61 (k0_pay3 lp) (k0_pay40 iotaLanes (k0_pay36 q) k0_pay37 (k0_pay38 iotaLanes q) (64#32) kc) (k0_pay41 iotaLanes (k0_pay36 q) k0_pay37 (k0_pay38 iotaLanes q) (64#32) kn)) (k0_pay62 (k0_pay3 lp) (k0_pay40 iotaLanes (k0_pay36 q) k0_pay37 (k0_pay38 iotaLanes q) (64#32) kc) (k0_pay41 iotaLanes (k0_pay36 q) k0_pay37 (k0_pay38 iotaLanes q) (64#32) kn)) vc vn
      = headOf lp sg q kn vn kc vc := rfl

theorem head4_eq :
    k0_pay93 (k0_pay4 sg) (k0_pay75 (k0_pay3 lp) (k0_pay55 iotaLanes (k0_pay50 q) k0_pay51 (k0_pay52 iotaLanes q) k0_pay53 kc) (k0_pay56 iotaLanes (k0_pay50 q) k0_pay51 (k0_pay52 iotaLanes q) k0_pay53 kn)) (k0_pay77 (k0_pay76 (k0_pay3 lp) (k0_pay55 iotaLanes (k0_pay50 q) k0_pay51 (k0_pay52 iotaLanes q) k0_pay53 kc) (k0_pay56 iotaLanes (k0_pay50 q) k0_pay51 (k0_pay52 iotaLanes q) k0_pay53 kn))) vc vn
      = headOf lp sg q kn vn kc vc := rfl

theorem head5_eq :
    k0_pay107 (k0_pay4 sg) (k0_pay90 (k0_pay3 lp) (k0_pay69 iotaLanes (k0_pay65 q) k0_pay66 k0_pay67 kc) (k0_pay70 iotaLanes (k0_pay65 q) k0_pay66 k0_pay67 kn)) (k0_pay92 (k0_pay91 (k0_pay3 lp) (k0_pay69 iotaLanes (k0_pay65 q) k0_pay66 k0_pay67 kc) (k0_pay70 iotaLanes (k0_pay65 q) k0_pay66 k0_pay67 kn))) vc vn
      = headOf lp sg q kn vn kc vc := rfl

theorem head6_eq :
    k0_pay119 (k0_pay4 sg) (k0_pay117 (k0_pay104 (k0_pay3 lp) (k0_pay84 iotaLanes (k0_pay80 q) k0_pay81 k0_pay82 kc) (k0_pay85 iotaLanes (k0_pay80 q) k0_pay81 k0_pay82 kn)) (k0_pay106 (k0_pay3 lp) (k0_pay103 (k0_pay84 iotaLanes (k0_pay80 q) k0_pay81 k0_pay82 kc) (k0_pay85 iotaLanes (k0_pay80 q) k0_pay81 k0_pay82 kn)) (k0_pay105 (k0_pay84 iotaLanes (k0_pay80 q) k0_pay81 k0_pay82 kc) (k0_pay85 iotaLanes (k0_pay80 q) k0_pay81 k0_pay82 kn))) vc vn) (k0_pay118 (k0_pay104 (k0_pay3 lp) (k0_pay84 iotaLanes (k0_pay80 q) k0_pay81 k0_pay82 kc) (k0_pay85 iotaLanes (k0_pay80 q) k0_pay81 k0_pay82 kn)) (k0_pay106 (k0_pay3 lp) (k0_pay103 (k0_pay84 iotaLanes (k0_pay80 q) k0_pay81 k0_pay82 kc) (k0_pay85 iotaLanes (k0_pay80 q) k0_pay81 k0_pay82 kn)) (k0_pay105 (k0_pay84 iotaLanes (k0_pay80 q) k0_pay81 k0_pay82 kc) (k0_pay85 iotaLanes (k0_pay80 q) k0_pay81 k0_pay82 kn))) vc vn)
      = headOf lp sg q kn vn kc vc := rfl

theorem head7_eq :
    k0_pay1 (k0_pay121 (k0_pay4 sg) (k0_pay115 (k0_pay3 lp) (k0_pay97 iotaLanes (k0_pay95 q) kc) (k0_pay98 iotaLanes (k0_pay95 q) kn) (k0_pay109 (k0_pay97 iotaLanes (k0_pay95 q) kc)) (k0_pay110 (k0_pay98 iotaLanes (k0_pay95 q) kn))) (k0_pay116 (k0_pay3 lp) (k0_pay97 iotaLanes (k0_pay95 q) kc) (k0_pay98 iotaLanes (k0_pay95 q) kn) (k0_pay109 (k0_pay97 iotaLanes (k0_pay95 q) kc)) (k0_pay110 (k0_pay98 iotaLanes (k0_pay95 q) kn))) vc vn) (FloatOps.ofBits FTy.f32 1061997773#32)
      = headOf lp sg q kn vn kc vc := rfl

end Cert.KernelIdeal.Value
end
-- ==== Proof.RefAttn.lean ====
/- The reference's second result, the differential attention of the running streams, read at an index. -/
module
public import proofs.«01_k».proof.Proof.Gen.ReferenceIdeal.Run
public import proofs.«01_k».proof.Proof.Spec
public import proofs.«01_k».proof.Proof.Softmax
@[expose] public section
set_option maxRecDepth 16384
noncomputable section
namespace Cert.ReferenceIdeal.Value
open Cert.ReferenceIdeal Cert.ReferenceIdeal.Gen Idealize.ShloMosaic Idealize.ShloMosaic.TcCoe Idealize.SL.Sem Cert.Layer

/-- The keys of the cached frames, then of the new ones. -/
def refKeys (ck : FVec Ideal S1x32x1024x8x128 .f32) (kn : FVec Ideal S32x32x8x2x64 .f32) : FVec Ideal S32x1056x8x2x64 .f32 :=
  concatenate S32x1056x8x2x64 1 [⟨S32x1024x8x2x64, (shapeCast _ (shapeCast _ ck shapeCasts_S1x32x1024x8x128_S32x1024x8x128) shapeCasts_S32x1024x8x128_S32x1024x8x2x64)⟩, ⟨S32x32x8x2x64, kn⟩] concatenates_S32x1024x8x2x64_S32x32x8x2x64_S32x1056x8x2x64_d1

/-- The values of the cached frames, then of the new ones. -/
def refVals (cv : FVec Ideal S1x32x1024x8x128 .f32) (vn : FVec Ideal S32x32x8x128 .f32) : FVec Ideal S32x1056x8x128 .f32 :=
  concatenate S32x1056x8x128 1 [⟨S32x1024x8x128, (shapeCast _ cv shapeCasts_S1x32x1024x8x128_S32x1024x8x128)⟩, ⟨S32x32x8x128, vn⟩] concatenates_S32x1024x8x128_S32x32x8x128_S32x1056x8x128_d1

/-- The scaled scores. -/
def refScores (q : FVec Ideal S32x32x8x2x64 .f32) (k : FVec Ideal S32x1056x8x2x64 .f32) : FVec Ideal S32x8x2x32x1056 .f32 :=
  mulf (Host.dotGeneral dot_S32x32x8x2x64_S32x1056x8x2x64_S32x8x2x32x1056_4_4_1_1_023_023 none q k) (broadcastInDim S32x8x2x32x1056 ![] bcast_S_S32x8x2x32x1056 (constant S_ .f32 0x3E000000#32))

/-- The rows' maxima. -/
def refTop (s : FVec Ideal S32x8x2x32x1056 .f32) : FVec Ideal S32x8x2x32 .f32 :=
  Host.reduce FloatOps.maximumf s (constant S_ .f32 0xFF800000#32) reducesTo_S32x8x2x32x1056_S32x8x2x32_d4 h_S_

/-- The scores' exponentials, each row less its maximum. -/
def refExps (s : FVec Ideal S32x8x2x32x1056 .f32) (t : FVec Ideal S32x8x2x32 .f32) : FVec Ideal S32x8x2x32x1056 .f32 :=
  Host.exp (subf s (broadcastInDim S32x8x2x32x1056 ![0, 1, 2, 3, 4] bcast_S32x8x2x32x1_S32x8x2x32x1056_0_1_2_3_4 (broadcastInDim S32x8x2x32x1 ![0, 1, 2, 3] bcast_S32x8x2x32_S32x8x2x32x1_0_1_2_3 (maximumf (broadcastInDim S32x8x2x32 ![] bcast_S_S32x8x2x32 (constant S_ .f32 0xFF800000#32)) t))))

/-- The softmax of the exponentials. -/
def refSoft (e : FVec Ideal S32x8x2x32x1056 .f32) : FVec Ideal S32x8x2x32x1056 .f32 :=
  Host.divf e (broadcastInDim S32x8x2x32x1056 ![0, 1, 2, 3, 4] bcast_S32x8x2x32x1_S32x8x2x32x1056_0_1_2_3_4 (broadcastInDim S32x8x2x32x1 ![0, 1, 2, 3] bcast_S32x8x2x32_S32x8x2x32x1_0_1_2_3 (Host.reduceAdd e (constant S_ .f32 0x00000000#32) reducesTo_S32x8x2x32x1056_S32x8x2x32_d4 h_S_)))

/-- The second map's factor. -/
def refLam (lp : FVec Ideal S1x4x64 .f32) : FVec Ideal S_ .f32 :=
  addf (subf (Host.exp (Host.reduceAdd (mulf (shapeCast _ (extractStridedSlice S1x64 ![0, 0] (shapeCast _ lp shapeCasts_S1x4x64_S4x64) slices_S4x64_S1x64_0_0) shapeCasts_S1x64_S64) (shapeCast _ (extractStridedSlice S1x64 ![1, 0] (shapeCast _ lp shapeCasts_S1x4x64_S4x64) slices_S4x64_S1x64_1_0) shapeCasts_S1x64_S64)) (constant S_ .f32 0x00000000#32) reducesTo_S64_S_d0 h_S_)) (Host.exp (Host.reduceAdd (mulf (shapeCast _ (extractStridedSlice S1x64 ![2, 0] (shapeCast _ lp shapeCasts_S1x4x64_S4x64) slices_S4x64_S1x64_2_0) shapeCasts_S1x64_S64) (shapeCast _ (extractStridedSlice S1x64 ![3, 0] (shapeCast _ lp shapeCasts_S1x4x64_S4x64) slices_S4x64_S1x64_3_0) shapeCasts_S1x64_S64)) (constant S_ .f32 0x00000000#32) reducesTo_S64_S_d0 h_S_))) (constant S_ .f32 0x3E4CCCCD#32)

/-- The difference of the two maps. -/
def refDiff (l : FVec Ideal S_ .f32) (p : FVec Ideal S32x8x2x32x1056 .f32) : FVec Ideal S32x8x32x1056 .f32 :=
  subf (shapeCast _ (extractStridedSlice S32x8x1x32x1056 ![0, 0, 0, 0, 0] p slices_S32x8x2x32x1056_S32x8x1x32x1056_0_0_0_0_0) shapeCasts_S32x8x1x32x1056_S32x8x32x1056) (mulf (broadcastInDim S32x8x32x1056 ![] bcast_S_S32x8x32x1056 l) (shapeCast _ (extractStridedSlice S32x8x1x32x1056 ![0, 0, 1, 0, 0] p slices_S32x8x2x32x1056_S32x8x1x32x1056_0_0_1_0_0) shapeCasts_S32x8x1x32x1056_S32x8x32x1056))

/-- The weighted values. -/
def refMix (v : FVec Ideal S32x1056x8x128 .f32) (w : FVec Ideal S32x8x32x1056 .f32) : FVec Ideal S32x32x8x128 .f32 :=
  transpose S32x32x8x128 [0, 3, 1, 2] (Host.dotGeneral dot_S32x1056x8x128_S32x8x32x1056_S32x8x128x32_1_3_3_2_02_01 none v w) transposes_S32x8x128x32_S32x32x8x128_0_3_1_2

/-- The heads' norm, and the heads side by side. -/
def refHeads (o : FVec Ideal S32x32x8x128 .f32) (g : FVec Ideal S1x128 .f32) : FVec Ideal S32x32x1024 .bf16 :=
  truncf .bf16 (shapeCast _ (mulf (mulf (mulf o (broadcastInDim S32x32x8x128 ![0, 1, 2, 3] bcast_S32x32x8x1_S32x32x8x128_0_1_2_3 (Host.rsqrt (addf (Host.divf (broadcastInDim S32x32x8x1 ![0, 1, 2] bcast_S32x32x8_S32x32x8x1_0_1_2 (Host.reduceAdd (mulf o o) (constant S_ .f32 0x00000000#32) reducesTo_S32x32x8x128_S32x32x8_d3 h_S_)) (broadcastInDim S32x32x8x1 ![] bcast_S_S32x32x8x1 (constant S_ .f32 0x43000000#32))) (broadcastInDim S32x32x8x1 ![] bcast_S_S32x32x8x1 (constant S_ .f32 0x358637BD#32)))))) (broadcastInDim S32x32x8x128 ![0, 1, 2, 3] bcast_S1x1x1x128_S32x32x8x128_0_1_2_3 (broadcastInDim S1x1x1x128 ![3] bcast_S128_S1x1x1x128_3 (shapeCast _ g shapeCasts_S1x128_S128)))) (broadcastInDim S32x32x8x128 ![] bcast_S_S32x32x8x128 (constant S_ .f32 0x3F4CCCCD#32))) shapeCasts_S32x32x8x128_S32x32x1024) bitsLt_bf16_f32

/-- The reference's second result as a function of its arrays. -/
def refAttn (lp : FVec Ideal S1x4x64 .f32) (g : FVec Ideal S1x128 .f32) (q kn : FVec Ideal S32x32x8x2x64 .f32)
    (vn : FVec Ideal S32x32x8x128 .f32) (ck cv : FVec Ideal S1x32x1024x8x128 .f32) : FVec Ideal S32x32x1024 .bf16 :=
  refHeads (refMix (refVals cv vn) (refDiff (refLam lp)
    (refSoft (refExps (refScores q (refKeys ck kn)) (refTop (refScores q (refKeys ck kn))))))) g

theorem res_main_v90_eq (m : (ℓ : Loc nD τ sig) → Buf (Elt Ideal) ℓ) (c : Dev nD) :
    res_main_v90 m c = refAttn (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11))
      (m ((c.tc : Thread nD τ).loc main_arg12)) := rfl

theorem refKeys_at (ck : FVec Ideal S1x32x1024x8x128 .f32) (kn : FVec Ideal S32x32x8x2x64 .f32) (b : Fin 32) (j : Fin 1056)
    (h : Fin 8) (u : Fin 2) (d : Fin 64) :
    refKeys ck kn (ix5 b j h u d)
      = if hj : j.val < 1024 then ck (ix5 0 b ⟨j, hj⟩ h ⟨u * 64 + d, by omega⟩) else kn (ix5 b ⟨j - 1024, by omega⟩ h u d) := by
  pointwise [refKeys]

theorem refVals_at (cv : FVec Ideal S1x32x1024x8x128 .f32) (vn : FVec Ideal S32x32x8x128 .f32) (b : Fin 32) (j : Fin 1056)
    (h : Fin 8) (d : Fin 128) :
    refVals cv vn (ix4 b j h d)
      = if hj : j.val < 1024 then cv (ix5 0 b ⟨j, hj⟩ h d) else vn (ix4 b ⟨j - 1024, by omega⟩ h d) := by
  pointwise [refVals]

theorem refScores_at (q : FVec Ideal S32x32x8x2x64 .f32) (k : FVec Ideal S32x1056x8x2x64 .f32) (b : Fin 32) (h : Fin 8) (u : Fin 2)
    (i : Fin 32) (j : Fin 1056) :
    refScores q k (ix5 b h u i j) = (∑ x, q (ix5 b i h u x) * k (ix5 b j h u x)) * Ideal.ofBits FTy.f32 1040187392#32 := by
  pointwise [refScores]

theorem refTop_at (s : FVec Ideal S32x8x2x32x1056 .f32) (b : Fin 32) (h : Fin 8) (u : Fin 2) (i : Fin 32) :
    refTop s (ix4 b h u i) = Finset.fold max ⊥ (fun x => s (ix5 b h u i x)) Finset.univ := by
  rw [← lit_bot]
  pointwise [refTop]

theorem refExps_at (s : FVec Ideal S32x8x2x32x1056 .f32) (t : FVec Ideal S32x8x2x32 .f32) (b : Fin 32) (h : Fin 8) (u : Fin 2)
    (i : Fin 32) (j : Fin 1056) : refExps s t (ix5 b h u i j) = Ideal.exp (s (ix5 b h u i j) - t (ix4 b h u i)) := by
  pointwise [refExps, lit_bot]
  rw [max_eq_right bot_le]

theorem refSoft_at (e : FVec Ideal S32x8x2x32x1056 .f32) (b : Fin 32) (h : Fin 8) (u : Fin 2)
    (i : Fin 32) (j : Fin 1056) :
    refSoft e (ix5 b h u i j) = Ideal.div (e (ix5 b h u i j)) (∑ x, e (ix5 b h u i x)) := by
  pointwise [refSoft]

theorem refLam_at (lp : FVec Ideal S1x4x64 .f32) : refLam lp ix0 = lamAt fun a x => lp (ix3 0 a x) := by
  pointwise [refLam, lamAt]

theorem refDiff_at (l : FVec Ideal S_ .f32) (p : FVec Ideal S32x8x2x32x1056 .f32) (b : Fin 32) (h : Fin 8)
    (i : Fin 32) (j : Fin 1056) :
    refDiff l p (ix4 b h i j) = p (ix5 b h 0 i j) - l ix0 * p (ix5 b h 1 i j) := by
  pointwise [refDiff]

theorem refMix_at (v : FVec Ideal S32x1056x8x128 .f32) (w : FVec Ideal S32x8x32x1056 .f32) (b : Fin 32) (i : Fin 32) (h : Fin 8)
    (d : Fin 128) : refMix v w (ix4 b i h d) = ∑ x, v (ix4 b x h d) * w (ix4 b h i x) := by
  pointwise [refMix]

theorem refHeads_at (o : FVec Ideal S32x32x8x128 .f32) (g : FVec Ideal S1x128 .f32) (b : Fin 32) (i : Fin 32) (l : Fin 1024) :
    refHeads o g (ix3 b i l)
      = rmsAt 1124073472#32 (fun e => o (ix4 b i ⟨l / 128, by omega⟩ e)) (fun e => g (ix2 0 e)) ⟨l % 128, by omega⟩
          * Ideal.ofBits FTy.f32 1061997773#32 := by
  pointwise [refHeads, rmsAt]

/-- The reference's second result at an index: the norm of the head's mixed values. -/
theorem refAttn_at (lp : FVec Ideal S1x4x64 .f32) (g : FVec Ideal S1x128 .f32) (q kn : FVec Ideal S32x32x8x2x64 .f32)
    (vn : FVec Ideal S32x32x8x128 .f32) (ck cv : FVec Ideal S1x32x1024x8x128 .f32) (b i : Fin 32) (l : Fin 1024) :
    refAttn lp g q kn vn ck cv (ix3 b i l)
      = rmsAt 1124073472#32
          (mixAt (lamAt fun a x => lp (ix3 0 a x))
            (fun j => refScores q (refKeys ck kn) (ix5 b ⟨l / 128, by omega⟩ 0 i j))
            (fun j => refScores q (refKeys ck kn) (ix5 b ⟨l / 128, by omega⟩ 1 i j))
            (fun j e => refVals cv vn (ix4 b j ⟨l / 128, by omega⟩ e)))
          (fun e => g (ix2 0 e)) ⟨l % 128, by omega⟩
          * Ideal.ofBits FTy.f32 1061997773#32 := by
  unfold refAttn
  rw [refHeads_at]
  simp only [refMix_at, refDiff_at, refSoft_at, refExps_at, refTop_at, refLam_at]
  rfl

end Cert.ReferenceIdeal.Value
end
-- ==== Proof.Attn.lean ====
/- The kernel's second result: each grid step's stream of the differential attention is the reference's. -/
module
public import proofs.«01_k».proof.Proof.Post
public import proofs.«01_k».proof.Proof.Tiles
public import proofs.«01_k».proof.Proof.RefAttn
@[expose] public section
set_option maxRecDepth 16384
noncomputable section
namespace Cert.KernelIdeal.Value
open Cert.KernelIdeal Cert.KernelIdeal.Gen Idealize.ShloMosaic Idealize.ShloMosaic.TcCoe Idealize.SL.Sem Cert.Layer
open Idealize.ShloMosaic.Pipeline (Dat)

variable (m : (ℓ : Loc nD τ sig) → Buf (Elt Ideal) ℓ)

/-- The host-prepared operands of the attention at an index, in the arguments. -/
theorem V_lp (c : Dev nD) (a : Fin 4) (x : Fin 64) :
    V m c main_v7 (ix2 a x) = m ((c.tc : Thread nD τ).loc main_arg6) (ix3 0 a x) := by
  entry_read; pointwise; try rfl
theorem V_sg (c : Dev nD) (e : Fin 128) :
    V m c main_v9 (ix2 0 e) = m ((c.tc : Thread nD τ).loc main_arg7) (ix2 0 e) := by
  entry_read; pointwise; try rfl
theorem V_q (c : Dev nD) (b i : Fin 32) (l : Fin 1024) (a : EReal)
    (ha : m ((c.tc : Thread nD τ).loc main_arg8) (ix5 b i ⟨l / 128, by omega⟩ ⟨l / 64 % 2, by omega⟩ ⟨l % 64, by omega⟩) = a) :
    V m c main_v20 (ix3 b i l) = a * ((1 / 8 / Real.log 2 : ℝ) : EReal) := by
  rw [← scale_eq, ← ha]
  entry_read; pointwise; try rfl
theorem V_kn (c : Dev nD) (b i : Fin 32) (l : Fin 1024) :
    V m c main_v22 (ix3 b i l)
      = m ((c.tc : Thread nD τ).loc main_arg9) (ix5 b i ⟨l / 128, by omega⟩ ⟨l / 64 % 2, by omega⟩ ⟨l % 64, by omega⟩) := by
  entry_read; pointwise; try rfl
theorem V_vn (c : Dev nD) (b i : Fin 32) (l : Fin 1024) :
    V m c main_v24 (ix3 b i l)
      = m ((c.tc : Thread nD τ).loc main_arg10) (ix4 b i ⟨l / 128, by omega⟩ ⟨l % 128, by omega⟩) := by
  entry_read; pointwise; try rfl
theorem V_ck (c : Dev nD) (b : Fin 32) (r : Fin 8192) (e : Fin 128) :
    V m c main_v10 (ix3 b r e)
      = m ((c.tc : Thread nD τ).loc main_arg11) (ix5 0 b ⟨r / 8, by omega⟩ ⟨r % 8, by omega⟩ e) := by
  entry_read; pointwise; try rfl
theorem V_cv (c : Dev nD) (b : Fin 32) (r : Fin 8192) (e : Fin 128) :
    V m c main_v11 (ix3 b r e)
      = m ((c.tc : Thread nD τ).loc main_arg12) (ix5 0 b ⟨r / 8, by omega⟩ ⟨r % 8, by omega⟩ e) := by
  entry_read; pointwise; try rfl

/-- The blocks of the attention's operands at an index, in the arguments. -/
theorem blk_lp (c : Dev nD) (t : Fin cfg0.N) (a : Fin 4) (x : Fin 64) :
    iblk m c 6 t (ix2 a x) = m ((c.tc : Thread nD τ).loc main_arg6) (ix3 0 a x) := by
  refine Eq.trans ?_ (V_lp m c a x)
  blk_simp [iblk]
  blk_point [idx t]
theorem blk_sg (c : Dev nD) (t : Fin cfg0.N) (e : Fin 128) :
    iblk m c 7 t (ix2 0 e) = m ((c.tc : Thread nD τ).loc main_arg7) (ix2 0 e) := by
  refine Eq.trans ?_ (V_sg m c e)
  blk_simp [iblk]
  blk_point [idx t]
theorem blk_q (c : Dev nD) (t : Fin cfg0.N) (i : Fin 32) (l : Fin 1024) (a : EReal)
    (ha : m ((c.tc : Thread nD τ).loc main_arg8)
      (ix5 ⟨t.val, lt_N t⟩ i ⟨l / 128, by omega⟩ ⟨l / 64 % 2, by omega⟩ ⟨l % 64, by omega⟩) = a) :
    iblk m c 8 t (ix3 0 i l) = a * ((1 / 8 / Real.log 2 : ℝ) : EReal) := by
  refine Eq.trans ?_ (V_q m c ⟨t.val, lt_N t⟩ i l a ha)
  blk_simp [iblk]
  blk_point [idx t]
theorem blk_kn (c : Dev nD) (t : Fin cfg0.N) (i : Fin 32) (l : Fin 1024) :
    iblk m c 9 t (ix3 0 i l)
      = m ((c.tc : Thread nD τ).loc main_arg9)
          (ix5 ⟨t.val, lt_N t⟩ i ⟨l / 128, by omega⟩ ⟨l / 64 % 2, by omega⟩ ⟨l % 64, by omega⟩) := by
  refine Eq.trans ?_ (V_kn m c ⟨t.val, lt_N t⟩ i l)
  blk_simp [iblk]
  blk_point [idx t]
theorem blk_vn (c : Dev nD) (t : Fin cfg0.N) (i : Fin 32) (l : Fin 1024) :
    iblk m c 10 t (ix3 0 i l)
      = m ((c.tc : Thread nD τ).loc main_arg10) (ix4 ⟨t.val, lt_N t⟩ i ⟨l / 128, by omega⟩ ⟨l % 128, by omega⟩) := by
  refine Eq.trans ?_ (V_vn m c ⟨t.val, lt_N t⟩ i l)
  blk_simp [iblk]
  blk_point [idx t]
theorem blk_ck (c : Dev nD) (t : Fin cfg0.N) (r : Fin 8192) (e : Fin 128) :
    iblk m c 11 t (ix3 0 r e)
      = m ((c.tc : Thread nD τ).loc main_arg11) (ix5 0 ⟨t.val, lt_N t⟩ ⟨r / 8, by omega⟩ ⟨r % 8, by omega⟩ e) := by
  refine Eq.trans ?_ (V_ck m c ⟨t.val, lt_N t⟩ r e)
  blk_simp [iblk]
  blk_point [idx t]
theorem blk_cv (c : Dev nD) (t : Fin cfg0.N) (r : Fin 8192) (e : Fin 128) :
    iblk m c 12 t (ix3 0 r e)
      = m ((c.tc : Thread nD τ).loc main_arg12) (ix5 0 ⟨t.val, lt_N t⟩ ⟨r / 8, by omega⟩ ⟨r % 8, by omega⟩ e) := by
  refine Eq.trans ?_ (V_cv m c ⟨t.val, lt_N t⟩ r e)
  blk_simp [iblk]
  blk_point [idx t]

/-- One head of grid step `t` is the reference's head, given its loads as slices of the step's blocks. -/
theorem head_close (c : Dev nD) (qr knr : S32x32x8x2x64.Idx → ℝ) (ckr : S1x32x1024x8x128.Idx → ℝ)
    (hq : ∀ x, m ((c.tc : Thread nD τ).loc main_arg8) x = ((qr x : ℝ) : EReal))
    (hkn : ∀ x, m ((c.tc : Thread nD τ).loc main_arg9) x = ((knr x : ℝ) : EReal))
    (hck : ∀ x, m ((c.tc : Thread nD τ).loc main_arg11) x = ((ckr x : ℝ) : EReal))
    (t : Fin cfg0.N) (h : Fin 8) (q kn vn : FVec Ideal S1x32x128 .bf16) (kc vc : FVec Ideal S1x1024x128 .f32)
    (lq : ∀ (i : Fin 32) (x : Fin 128), q (ix3 0 i x) = iblk m c 8 t (ix3 0 i ⟨128 * h + x, by omega⟩))
    (lkn : ∀ (i : Fin 32) (x : Fin 128), kn (ix3 0 i x) = iblk m c 9 t (ix3 0 i ⟨128 * h + x, by omega⟩))
    (lvn : ∀ (i : Fin 32) (x : Fin 128), vn (ix3 0 i x) = iblk m c 10 t (ix3 0 i ⟨128 * h + x, by omega⟩))
    (lkc : ∀ (j : Fin 1024) (x : Fin 128), kc (ix3 0 j x) = iblk m c 11 t (ix3 0 ⟨8 * j + h, by omega⟩ x))
    (lvc : ∀ (j : Fin 1024) (x : Fin 128), vc (ix3 0 j x) = iblk m c 12 t (ix3 0 ⟨8 * j + h, by omega⟩ x))
    (i : Fin 32) (e : Fin 128) :
    headOf (iblk m c 6 t) (iblk m c 7 t) q kn vn kc vc (ix3 0 i e)
      = Cert.ReferenceIdeal.Value.refAttn (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (ix3 ⟨t.val, lt_N t⟩ i ⟨128 * h + e, by omega⟩) := by
  have hb := lt_N t
  rw [headOf_at (iblk m c 6 t) (iblk m c 7 t) q kn vn kc vc
    (fun u i x => qr (ix5 ⟨t.val, hb⟩ i h u x))
    (fun u j x => if hj : j.val < 1024 then ckr (ix5 0 ⟨t.val, hb⟩ ⟨j, hj⟩ h ⟨u * 64 + x, by omega⟩)
      else knr (ix5 ⟨t.val, hb⟩ ⟨j - 1024, by omega⟩ h u x))
    (fun j e => Cert.ReferenceIdeal.Value.refVals (m ((c.tc : Thread nD τ).loc main_arg12))
      (m ((c.tc : Thread nD τ).loc main_arg10)) (ix4 ⟨t.val, hb⟩ j h e))]
  · have hh : (⟨(128 * h.val + e.val) / 128, by omega⟩ : Fin 8) = h := Fin.ext (show (128 * h.val + e.val) / 128 = h.val by omega)
    have he : (⟨(128 * h.val + e.val) % 128, by omega⟩ : Fin 128) = e :=
      Fin.ext (show (128 * h.val + e.val) % 128 = e.val by omega)
    have hs : ∀ (u : Fin 2) (j : Fin 1056),
        Cert.ReferenceIdeal.Value.refScores (m ((c.tc : Thread nD τ).loc main_arg8))
          (Cert.ReferenceIdeal.Value.refKeys (m ((c.tc : Thread nD τ).loc main_arg11)) (m ((c.tc : Thread nD τ).loc main_arg9)))
          (ix5 ⟨t.val, hb⟩ h u i j)
        = (((∑ x : Fin 64, qr (ix5 ⟨t.val, hb⟩ i h u x)
            * (if hj : j.val < 1024 then ckr (ix5 0 ⟨t.val, hb⟩ ⟨j, hj⟩ h ⟨u * 64 + x, by omega⟩)
                else knr (ix5 ⟨t.val, hb⟩ ⟨j - 1024, by omega⟩ h u x))) * (1 / 8) : ℝ) : EReal) := by
      intro u j
      rw [Cert.ReferenceIdeal.Value.refScores_at, lit_eighth, EReal.coe_mul, ← sum_coe]
      congr 1
      refine Finset.sum_congr rfl fun x _ => ?_
      rw [hq, Cert.ReferenceIdeal.Value.refKeys_at, EReal.coe_mul]
      congr 1
      split
      · rw [hck]
      · rw [hkn]
    rw [Cert.ReferenceIdeal.Value.refAttn_at]
    simp only [hh, he, hs, blk_lp, blk_sg]
  · intro i x
    refine (lq _ _).trans (blk_q m c t i _ _ ((hq _).trans ?_))
    congr 2
    blk_ext
  · intro i x
    refine (lq _ _).trans (blk_q m c t i _ _ ((hq _).trans ?_))
    congr 2
    blk_ext
  · intro j x
    rw [lkc, blk_ck, hck, dif_pos (by simp)]
    congr 2
    blk_ext
  · intro j x
    rw [lkc, blk_ck, hck, dif_pos (by simp)]
    congr 2
    blk_ext
  · intro j x
    rw [lkn, blk_kn, hkn, dif_neg (by simp)]
    congr 2
    blk_ext
  · intro j x
    rw [lkn, blk_kn, hkn, dif_neg (by simp)]
    congr 2
    blk_ext
  · intro j x
    rw [lvc, blk_cv, Cert.ReferenceIdeal.Value.refVals_at, dif_pos (by simp)]
    congr 1
    blk_ext
  · intro j x
    rw [lvn, blk_vn, Cert.ReferenceIdeal.Value.refVals_at, dif_neg (by simp)]
    congr 1
    blk_ext

/-- The cache's load of one head: rows `h, 8 + h, 16 + h, …` of the step's block. -/
theorem stride_idx (h : Fin 8) (inb) (j : Fin 1024) (x : Fin 128) :
    ({ off := ![0, h.val, 0], size := ![1, 1024, 128], stride := ![1, 8, 1], inb := inb } : LoadRect S1x8192x128).idx (ix3 0 j x)
      = ix3 0 ⟨8 * j + h, by omega⟩ x := by
  funext a
  apply Fin.ext
  fin_cases a
  · rfl
  · show h.val + 8 * j.val = 8 * j.val + h.val
    omega
  · show 0 + 1 * x.val = x.val
    omega
theorem strided11 (c : Dev nD) (t : Fin cfg0.N) (h : Fin 8) (inb) (j : Fin 1024) (x : Fin 128) :
    View.readAt (Elt Ideal) (ms0_11 t).view
      { off := ![0, h.val, 0], size := ![1, 1024, 128], stride := ![1, 8, 1], inb := inb } ((hs0_11 t).unread (iblk m c 11 t)) (ix3 0 j x)
      = iblk m c 11 t (ix3 0 ⟨8 * j + h, by omega⟩ x) := by
  rw [View.readAt_apply, (hs0_11 t).read_unread]
  exact congrArg _ (stride_idx h inb j x)
theorem strided12 (c : Dev nD) (t : Fin cfg0.N) (h : Fin 8) (inb) (j : Fin 1024) (x : Fin 128) :
    View.readAt (Elt Ideal) (ms0_12 t).view
      { off := ![0, h.val, 0], size := ![1, 1024, 128], stride := ![1, 8, 1], inb := inb } ((hs0_12 t).unread (iblk m c 12 t)) (ix3 0 j x)
      = iblk m c 12 t (ix3 0 ⟨8 * j + h, by omega⟩ x) := by
  rw [View.readAt_apply, (hs0_12 t).read_unread]
  exact congrArg _ (stride_idx h inb j x)

set_option maxHeartbeats 4000000 in
/-- The kernel's second result is the reference's where queries and keys are real. -/
theorem final14 (c : Dev nD) (qr knr : S32x32x8x2x64.Idx → ℝ) (ckr : S1x32x1024x8x128.Idx → ℝ)
    (hq : ∀ x, m ((c.tc : Thread nD τ).loc main_arg8) x = ((qr x : ℝ) : EReal))
    (hkn : ∀ x, m ((c.tc : Thread nD τ).loc main_arg9) x = ((knr x : ℝ) : EReal))
    (hck : ∀ x, m ((c.tc : Thread nD τ).loc main_arg11) x = ((ckr x : ℝ) : EReal)) :
    (dats m 0 c).arrAt 14 cfg0.N
      = Cert.ReferenceIdeal.Value.refAttn (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  refine (dats m 0 c).arrAt_eq_of_covers 14 _ (by decide +kernel) fun t _ y => ?_
  have hout : ∀ (i : Fin 32) (l : Fin 1024), ((View.whole main_v25_1).slice (win0_14.rect t)).emb (ix3 0 i l)
      = ix3 ⟨t.val, lt_N t⟩ i l := by
    intro i j
    blk_ext [idx t]
  blk_simp
  rw [after0_14]
  unfold outsAt0
  frame_out
  obtain ⟨i, l, rfl⟩ : ∃ (i : Fin 32) (l : Fin 1024), y = ix3 0 i l :=
    ⟨y 1, y 2, by funext a; fin_cases a <;> first | rfl | exact Subsingleton.elim (α := Fin 1) _ _⟩
  rw [hout]
  canon_tiles y h
  case piece0 =>
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
    have hl : l.val = 896 + e.val := h2
    refine (congrFun (head7_eq _ _ _ _ _ _ _) _).trans ((head_close m c qr knr ckr hq hkn hck t 7 _ _ _ _ _ ?_ ?_ ?_ ?_ ?_ i e).trans ?_)
    · intro i x; pointwise
    · intro i x; pointwise
    · intro i x; pointwise
    · exact fun j x => strided11 m c t 7 _ j x
    · exact fun j x => strided12 m c t 7 _ j x
    · blk_ext
  case piece1 =>
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
    have hl : l.val = 768 + e.val := h2
    refine (congrFun (head6_eq _ _ _ _ _ _ _) _).trans ((head_close m c qr knr ckr hq hkn hck t 6 _ _ _ _ _ ?_ ?_ ?_ ?_ ?_ i e).trans ?_)
    · intro i x; pointwise
    · intro i x; pointwise
    · intro i x; pointwise
    · exact fun j x => strided11 m c t 6 _ j x
    · exact fun j x => strided12 m c t 6 _ j x
    · blk_ext
  case piece2 =>
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
    have hl : l.val = 640 + e.val := h2
    refine (congrFun (head5_eq _ _ _ _ _ _ _) _).trans ((head_close m c qr knr ckr hq hkn hck t 5 _ _ _ _ _ ?_ ?_ ?_ ?_ ?_ i e).trans ?_)
    · intro i x; pointwise
    · intro i x; pointwise
    · intro i x; pointwise
    · exact fun j x => strided11 m c t 5 _ j x
    · exact fun j x => strided12 m c t 5 _ j x
    · blk_ext
  case piece3 =>
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
    have hl : l.val = 512 + e.val := h2
    refine (congrFun (head4_eq _ _ _ _ _ _ _) _).trans ((head_close m c qr knr ckr hq hkn hck t 4 _ _ _ _ _ ?_ ?_ ?_ ?_ ?_ i e).trans ?_)
    · intro i x; pointwise
    · intro i x; pointwise
    · intro i x; pointwise
    · exact fun j x => strided11 m c t 4 _ j x
    · exact fun j x => strided12 m c t 4 _ j x
    · blk_ext
  case piece4 =>
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
    have hl : l.val = 384 + e.val := h2
    refine (congrFun (head3_eq _ _ _ _ _ _ _) _).trans ((head_close m c qr knr ckr hq hkn hck t 3 _ _ _ _ _ ?_ ?_ ?_ ?_ ?_ i e).trans ?_)
    · intro i x; pointwise
    · intro i x; pointwise
    · intro i x; pointwise
    · exact fun j x => strided11 m c t 3 _ j x
    · exact fun j x => strided12 m c t 3 _ j x
    · blk_ext
  case piece5 =>
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
    have hl : l.val = 256 + e.val := h2
    refine (congrFun (head2_eq _ _ _ _ _ _ _) _).trans ((head_close m c qr knr ckr hq hkn hck t 2 _ _ _ _ _ ?_ ?_ ?_ ?_ ?_ i e).trans ?_)
    · intro i x; pointwise
    · intro i x; pointwise
    · intro i x; pointwise
    · exact fun j x => strided11 m c t 2 _ j x
    · exact fun j x => strided12 m c t 2 _ j x
    · blk_ext
  case piece6 =>
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
    have hl : l.val = 128 + e.val := h2
    refine (congrFun (head1_eq _ _ _ _ _ _ _) _).trans ((head_close m c qr knr ckr hq hkn hck t 1 _ _ _ _ _ ?_ ?_ ?_ ?_ ?_ i e).trans ?_)
    · intro i x; pointwise
    · intro i x; pointwise
    · intro i x; pointwise
    · exact fun j x => strided11 m c t 1 _ j x
    · exact fun j x => strided12 m c t 1 _ j x
    · blk_ext
  case piece7 =>
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
    have hl : l.val = 0 + e.val := by simpa using h2
    refine (head_close m c qr knr ckr hq hkn hck t 0 _ _ _ _ _ ?_ ?_ ?_ ?_ ?_ i e).trans ?_
    · intro i x; pointwise
    · intro i x; pointwise
    · intro i x; pointwise
    · exact fun j x => strided11 m c t 0 _ j x
    · exact fun j x => strided12 m c t 0 _ j x
    · blk_ext
end Cert.KernelIdeal.Value
end
-- ==== Proof.BandSoft.lean ====
/- The banded attention's mix of values: the kernel's, over the cached and the new frames apart, is the reference's over all. -/
module
public import proofs.«01_k».proof.Proof.Softmax
@[expose] public section
noncomputable section
namespace Cert.Layer
open Idealize.ShloMosaic

/-- The values `v` weighted by the softmax of the scores `s`. -/
def softMix {n : Nat} (s v : Fin n → EReal) : EReal := ∑ j, v j * refWeight s (s j)

/-- A kernel's row of scores `a`, `b` in units of log 2 mixes the values as the reference's row of scores `y`. -/
theorem softMix_eq {n p N : Nat} (hN : n + p = N) (y : Fin N → ℝ) (v : Fin N → EReal) (a va : Fin n → EReal) (b vb : Fin p → EReal)
    (ha : ∀ k : Fin n, a k = ((y ⟨k, by omega⟩ / Real.log 2 : ℝ) : EReal))
    (hb : ∀ k : Fin p, b k = ((y ⟨n + k, by omega⟩ / Real.log 2 : ℝ) : EReal))
    (hva : ∀ k : Fin n, va k = v ⟨k, by omega⟩) (hvb : ∀ k : Fin p, vb k = v ⟨n + k, by omega⟩) :
    ∑ j : Fin n, kerWeight a b (a j) * va j + ∑ j : Fin p, kerWeight a b (b j) * vb j
      = softMix (fun j => ((y j : ℝ) : EReal)) v := by
  obtain rfl : a = fun k : Fin n => ((y ⟨k, by omega⟩ / Real.log 2 : ℝ) : EReal) := funext ha
  obtain rfl : b = fun k : Fin p => ((y ⟨n + k, by omega⟩ / Real.log 2 : ℝ) : EReal) := funext hb
  simp only [kerWeight_eq hN y, softMix, hva, hvb]
  subst hN
  rw [Fin.sum_univ_add]
  refine congrArg₂ (· + ·) (Finset.sum_congr rfl fun j _ => ?_) (Finset.sum_congr rfl fun j _ => ?_)
  · exact mul_comm _ _
  · exact mul_comm _ _

/-- A score with its bias, in units of log 2. -/
theorem biased_coe {n : Nat} (q k : Fin n → ℝ) (c r : ℝ) :
    ∑ x, (((q x : ℝ) : EReal) * ((c / Real.log 2 : ℝ) : EReal)) * ((k x : ℝ) : EReal)
        + ((r : ℝ) : EReal) * (((Real.log 2)⁻¹ : ℝ) : EReal)
      = ((((∑ x, q x * k x) * c + r) / Real.log 2 : ℝ) : EReal) := by
  rw [score_coe, ← EReal.coe_mul, ← EReal.coe_add]
  congr 1
  ring

end Cert.Layer
end
-- ==== Proof.BandPair.lean ====
/- One pair of heads of the kernel's banded attention, read at an index. -/
module
public import proofs.«01_k».proof.Proof.Gen.Kernel2Ideal.Skeleton
public import proofs.«01_k».proof.Proof.BandSoft
public import proofs.«01_k».proof.Proof.Head
@[expose] public section
set_option maxRecDepth 16384
noncomputable section
namespace Cert.Kernel2Ideal.Value
open Cert.Kernel2Ideal Cert.Kernel2Ideal.Gen Idealize.ShloMosaic Idealize.ShloMosaic.TcCoe Idealize.SL.Sem Cert.Layer
open Cert.KernelIdeal.Value (lower_half upper_half)

/-- The named constant is 1 / log 2. -/
theorem log2e_eq : Named.named (F := Ideal) Cert.Kernel2Ideal.κ "log2e" (φ := .f32) 0x3FB8AA3B#32 = (((Real.log 2)⁻¹ : ℝ) : EReal) :=
  IdealRules.named_const.ideal_named_scalar _ _ _ _ rfl

/-- The lane numbers the pairs' masks are cut from. -/
abbrev iotaLanes : IVec S32x128 32 := iota Kind.tc S32x128 32 [1] iota_S32x128_d1_w32

/-- One row of biases, each query's moved one lane further: at the lanes read, lane `t - i` of the row. -/
theorem shift_at (r : FVec Ideal S1x1x768 .f32) (i : Fin 32) (t : Fin 1024) (h0 : i.val ≤ t.val) (h1 : t.val < 768) :
    k0_pay19 (F := Ideal) r (ix2 i t) = r (ix3 0 0 ⟨t - i, by omega⟩) * (((Real.log 2)⁻¹ : ℝ) : EReal) := by
  rw [← log2e_eq]
  have hm : (t.val + 1024 - i.val % 1024) % 1024 = t.val - i.val := by omega
  pointwise [k0_pay19]
  rw [dif_pos (hm.trans_lt (by omega))]
  congr 3
  exact Fin.ext hm

theorem bias_eq (r0 r1 : FVec Ideal S1x1x768 .f32) :
    k0_pay2 (F := Ideal) r0 r1 = concatenate S64x1024 0 [⟨S32x1024, k0_pay19 r0⟩, ⟨S32x1024, k0_pay19 r1⟩]
      concatenates_S32x1024_S32x1024_S64x1024_d0 := rfl

theorem bias0 (r0 r1 : FVec Ideal S1x1x768 .f32) (i : Fin 32) (t : Fin 1024) (h0 : i.val ≤ t.val) (h1 : t.val < 768) :
    k0_pay2 (F := Ideal) r0 r1 (ix2 ⟨i, by omega⟩ t) = r0 (ix3 0 0 ⟨t - i, by omega⟩) * (((Real.log 2)⁻¹ : ℝ) : EReal) := by
  rw [bias_eq, ← shift_at r0 i t h0 h1]
  pointwise
theorem bias1 (r0 r1 : FVec Ideal S1x1x768 .f32) (i : Fin 32) (t : Fin 1024) (h0 : i.val ≤ t.val) (h1 : t.val < 768) :
    k0_pay2 (F := Ideal) r0 r1 (ix2 ⟨32 + i, by omega⟩ t) = r1 (ix3 0 0 ⟨t - i, by omega⟩) * (((Real.log 2)⁻¹ : ℝ) : EReal) := by
  rw [bias_eq, ← shift_at r1 i t h0 h1]
  pointwise

section Scores
variable (q kn : FVec Ideal S1x32x128 .bf16) (kc : FVec Ideal S1x512x128 .f32) (r0 r1 : FVec Ideal S1x1x768 .f32)

/-- The pair's scores against the cached keys. -/
theorem cached0 (i : Fin 32) (j : Fin 512) :
    k0_pay3 (F := Ideal) q r0 r1 kc (ix2 ⟨i, by omega⟩ j)
      = ∑ x : Fin 64, q (ix3 0 i ⟨x, by omega⟩) * kc (ix3 0 j ⟨x, by omega⟩)
        + r0 (ix3 0 0 ⟨128 + j - i, by omega⟩) * (((Real.log 2)⁻¹ : ℝ) : EReal) := by
  rw [← bias0 r0 r1 i ⟨128 + j, by omega⟩ (show i.val ≤ 128 + j.val by omega) (show 128 + j.val < 768 by omega)]
  pointwise [k0_pay3, k0_pay1]
  congr 1
  exact lower_half fun x => q (ix3 0 i x) * kc (ix3 0 j x)
theorem cached1 (i : Fin 32) (j : Fin 512) :
    k0_pay3 (F := Ideal) q r0 r1 kc (ix2 ⟨32 + i, by omega⟩ j)
      = ∑ x : Fin 64, q (ix3 0 i ⟨64 + x, by omega⟩) * kc (ix3 0 j ⟨64 + x, by omega⟩)
        + r1 (ix3 0 0 ⟨128 + j - i, by omega⟩) * (((Real.log 2)⁻¹ : ℝ) : EReal) := by
  rw [← bias1 r0 r1 i ⟨128 + j, by omega⟩ (show i.val ≤ 128 + j.val by omega) (show 128 + j.val < 768 by omega)]
  pointwise [k0_pay3, k0_pay1]
  congr 1
  exact upper_half fun x => q (ix3 0 i x) * kc (ix3 0 j x)
/-- The pair's scores against the new keys. -/
theorem new0 (i j : Fin 32) :
    k0_pay4 (F := Ideal) (k0_pay1 q) (k0_pay2 r0 r1) kn (ix2 ⟨i, by omega⟩ j)
      = ∑ x : Fin 64, q (ix3 0 i ⟨x, by omega⟩) * kn (ix3 0 j ⟨x, by omega⟩)
        + r0 (ix3 0 0 ⟨640 + j - i, by omega⟩) * (((Real.log 2)⁻¹ : ℝ) : EReal) := by
  rw [← bias0 r0 r1 i ⟨640 + j, by omega⟩ (show i.val ≤ 640 + j.val by omega) (show 640 + j.val < 768 by omega)]
  pointwise [k0_pay4, k0_pay1]
  congr 1
  exact lower_half fun x => q (ix3 0 i x) * kn (ix3 0 j x)
theorem new1 (i j : Fin 32) :
    k0_pay4 (F := Ideal) (k0_pay1 q) (k0_pay2 r0 r1) kn (ix2 ⟨32 + i, by omega⟩ j)
      = ∑ x : Fin 64, q (ix3 0 i ⟨64 + x, by omega⟩) * kn (ix3 0 j ⟨64 + x, by omega⟩)
        + r1 (ix3 0 0 ⟨640 + j - i, by omega⟩) * (((Real.log 2)⁻¹ : ℝ) : EReal) := by
  rw [← bias1 r0 r1 i ⟨640 + j, by omega⟩ (show i.val ≤ 640 + j.val by omega) (show 640 + j.val < 768 by omega)]
  pointwise [k0_pay4, k0_pay1]
  congr 1
  exact upper_half fun x => q (ix3 0 i x) * kn (ix3 0 j x)
end Scores

section Weights
variable (a : FVec Ideal S64x512 .f32) (b : FVec Ideal S64x32 .f32)

theorem weight_cached (r : Fin 64) (j : Fin 512) :
    k0_pay14 (F := Ideal) a b (ix2 r j) = kerWeight (fun x => a (ix2 r x)) (fun x => b (ix2 r x)) (a (ix2 r j)) := by
  pointwise [k0_pay14, k0_pay13, k0_pay11, k0_pay12, k0_pay10, kerWeight, topOf, lit_bot]
theorem weight_new (r : Fin 64) (j : Fin 32) :
    k0_pay15 (F := Ideal) a b (ix2 r j) = kerWeight (fun x => a (ix2 r x)) (fun x => b (ix2 r x)) (b (ix2 r j)) := by
  pointwise [k0_pay15, k0_pay13, k0_pay11, k0_pay12, k0_pay10, kerWeight, topOf, lit_bot]
end Weights

/-- The lane mask of the pair's output. -/
theorem lane_pick (x : Fin 128) (y z : EReal) :
    Scalar.select (IntOp.cmpi CmpIPredicate.slt (BitVec.ofNat 32 x.val) 64#32) y z = if x.val < 64 then y else z := by
  have h : IntOp.cmpi CmpIPredicate.slt (BitVec.ofNat 32 x.val) 64#32 = if x.val < 64 then 1#1 else 0#1 := by
    revert x; decide +kernel
  rw [h]; split_ifs <;> rfl

/-- The pair's mixed values: the lower lanes the first head's, the upper the second's. -/
theorem out_at (a : FVec Ideal S64x512 .bf16) (b : FVec Ideal S64x32 .bf16) (vc : FVec Ideal S1x512x128 .f32)
    (vn : FVec Ideal S1x32x128 .bf16) (i : Fin 32) (e : Fin 128) :
    k0_pay31 (F := Ideal) iotaLanes a b (k0_pay30 vc) (constant S64x128 .f32 0x00000000#32) vn (ix3 0 i e)
      = if e.val < 64 then ∑ x, a (ix2 ⟨i, by omega⟩ x) * vc (ix3 0 x e) + ∑ x, b (ix2 ⟨i, by omega⟩ x) * vn (ix3 0 x e)
        else ∑ x, a (ix2 ⟨32 + i, by omega⟩ x) * vc (ix3 0 x e) + ∑ x, b (ix2 ⟨32 + i, by omega⟩ x) * vn (ix3 0 x e) := by
  rw [← lane_pick]
  pointwise [k0_pay31, k0_pay30]

/-- One pair of the body: its scores, weights and mixed values. -/
def pairOf (r0 r1 : FVec Ideal S1x1x768 .f32) (q kn vn : FVec Ideal S1x32x128 .bf16) (kc vc : FVec Ideal S1x512x128 .f32) :
    FVec Ideal S1x32x128 .bf16 :=
  k0_pay31 iotaLanes (k0_pay14 (k0_pay3 q r0 r1 kc) (k0_pay4 (k0_pay1 q) (k0_pay2 r0 r1) kn))
    (k0_pay15 (k0_pay3 q r0 r1 kc) (k0_pay4 (k0_pay1 q) (k0_pay2 r0 r1) kn)) (k0_pay30 vc) (constant S64x128 .f32 0x00000000#32) vn

/-- One pair at an index, when its queries, keys and biases are real: the reference's mix of the values. -/
theorem pairOf_at (r0 r1 : FVec Ideal S1x1x768 .f32) (q kn vn : FVec Ideal S1x32x128 .bf16) (kc vc : FVec Ideal S1x512x128 .f32)
    (Q : Fin 2 → Fin 32 → Fin 64 → ℝ) (K : Fin 2 → Fin 544 → Fin 64 → ℝ) (B : Fin 2 → Fin 32 → Fin 544 → ℝ)
    (v : Fin 544 → Fin 128 → EReal)
    (hq0 : ∀ (i : Fin 32) (x : Fin 64), q (ix3 0 i ⟨x, by omega⟩) = ((Q 0 i x : ℝ) : EReal) * ((1 / 8 / Real.log 2 : ℝ) : EReal))
    (hq1 : ∀ (i : Fin 32) (x : Fin 64),
      q (ix3 0 i ⟨64 + x, by omega⟩) = ((Q 1 i x : ℝ) : EReal) * ((1 / 8 / Real.log 2 : ℝ) : EReal))
    (hc0 : ∀ (j : Fin 512) (x : Fin 64), kc (ix3 0 j ⟨x, by omega⟩) = ((K 0 ⟨j, by omega⟩ x : ℝ) : EReal))
    (hc1 : ∀ (j : Fin 512) (x : Fin 64), kc (ix3 0 j ⟨64 + x, by omega⟩) = ((K 1 ⟨j, by omega⟩ x : ℝ) : EReal))
    (hn0 : ∀ (j : Fin 32) (x : Fin 64), kn (ix3 0 j ⟨x, by omega⟩) = ((K 0 ⟨512 + j, by omega⟩ x : ℝ) : EReal))
    (hn1 : ∀ (j : Fin 32) (x : Fin 64), kn (ix3 0 j ⟨64 + x, by omega⟩) = ((K 1 ⟨512 + j, by omega⟩ x : ℝ) : EReal))
    (hr0 : ∀ (i : Fin 32) (j : Fin 544), r0 (ix3 0 0 ⟨128 + j - i, by omega⟩) = ((B 0 i j : ℝ) : EReal))
    (hr1 : ∀ (i : Fin 32) (j : Fin 544), r1 (ix3 0 0 ⟨128 + j - i, by omega⟩) = ((B 1 i j : ℝ) : EReal))
    (hvc : ∀ (j : Fin 512) (e : Fin 128), vc (ix3 0 j e) = v ⟨j, by omega⟩ e)
    (hvn : ∀ (j : Fin 32) (e : Fin 128), vn (ix3 0 j e) = v ⟨512 + j, by omega⟩ e)
    (i : Fin 32) (e : Fin 128) :
    pairOf r0 r1 q kn vn kc vc (ix3 0 i e)
      = softMix (fun j => (((∑ x, Q ⟨e / 64, by omega⟩ i x * K ⟨e / 64, by omega⟩ j x) * (1 / 8) + B ⟨e / 64, by omega⟩ i j : ℝ) : EReal))
          (fun j => v j e) := by
  have hr0' : ∀ j : Fin 32, r0 (ix3 0 0 ⟨640 + j - i, by omega⟩) = ((B 0 i ⟨512 + j, by omega⟩ : ℝ) : EReal) := by
    intro j
    rw [← hr0]
    congr 2
    exact Fin.ext (show 640 + j.val - i.val = 128 + (512 + j.val) - i.val by omega)
  have hr1' : ∀ j : Fin 32, r1 (ix3 0 0 ⟨640 + j - i, by omega⟩) = ((B 1 i ⟨512 + j, by omega⟩ : ℝ) : EReal) := by
    intro j
    rw [← hr1]
    congr 2
    exact Fin.ext (show 640 + j.val - i.val = 128 + (512 + j.val) - i.val by omega)
  unfold pairOf
  rw [out_at]
  split
  · have he : (⟨e.val / 64, by omega⟩ : Fin 2) = 0 := Fin.ext (show e.val / 64 = 0 by omega)
    rw [he]
    simp only [weight_cached, weight_new]
    refine softMix_eq (n := 512) (p := 32) rfl (fun j => (∑ x, Q 0 i x * K 0 j x) * (1 / 8) + B 0 i j) (fun j => v j e) _ _ _ _
      (fun j => ?_) (fun j => ?_) (fun j => hvc j e) (fun j => hvn j e)
    · rw [cached0]
      simp only [hq0, hc0]
      rw [hr0 i ⟨j, by omega⟩, biased_coe]
    · rw [new0]
      simp only [hq0, hn0]
      rw [hr0', biased_coe]
  · have he : (⟨e.val / 64, by omega⟩ : Fin 2) = 1 := Fin.ext (show e.val / 64 = 1 by omega)
    rw [he]
    simp only [weight_cached, weight_new]
    refine softMix_eq (n := 512) (p := 32) rfl (fun j => (∑ x, Q 1 i x * K 1 j x) * (1 / 8) + B 1 i j) (fun j => v j e) _ _ _ _
      (fun j => ?_) (fun j => ?_) (fun j => hvc j e) (fun j => hvn j e)
    · rw [cached1]
      simp only [hq1, hc1]
      rw [hr1 i ⟨j, by omega⟩, biased_coe]
    · rw [new1]
      simp only [hq1, hn1]
      rw [hr1', biased_coe]

end Cert.Kernel2Ideal.Value
end
-- ==== Proof.RefBand.lean ====
/- The second program's reference result for the running streams, the banded attention with its relative biases, read at an
   index. -/
module
public import proofs.«01_k».proof.Proof.Gen.Reference2Ideal.Run
public import proofs.«01_k».proof.Proof.BandSoft
@[expose] public section
set_option maxRecDepth 16384
noncomputable section
namespace Cert.Reference2Ideal.Value
open Cert.Reference2Ideal Cert.Reference2Ideal.Gen Idealize.ShloMosaic Idealize.ShloMosaic.TcCoe Idealize.SL.Sem Cert.Layer

/-- The cached frames, then the new ones. -/
def refBoth (old : FVec Ideal S32x512x16x64 .f32) (new : FVec Ideal S32x32x16x64 .f32) : FVec Ideal S32x544x16x64 .f32 :=
  concatenate S32x544x16x64 1 [⟨S32x512x16x64, old⟩, ⟨S32x32x16x64, new⟩] concatenates_S32x512x16x64_S32x32x16x64_S32x544x16x64_d1

/-- The distances from key to query, clipped. -/
def refDist : IVec S32x544 32 :=
  addi (minsi (broadcastInDim S32x544 ![] bcast_S_S32x544 (id (constantI S_ 32 128#32))) (maxsi (broadcastInDim S32x544 ![] bcast_S_S32x544 (id (constantI S_ 32 4294967168#32))) (subi (broadcastInDim S32x544 ![0, 1] bcast_S32x1_S32x544_0_1 (broadcastInDim S32x1 ![0] bcast_S32_S32x1_0 (addi (broadcastInDim S32 ![] bcast_S_S32 (constantI S_ 32 1024#32)) (iotaInDim S32 32 0)))) (broadcastInDim S32x544 ![0, 1] bcast_S1x544_S32x544_0_1 (broadcastInDim S1x544 ![1] bcast_S544_S1x544_1 (addi (broadcastInDim S544 ![] bcast_S_S544 (constantI S_ 32 512#32)) (iotaInDim S544 32 0))))))) (broadcastInDim S32x544 ![] bcast_S_S32x544 (constantI S_ 32 128#32))

/-- The biases' places in the table. -/
def refPlace : IVec S32x544x1 32 :=
  broadcastInDim S32x544x1 ![0, 1] bcast_S32x544_S32x544x1_0_1 (select (cmpi .slt refDist (broadcastInDim S32x544 ![] bcast_S_S32x544 (constantI S_ 32 0#32))) (addi refDist (broadcastInDim S32x544 ![] bcast_S_S32x544 (constantI S_ 32 257#32))) refDist)

/-- The biases. -/
def refBias (tb : FVec Ideal S1x16x257 .f32) : FVec Ideal S16x32x544 .f32 :=
  Host.gather gather_S16x257_S32x544x1_S16x32x544_0_1_n_n_1_2_161 (shapeCast _ tb shapeCasts_S1x16x257_S16x257) refPlace

/-- The scaled and biased scores. -/
def refScores (q : FVec Ideal S32x32x16x64 .f32) (k : FVec Ideal S32x544x16x64 .f32) (bias : FVec Ideal S16x32x544 .f32) :
    FVec Ideal S32x16x32x544 .f32 :=
  addf (mulf (Host.dotGeneral dot_S32x32x16x64_S32x544x16x64_S32x16x32x544_3_3_1_1_02_02 none q k) (broadcastInDim S32x16x32x544 ![] bcast_S_S32x16x32x544 (constant S_ .f32 0x3E000000#32))) (broadcastInDim S32x16x32x544 ![0, 1, 2, 3] bcast_S1x16x32x544_S32x16x32x544_0_1_2_3 (broadcastInDim S1x16x32x544 ![1, 2, 3] bcast_S16x32x544_S1x16x32x544_1_2_3 bias))

/-- The rows' maxima. -/
def refTop (s : FVec Ideal S32x16x32x544 .f32) : FVec Ideal S32x16x32 .f32 :=
  Host.reduce FloatOps.maximumf s (constant S_ .f32 0xFF800000#32) reducesTo_S32x16x32x544_S32x16x32_d3 h_S_

/-- The scores' exponentials, each row less its maximum. -/
def refExps (s : FVec Ideal S32x16x32x544 .f32) (t : FVec Ideal S32x16x32 .f32) : FVec Ideal S32x16x32x544 .f32 :=
  Host.exp (subf s (broadcastInDim S32x16x32x544 ![0, 1, 2, 3] bcast_S32x16x32x1_S32x16x32x544_0_1_2_3 (broadcastInDim S32x16x32x1 ![0, 1, 2] bcast_S32x16x32_S32x16x32x1_0_1_2 (maximumf (broadcastInDim S32x16x32 ![] bcast_S_S32x16x32 (constant S_ .f32 0xFF800000#32)) t))))

/-- The softmax of the exponentials. -/
def refSoft (e : FVec Ideal S32x16x32x544 .f32) : FVec Ideal S32x16x32x544 .f32 :=
  Host.divf e (broadcastInDim S32x16x32x544 ![0, 1, 2, 3] bcast_S32x16x32x1_S32x16x32x544_0_1_2_3 (broadcastInDim S32x16x32x1 ![0, 1, 2] bcast_S32x16x32_S32x16x32x1_0_1_2 (Host.reduceAdd e (constant S_ .f32 0x00000000#32) reducesTo_S32x16x32x544_S32x16x32_d3 h_S_)))

/-- The weighted values, the heads side by side. -/
def refMix (v : FVec Ideal S32x544x16x64 .f32) (w : FVec Ideal S32x16x32x544 .f32) : FVec Ideal S32x32x1024 .bf16 :=
  truncf .bf16 (shapeCast _ (transpose S32x32x16x64 [0, 3, 1, 2] (Host.dotGeneral dot_S32x544x16x64_S32x16x32x544_S32x16x64x32_1_3_3_2_02_01 none v w) transposes_S32x16x64x32_S32x32x16x64_0_3_1_2) shapeCasts_S32x32x16x64_S32x32x1024) bitsLt_bf16_f32

/-- The reference's second result as a function of its arrays. -/
def refBand (tb : FVec Ideal S1x16x257 .f32) (q kn vn : FVec Ideal S32x32x16x64 .f32) (ck cv : FVec Ideal S32x512x16x64 .f32) :
    FVec Ideal S32x32x1024 .bf16 :=
  refMix (refBoth cv vn) (refSoft (refExps (refScores q (refBoth ck kn) (refBias tb))
    (refTop (refScores q (refBoth ck kn) (refBias tb)))))

theorem res_main_v85_eq (m : (ℓ : Loc nD τ sig) → Buf (Elt Ideal) ℓ) (c : Dev nD) :
    res_main_v85 m c = refBand (m ((c.tc : Thread nD τ).loc main_arg7)) (m ((c.tc : Thread nD τ).loc main_arg8))
      (m ((c.tc : Thread nD τ).loc main_arg9)) (m ((c.tc : Thread nD τ).loc main_arg10))
      (m ((c.tc : Thread nD τ).loc main_arg11)) (m ((c.tc : Thread nD τ).loc main_arg12)) := rfl

theorem refBoth_at (old : FVec Ideal S32x512x16x64 .f32) (new : FVec Ideal S32x32x16x64 .f32) (b : Fin 32) (j : Fin 544)
    (h : Fin 16) (d : Fin 64) :
    refBoth old new (ix4 b j h d)
      = if hj : j.val < 512 then old (ix4 b ⟨j, hj⟩ h d) else new (ix4 b ⟨j - 512, by omega⟩ h d) := by
  pointwise [refBoth]

/-- The place in the table of key `j`'s bias for query `i`. -/
def place (i : Fin 32) (j : Fin 544) : Fin 257 := ⟨min (640 + i - j) 256, by omega⟩

/-- The clipped distances, counted on 32-bit words, are the table's places. -/
theorem place_word : ∀ (i : Fin 32) (j : Fin 544),
    min (Scalar.select (IntOp.cmpi CmpIPredicate.slt (IntOp.addi (IntOp.minsi 128#32 (IntOp.maxsi 4294967168#32
        (IntOp.subi (IntOp.addi 1024#32 (BitVec.ofNat 32 i.val)) (IntOp.addi 512#32 (BitVec.ofNat 32 j.val))))) 128#32) 0#32)
      (IntOp.addi (IntOp.addi (IntOp.minsi 128#32 (IntOp.maxsi 4294967168#32
        (IntOp.subi (IntOp.addi 1024#32 (BitVec.ofNat 32 i.val)) (IntOp.addi 512#32 (BitVec.ofNat 32 j.val))))) 128#32) 257#32)
      (IntOp.addi (IntOp.minsi 128#32 (IntOp.maxsi 4294967168#32
        (IntOp.subi (IntOp.addi 1024#32 (BitVec.ofNat 32 i.val)) (IntOp.addi 512#32 (BitVec.ofNat 32 j.val))))) 128#32)).toInt.toNat 256
      = (place i j).val := by
  decide +kernel

theorem refPlace_at (i : Fin 32) (j : Fin 544) : min (refPlace (ix3 i j 0)).toInt.toNat 256 = (place i j).val := by
  rw [← place_word]
  pointwise [refPlace, refDist]
  rfl

/-- The biases' gather at an index. -/
theorem gather_at (x : FVec Ideal S16x257 .f32) (ix : IVec S32x544x1 32) (h : Fin 16) (i : Fin 32) (j : Fin 544) :
    Host.gather gather_S16x257_S32x544x1_S16x32x544_0_1_n_n_1_2_161 x ix (ix3 h i j)
      = x (ix2 h ⟨min (ix (ix3 i j 0)).toInt.toNat 256, by omega⟩) := by
  unfold Host.gather
  congr 1
  funext a
  refine Fin.ext ?_
  fin_cases a
  · show gather_S16x257_S32x544x1_S16x32x544_0_1_n_n_1_2_161.start (ix3 h i j) ix 0
        + gather_S16x257_S32x544x1_S16x32x544_0_1_n_n_1_2_161.batchCoord (ix3 h i j) 0
        + gather_S16x257_S32x544x1_S16x32x544_0_1_n_n_1_2_161.offCoord (ix3 h i j) 0 = h.val
    rw [GatherDims.batchCoord_eq_zero _ _ _ List.not_mem_nil]
    unfold GatherDims.start GatherDims.offCoord
    rw [dif_neg (by decide), dif_pos (by decide)]
    simp only [Nat.zero_add]
    rfl
  · show gather_S16x257_S32x544x1_S16x32x544_0_1_n_n_1_2_161.start (ix3 h i j) ix 1
        + gather_S16x257_S32x544x1_S16x32x544_0_1_n_n_1_2_161.batchCoord (ix3 h i j) 1
        + gather_S16x257_S32x544x1_S16x32x544_0_1_n_n_1_2_161.offCoord (ix3 h i j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x257_S32x544x1_S16x32x544_0_1_n_n_1_2_161.startIndexMap from List.mem_singleton.mpr rfl)]
    have hsi : gather_S16x257_S32x544x1_S16x32x544_0_1_n_n_1_2_161.siIdx (ix3 h i j)
        ⟨List.idxOf (1 : Fin 2) gather_S16x257_S32x544x1_S16x32x544_0_1_n_n_1_2_161.startIndexMap,
          List.idxOf_lt_length_iff.2 (List.mem_singleton.mpr rfl)⟩ = ix3 i j 0 := by
      funext b
      refine Fin.ext ?_
      fin_cases b <;> rfl
    rw [hsi]
    rfl

theorem refBias_at (tb : FVec Ideal S1x16x257 .f32) (h : Fin 16) (i : Fin 32) (j : Fin 544) :
    refBias tb (ix3 h i j) = tb (ix3 0 h (place i j)) := by
  unfold refBias
  rw [gather_at]
  have hp : (⟨min (refPlace (ix3 i j 0)).toInt.toNat 256, by omega⟩ : Fin 257) = place i j := Fin.ext (refPlace_at i j)
  rw [hp]
  pointwise

theorem refScores_at (q : FVec Ideal S32x32x16x64 .f32) (k : FVec Ideal S32x544x16x64 .f32) (bias : FVec Ideal S16x32x544 .f32)
    (b : Fin 32) (h : Fin 16) (i : Fin 32) (j : Fin 544) :
    refScores q k bias (ix4 b h i j)
      = (∑ x, q (ix4 b i h x) * k (ix4 b j h x)) * Ideal.ofBits FTy.f32 1040187392#32 + bias (ix3 h i j) := by
  pointwise [refScores]

theorem refTop_at (s : FVec Ideal S32x16x32x544 .f32) (b : Fin 32) (h : Fin 16) (i : Fin 32) :
    refTop s (ix3 b h i) = Finset.fold max ⊥ (fun x => s (ix4 b h i x)) Finset.univ := by
  rw [← lit_bot]
  pointwise [refTop]

theorem refExps_at (s : FVec Ideal S32x16x32x544 .f32) (t : FVec Ideal S32x16x32 .f32) (b : Fin 32) (h : Fin 16)
    (i : Fin 32) (j : Fin 544) : refExps s t (ix4 b h i j) = Ideal.exp (s (ix4 b h i j) - t (ix3 b h i)) := by
  pointwise [refExps, lit_bot]
  rw [max_eq_right bot_le]

theorem refSoft_at (e : FVec Ideal S32x16x32x544 .f32) (b : Fin 32) (h : Fin 16) (i : Fin 32) (j : Fin 544) :
    refSoft e (ix4 b h i j) = Ideal.div (e (ix4 b h i j)) (∑ x, e (ix4 b h i x)) := by
  pointwise [refSoft]

theorem refMix_at (v : FVec Ideal S32x544x16x64 .f32) (w : FVec Ideal S32x16x32x544 .f32) (b i : Fin 32) (l : Fin 1024) :
    refMix v w (ix3 b i l)
      = ∑ x, v (ix4 b x ⟨l / 64, by omega⟩ ⟨l % 64, by omega⟩) * w (ix4 b ⟨l / 64, by omega⟩ i x) := by
  pointwise [refMix]

/-- The reference's second result at an index. -/
theorem refBand_at (tb : FVec Ideal S1x16x257 .f32) (q kn vn : FVec Ideal S32x32x16x64 .f32)
    (ck cv : FVec Ideal S32x512x16x64 .f32) (b i : Fin 32) (l : Fin 1024) :
    refBand tb q kn vn ck cv (ix3 b i l)
      = softMix (fun j => refScores q (refBoth ck kn) (refBias tb) (ix4 b ⟨l / 64, by omega⟩ i j))
          (fun j => refBoth cv vn (ix4 b j ⟨l / 64, by omega⟩ ⟨l % 64, by omega⟩)) := by
  unfold refBand
  rw [refMix_at]
  simp only [refSoft_at, refExps_at, refTop_at]
  rfl

end Cert.Reference2Ideal.Value
end
-- ==== Proof.RefPost2.lean ====
/- The second program's reference result for the prompt, the layer's output after the second half and the final norm, read at an
   index. -/
module
public import proofs.«01_k».proof.Proof.Gen.Reference2Ideal.Run
public import proofs.«01_k».proof.Proof.Spec
@[expose] public section
set_option maxRecDepth 16384
noncomputable section
namespace Cert.Reference2Ideal.Value
open Cert.Reference2Ideal Cert.Reference2Ideal.Gen Idealize.ShloMosaic Idealize.ShloMosaic.TcCoe Idealize.SL.Sem Cert.Layer

/-- The residual with the projected attention. -/
def refResid (x o : FVec Ideal S8x2048x1024 .f32) (w : FVec Ideal S1x1024x1024 .f32) : FVec Ideal S8x2048x1024 .f32 :=
  addf x (Host.dotGeneral dot_S8x2048x1024_S1024x1024_S8x2048x1024_2_0_01_1_n_n none o
    (shapeCast _ w shapeCasts_S1x1024x1024_S1024x1024))

/-- The second layer's gains. -/
def refGain (g : FVec Ideal S2x1024 .f32) : FVec Ideal S1024 .f32 :=
  shapeCast _ (extractStridedSlice S1x1024 ![1, 0] g slices_S2x1024_S1x1024_1_0) shapeCasts_S1x1024_S1024

/-- The norm of every row. -/
def refNorm (h : FVec Ideal S8x2048x1024 .f32) (g : FVec Ideal S1024 .f32) : FVec Ideal S8x2048x1024 .f32 :=
  mulf (mulf h (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf h h) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The hidden units. -/
def refUnit (hn : FVec Ideal S8x2048x1024 .f32) (w1 : FVec Ideal S2x1024x4096 .f32) : FVec Ideal S8x2048x4096 .f32 :=
  maximumf (Host.dotGeneral dot_S8x2048x1024_S1024x4096_S8x2048x4096_2_0_01_1_n_n none hn (shapeCast _ (extractStridedSlice S1x1024x4096 ![1, 0, 0] w1 slices_S2x1024x4096_S1x1024x4096_1_0_0) shapeCasts_S1x1024x4096_S1024x4096)) (broadcastInDim S8x2048x4096 ![] bcast_S_S8x2048x4096 (constant S_ .f32 0x00000000#32))

/-- The MLP's output added to the residual. -/
def refMlp (h : FVec Ideal S8x2048x1024 .f32) (u : FVec Ideal S8x2048x4096 .f32) (w2 : FVec Ideal S2x4096x1024 .f32) :
    FVec Ideal S8x2048x1024 .f32 :=
  addf h (Host.dotGeneral dot_S8x2048x4096_S4096x1024_S8x2048x1024_2_0_01_1_n_n none (mulf u u) (shapeCast _ (extractStridedSlice S1x4096x1024 ![1, 0, 0] w2 slices_S2x4096x1024_S1x4096x1024_1_0_0) shapeCasts_S1x4096x1024_S4096x1024))

theorem refResid_at (x o : FVec Ideal S8x2048x1024 .f32) (w : FVec Ideal S1x1024x1024 .f32) (a : Fin 8) (b : Fin 2048)
    (j : Fin 1024) :
    refResid x o w (ix3 a b j) = residAt (fun k => x (ix3 a b k)) (fun k => o (ix3 a b k)) (fun k j => w (ix3 0 k j)) j := by
  pointwise [refResid, residAt]

theorem refGain_at (g : FVec Ideal S2x1024 .f32) (j : Fin 1024) : refGain g (ix1 j) = g (ix2 1 j) := by
  pointwise [refGain]

theorem refNorm_at (h : FVec Ideal S8x2048x1024 .f32) (g : FVec Ideal S1024 .f32) (a : Fin 8) (b : Fin 2048)
    (j : Fin 1024) :
    refNorm h g (ix3 a b j) = rmsAt 1149239296#32 (fun k => h (ix3 a b k)) (fun k => g (ix1 k)) j := by
  pointwise [refNorm, rmsAt]

theorem refUnit_at (hn : FVec Ideal S8x2048x1024 .f32) (w1 : FVec Ideal S2x1024x4096 .f32) (a : Fin 8) (b : Fin 2048)
    (f : Fin 4096) :
    refUnit hn w1 (ix3 a b f) = unitAt (fun k => hn (ix3 a b k)) (fun k f => w1 (ix3 1 k f)) f := by
  pointwise [refUnit, unitAt]

theorem refMlp_at (h : FVec Ideal S8x2048x1024 .f32) (u : FVec Ideal S8x2048x4096 .f32) (w2 : FVec Ideal S2x4096x1024 .f32)
    (a : Fin 8) (b : Fin 2048) (j : Fin 1024) :
    refMlp h u w2 (ix3 a b j) = h (ix3 a b j) + ∑ f : Fin 4096, u (ix3 a b f) * u (ix3 a b f) * w2 (ix3 1 f j) := by
  pointwise [refMlp]

/-- The reference's first result as a function of its arrays. -/
def refFinal (x o : FVec Ideal S8x2048x1024 .f32) (w : FVec Ideal S1x1024x1024 .f32) (g : FVec Ideal S2x1024 .f32)
    (w1 : FVec Ideal S2x1024x4096 .f32) (w2 : FVec Ideal S2x4096x1024 .f32) (gf : FVec Ideal S1024 .f32) :
    FVec Ideal S16384x1024 .f32 :=
  shapeCast _ (refNorm (refMlp (refResid x o w) (refUnit (refNorm (refResid x o w) (refGain g)) w1) w2) gf)
    shapeCasts_S8x2048x1024_S16384x1024

theorem refFinal_at (x o : FVec Ideal S8x2048x1024 .f32) (w : FVec Ideal S1x1024x1024 .f32) (g : FVec Ideal S2x1024 .f32)
    (w1 : FVec Ideal S2x1024x4096 .f32) (w2 : FVec Ideal S2x4096x1024 .f32) (gf : FVec Ideal S1024 .f32) (r : Fin 16384)
    (j : Fin 1024) :
    refFinal x o w g w1 w2 gf (ix2 r j)
      = rmsAt 1149239296#32 (postAt (fun k => x (ix3 ⟨r / 2048, by omega⟩ ⟨r % 2048, by omega⟩ k))
          (fun k => o (ix3 ⟨r / 2048, by omega⟩ ⟨r % 2048, by omega⟩ k)) (fun k j => w (ix3 0 k j)) (fun k => g (ix2 1 k))
          (fun k f => w1 (ix3 1 k f)) (fun f j => w2 (ix3 1 f j))) (fun k => gf (ix1 k)) j := by
  pointwise [refFinal]
  rw [refNorm_at]
  congr 1
  funext k
  rw [refMlp_at]
  simp only [refUnit_at, refNorm_at, refGain_at, refResid_at, postAt, mlpAt]

theorem res_main_v84_eq (m : (ℓ : Loc nD τ sig) → Buf (Elt Ideal) ℓ) (c : Dev nD) :
    res_main_v84 m c = refFinal (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := rfl

end Cert.Reference2Ideal.Value
end
-- ==== Proof.Post2.lean ====
/- The second program's first result: each grid step's block of the prompt after the last norm is the reference's. -/
module
public import proofs.«01_k».proof.Proof.Gen.Kernel2Ideal.Value
public import proofs.«01_k».proof.Proof.RefPost2
public import Idealize.ShloMosaic.Lib.Pipeline.ValueKit
@[expose] public section
set_option maxRecDepth 16384
noncomputable section
namespace Cert.Kernel2Ideal.Value
open Cert.Kernel2Ideal Cert.Kernel2Ideal.Gen Idealize.ShloMosaic Idealize.ShloMosaic.TcCoe Idealize.SL.Sem Cert.Layer
open Idealize.ShloMosaic.Pipeline (Dat)

/-- The body's residual rows. -/
theorem resid_at (x : FVec Ideal S512x1024 .f32) (o : FVec Ideal S512x1024 .bf16) (w : FVec Ideal S1024x1024 .bf16)
    (r : Fin 512) (j : Fin 1024) :
    k0_pay16 (F := Ideal) x o w (ix2 r j) = residAt (fun k => x (ix2 r k)) (fun k => o (ix2 r k)) (fun k j => w (ix2 k j)) j := by
  pointwise [k0_pay16, residAt]

/-- The body's normed rows. -/
theorem norm_at (h : FVec Ideal S512x1024 .f32) (g : FVec Ideal S1x1024 .f32) (r : Fin 512) (j : Fin 1024) :
    k0_pay17 (F := Ideal) h g (ix2 r j) = rmsAt 1149239296#32 (fun k => h (ix2 r k)) (fun k => g (ix2 0 k)) j := by
  pointwise [k0_pay17, rmsAt]

/-- The body's last chunk and norm. -/
theorem last_at (h acc : FVec Ideal S512x1024 .f32) (u : FVec Ideal S512x1024 .bf16) (w2 : FVec Ideal S1x1024x1024 .bf16)
    (gf : FVec Ideal S1x1024 .f32) (r : Fin 512) (j : Fin 1024) :
    k0_pay122 (F := Ideal) h acc u w2 gf (ix2 r j)
      = rmsAt 1149239296#32 (fun k => h (ix2 r k) + (acc (ix2 r k) + ∑ f, u (ix2 r f) * w2 (ix3 0 f k)))
          (fun k => gf (ix2 0 k)) j := by
  pointwise [k0_pay122, rmsAt]

/-- The body's four chunks of the MLP, at one row, are the MLP over its 4096 hidden units. -/
theorem chunks_at (h : FVec Ideal S512x1024 .f32) (hn : FVec Ideal S512x1024 .bf16) (gf : FVec Ideal S1x1024 .f32)
    (a0 a1 a2 a3 b0 b1 b2 b3 : FVec Ideal S1x1024x1024 .bf16)
    (w1 : Fin 1024 → Fin 4096 → EReal) (w2 : Fin 4096 → Fin 1024 → EReal)
    (ha0 : ∀ k f : Fin 1024, a0 (ix3 0 k f) = w1 k ⟨f, by omega⟩)
    (ha1 : ∀ k f : Fin 1024, a1 (ix3 0 k f) = w1 k ⟨1024 + f, by omega⟩)
    (ha2 : ∀ k f : Fin 1024, a2 (ix3 0 k f) = w1 k ⟨2048 + f, by omega⟩)
    (ha3 : ∀ k f : Fin 1024, a3 (ix3 0 k f) = w1 k ⟨3072 + f, by omega⟩)
    (hb0 : ∀ f j : Fin 1024, b0 (ix3 0 f j) = w2 ⟨f, by omega⟩ j)
    (hb1 : ∀ f j : Fin 1024, b1 (ix3 0 f j) = w2 ⟨1024 + f, by omega⟩ j)
    (hb2 : ∀ f j : Fin 1024, b2 (ix3 0 f j) = w2 ⟨2048 + f, by omega⟩ j)
    (hb3 : ∀ f j : Fin 1024, b3 (ix3 0 f j) = w2 ⟨3072 + f, by omega⟩ j)
    (r : Fin 512) (j : Fin 1024) :
    k0_pay122 h (k0_pay112 (k0_pay82 (k0_pay47 (k0_pay32 hn a0) b0) (k0_pay64 (k0_pay63 hn a1) (Scalar.ofBits .f32 0x00000000#32)) b1)
        (k0_pay98 hn a2) b2) (k0_pay120 hn a3) b3 gf (ix2 r j)
      = rmsAt 1149239296#32 (fun k => h (ix2 r k) + mlpAt (fun k => hn (ix2 r k)) w1 w2 k) (fun k => gf (ix2 0 k)) j := by
  rw [last_at]
  congr 1
  funext k
  rw [mlpAt_tiles]
  pointwise [k0_pay112, k0_pay82, k0_pay47, k0_pay32, k0_pay63, k0_pay64, k0_pay98, k0_pay120]
  simp only [ha0, ha1, ha2, ha3, hb0, hb1, hb2, hb3, unitAt]

variable (m : (ℓ : Loc nD τ sig) → Buf (Elt Ideal) ℓ)

/-- The host-prepared operands at an index, in the arguments. -/
theorem V_x (c : Dev nD) (r : Fin 16384) (j : Fin 1024) :
    V m c main_v17 (ix2 r j) = m ((c.tc : Thread nD τ).loc main_arg0) (ix3 ⟨r / 2048, by omega⟩ ⟨r % 2048, by omega⟩ j) := by
  entry_read; pointwise; try rfl
theorem V_o (c : Dev nD) (r : Fin 16384) (j : Fin 1024) :
    V m c main_v19 (ix2 r j) = m ((c.tc : Thread nD τ).loc main_arg1) (ix3 ⟨r / 2048, by omega⟩ ⟨r % 2048, by omega⟩ j) := by
  entry_read; pointwise; try rfl
theorem V_w (c : Dev nD) (k j : Fin 1024) :
    V m c main_v1 (ix2 k j) = m ((c.tc : Thread nD τ).loc main_arg2) (ix3 0 k j) := by
  entry_read; pointwise; try rfl
theorem V_g (c : Dev nD) (j : Fin 1024) :
    V m c main_v6 (ix2 0 j) = m ((c.tc : Thread nD τ).loc main_arg3) (ix2 1 j) := by
  entry_read; pointwise; try rfl
theorem V_w1 (c : Dev nD) (l : Fin 2) (k : Fin 1024) (f : Fin 4096) :
    V m c main_v2 (ix3 l k f) = m ((c.tc : Thread nD τ).loc main_arg4) (ix3 l k f) := by
  entry_read; pointwise; try rfl
theorem V_w2 (c : Dev nD) (l : Fin 2) (f : Fin 4096) (j : Fin 1024) :
    V m c main_v3 (ix3 l f j) = m ((c.tc : Thread nD τ).loc main_arg5) (ix3 l f j) := by
  entry_read; pointwise; try rfl
theorem V_gf (c : Dev nD) (j : Fin 1024) :
    V m c main_v7 (ix2 0 j) = m ((c.tc : Thread nD τ).loc main_arg6) (ix1 j) := by
  entry_read; pointwise; try rfl

/-- Where the windows lie at each grid step. -/
theorem idx : ∀ t : Fin cfg0.N, win0_0.index t = ![t.val, 0] ∧ win0_1.index t = ![t.val, 0] ∧ win0_2.index t = ![0, 0]
    ∧ win0_3.index t = ![0, 0] ∧ win0_4.index t = ![1, 0, 0] ∧ win0_5.index t = ![1, 0, 0] ∧ win0_6.index t = ![0, 0]
    ∧ win0_7.index t = ![0, 0, 0] ∧ win0_8.index t = ![t.val, 0, 0] ∧ win0_9.index t = ![t.val, 0, 0]
    ∧ win0_10.index t = ![t.val, 0, 0] ∧ win0_11.index t = ![t.val, 0, 0] ∧ win0_12.index t = ![t.val, 0, 0]
    ∧ win0_13.index t = ![t.val, 0] ∧ win0_14.index t = ![t.val, 0, 0] :=
  (by decide +kernel : ∀ t : Fin grid0.N, _)

theorem lt_N (t : Fin cfg0.N) : t.val < 32 := t.isLt.trans_eq N_0

/-- The blocks of the operands at an index, in the arguments. -/
theorem blk_x (c : Dev nD) (t : Fin cfg0.N) (i : Fin 512) (j : Fin 1024) :
    iblk m c 0 t (ix2 i j) = m ((c.tc : Thread nD τ).loc main_arg0)
      (ix3 ⟨(t.val * 512 + i) / 2048, by have := lt_N t; omega⟩ ⟨(t.val * 512 + i) % 2048, by omega⟩ j) := by
  refine Eq.trans ?_ (V_x m c ⟨t.val * 512 + i, by have := lt_N t; omega⟩ j)
  blk_simp [iblk]
  blk_point [idx t]
theorem blk_o (c : Dev nD) (t : Fin cfg0.N) (i : Fin 512) (j : Fin 1024) :
    iblk m c 1 t (ix2 i j) = m ((c.tc : Thread nD τ).loc main_arg1)
      (ix3 ⟨(t.val * 512 + i) / 2048, by have := lt_N t; omega⟩ ⟨(t.val * 512 + i) % 2048, by omega⟩ j) := by
  refine Eq.trans ?_ (V_o m c ⟨t.val * 512 + i, by have := lt_N t; omega⟩ j)
  blk_simp [iblk]
  blk_point [idx t]
theorem blk_w (c : Dev nD) (t : Fin cfg0.N) (k j : Fin 1024) :
    iblk m c 2 t (ix2 k j) = m ((c.tc : Thread nD τ).loc main_arg2) (ix3 0 k j) := by
  refine Eq.trans ?_ (V_w m c k j)
  blk_simp [iblk]
  blk_point [idx t]
theorem blk_g (c : Dev nD) (t : Fin cfg0.N) (j : Fin 1024) :
    iblk m c 3 t (ix2 0 j) = m ((c.tc : Thread nD τ).loc main_arg3) (ix2 1 j) := by
  refine Eq.trans ?_ (V_g m c j)
  blk_simp [iblk]
  blk_point [idx t]
theorem blk_w1 (c : Dev nD) (t : Fin cfg0.N) (k : Fin 1024) (f : Fin 4096) :
    iblk m c 4 t (ix3 0 k f) = m ((c.tc : Thread nD τ).loc main_arg4) (ix3 1 k f) := by
  refine Eq.trans ?_ (V_w1 m c 1 k f)
  blk_simp [iblk]
  blk_point [idx t]
theorem blk_w2 (c : Dev nD) (t : Fin cfg0.N) (f : Fin 4096) (j : Fin 1024) :
    iblk m c 5 t (ix3 0 f j) = m ((c.tc : Thread nD τ).loc main_arg5) (ix3 1 f j) := by
  refine Eq.trans ?_ (V_w2 m c 1 f j)
  blk_simp [iblk]
  blk_point [idx t]
theorem blk_gf (c : Dev nD) (t : Fin cfg0.N) (j : Fin 1024) :
    iblk m c 6 t (ix2 0 j) = m ((c.tc : Thread nD τ).loc main_arg6) (ix1 j) := by
  refine Eq.trans ?_ (V_gf m c j)
  blk_simp [iblk]
  blk_point [idx t]

set_option maxHeartbeats 1000000 in
/-- The program's first result is the reference's. -/
theorem final13 (c : Dev nD) :
    (dats m 0 c).arrAt 13 cfg0.N
      = Cert.Reference2Ideal.Value.refFinal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  refine (dats m 0 c).arrAt_eq_of_covers 13 _ (by decide +kernel) fun t _ y => ?_
  have hout : ∀ (i : Fin 512) (j : Fin 1024), ((View.whole main_v30_0).slice (win0_13.rect t)).emb (ix2 i j)
      = ix2 ⟨t.val * 512 + i, by have := lt_N t; omega⟩ j := by
    intro i j
    blk_ext [idx t]
  blk_simp
  rw [after0_13]
  unfold_out out0_13
  frame_out
  obtain ⟨i, j, rfl⟩ : ∃ (i : Fin 512) (j : Fin 1024), y = ix2 i j := ⟨y 0, y 1, by funext a; fin_cases a <;> rfl⟩
  refine (chunks_at _ _ _ _ _ _ _ _ _ _ _ (fun k f => m ((c.tc : Thread nD τ).loc main_arg4) (ix3 1 k f))
    (fun f j => m ((c.tc : Thread nD τ).loc main_arg5) (ix3 1 f j)) ?_ ?_ ?_ ?_ ?_ ?_ ?_ ?_ i j).trans ?_
  case refine_9 =>
    rw [hout, Cert.Reference2Ideal.Value.refFinal_at]
    simp only [resid_at, norm_at, blk_x, blk_o, blk_w, blk_g, blk_gf]
    rfl
  case refine_1 | refine_2 | refine_3 | refine_4 =>
    intro k f
    pointwise
    exact blk_w1 m c t _ _
  all_goals
    intro f j
    pointwise
    exact blk_w2 m c t _ _

end Cert.Kernel2Ideal.Value
end
-- ==== Proof.Band.lean ====
/- The second program's second result: each pair of heads of a stream is the reference's banded attention. -/
module
public import proofs.«01_k».proof.Proof.BandPair
public import proofs.«01_k».proof.Proof.RefBand
public import proofs.«01_k».proof.Proof.Post2
@[expose] public section
set_option maxRecDepth 16384
noncomputable section
namespace Cert.Kernel2Ideal.Value
open Cert.Kernel2Ideal Cert.Kernel2Ideal.Gen Idealize.ShloMosaic Idealize.ShloMosaic.TcCoe Idealize.SL.Sem Cert.Layer
open Idealize.ShloMosaic.Pipeline (Dat)
open Cert.Reference2Ideal.Value (refBand refBoth refBias refScores place refBand_at refBoth_at refBias_at refScores_at)

variable (m : (ℓ : Loc nD τ sig) → Buf (Elt Ideal) ℓ)

/-- The host-prepared operands of the attention at an index, in the arguments. -/
theorem V_r (c : Dev nD) (p : Fin 8) (u : Fin 2) (t : Fin 768) :
    V m c main_v14 (ix3 p u t)
      = m ((c.tc : Thread nD τ).loc main_arg7) (ix3 0 ⟨2 * p + u, by omega⟩ ⟨min (768 - t) 256, by omega⟩) := by
  entry_read
  pointwise
  split
  · congr 1
    blk_ext
  · congr 1
    funext a
    fin_cases a
    · rfl
    · refine Fin.ext ?_
      show p.val * 2 + u.val = 2 * p.val + u.val
      omega
    · refine Fin.ext ?_
      show 1 + (256 - (t.val - 512 + 1)) = min (768 - t.val) 256
      omega
theorem V_q (c : Dev nD) (b i : Fin 32) (l : Fin 1024) (a : EReal)
    (ha : m ((c.tc : Thread nD τ).loc main_arg8) (ix4 b i ⟨l / 64, by omega⟩ ⟨l % 64, by omega⟩) = a) :
    V m c main_v25 (ix3 b i l) = a * ((1 / 8 / Real.log 2 : ℝ) : EReal) := by
  rw [← scale_eq, ← ha]
  entry_read; pointwise; try rfl
theorem V_kn (c : Dev nD) (b i : Fin 32) (l : Fin 1024) :
    V m c main_v27 (ix3 b i l) = m ((c.tc : Thread nD τ).loc main_arg9) (ix4 b i ⟨l / 64, by omega⟩ ⟨l % 64, by omega⟩) := by
  entry_read; pointwise; try rfl
theorem V_vn (c : Dev nD) (b i : Fin 32) (l : Fin 1024) :
    V m c main_v29 (ix3 b i l) = m ((c.tc : Thread nD τ).loc main_arg10) (ix4 b i ⟨l / 64, by omega⟩ ⟨l % 64, by omega⟩) := by
  entry_read; pointwise; try rfl
theorem V_ck (c : Dev nD) (b : Fin 32) (j : Fin 512) (l : Fin 1024) :
    V m c main_v15 (ix3 b j l) = m ((c.tc : Thread nD τ).loc main_arg11) (ix4 b j ⟨l / 64, by omega⟩ ⟨l % 64, by omega⟩) := by
  entry_read; pointwise; try rfl
theorem V_cv (c : Dev nD) (b : Fin 32) (j : Fin 512) (l : Fin 1024) :
    V m c main_v16 (ix3 b j l) = m ((c.tc : Thread nD τ).loc main_arg12) (ix4 b j ⟨l / 64, by omega⟩ ⟨l % 64, by omega⟩) := by
  entry_read; pointwise; try rfl

/-- The blocks of the attention's operands at an index, in the arguments. -/
theorem blk_r (c : Dev nD) (t : Fin cfg0.N) (p : Fin 8) (u : Fin 2) (x : Fin 768) :
    iblk m c 7 t (ix3 p u x)
      = m ((c.tc : Thread nD τ).loc main_arg7) (ix3 0 ⟨2 * p + u, by omega⟩ ⟨min (768 - x) 256, by omega⟩) := by
  refine Eq.trans ?_ (V_r m c p u x)
  blk_simp [iblk]
  blk_point [idx t]
theorem blk_q (c : Dev nD) (t : Fin cfg0.N) (i : Fin 32) (l : Fin 1024) (a : EReal)
    (ha : m ((c.tc : Thread nD τ).loc main_arg8) (ix4 ⟨t.val, lt_N t⟩ i ⟨l / 64, by omega⟩ ⟨l % 64, by omega⟩) = a) :
    iblk m c 8 t (ix3 0 i l) = a * ((1 / 8 / Real.log 2 : ℝ) : EReal) := by
  refine Eq.trans ?_ (V_q m c ⟨t.val, lt_N t⟩ i l a ha)
  blk_simp [iblk]
  blk_point [idx t]
theorem blk_kn (c : Dev nD) (t : Fin cfg0.N) (i : Fin 32) (l : Fin 1024) :
    iblk m c 9 t (ix3 0 i l)
      = m ((c.tc : Thread nD τ).loc main_arg9) (ix4 ⟨t.val, lt_N t⟩ i ⟨l / 64, by omega⟩ ⟨l % 64, by omega⟩) := by
  refine Eq.trans ?_ (V_kn m c ⟨t.val, lt_N t⟩ i l)
  blk_simp [iblk]
  blk_point [idx t]
theorem blk_vn (c : Dev nD) (t : Fin cfg0.N) (i : Fin 32) (l : Fin 1024) :
    iblk m c 10 t (ix3 0 i l)
      = m ((c.tc : Thread nD τ).loc main_arg10) (ix4 ⟨t.val, lt_N t⟩ i ⟨l / 64, by omega⟩ ⟨l % 64, by omega⟩) := by
  refine Eq.trans ?_ (V_vn m c ⟨t.val, lt_N t⟩ i l)
  blk_simp [iblk]
  blk_point [idx t]
theorem blk_ck (c : Dev nD) (t : Fin cfg0.N) (j : Fin 512) (l : Fin 1024) :
    iblk m c 11 t (ix3 0 j l)
      = m ((c.tc : Thread nD τ).loc main_arg11) (ix4 ⟨t.val, lt_N t⟩ j ⟨l / 64, by omega⟩ ⟨l % 64, by omega⟩) := by
  refine Eq.trans ?_ (V_ck m c ⟨t.val, lt_N t⟩ j l)
  blk_simp [iblk]
  blk_point [idx t]
theorem blk_cv (c : Dev nD) (t : Fin cfg0.N) (j : Fin 512) (l : Fin 1024) :
    iblk m c 12 t (ix3 0 j l)
      = m ((c.tc : Thread nD τ).loc main_arg12) (ix4 ⟨t.val, lt_N t⟩ j ⟨l / 64, by omega⟩ ⟨l % 64, by omega⟩) := by
  refine Eq.trans ?_ (V_cv m c ⟨t.val, lt_N t⟩ j l)
  blk_simp [iblk]
  blk_point [idx t]

section Pieces
variable (c : Dev nD) (tbr : S1x16x257.Idx → ℝ) (qr knr : S32x32x16x64.Idx → ℝ) (ckr : S32x512x16x64.Idx → ℝ)
    (htb : ∀ x, m ((c.tc : Thread nD τ).loc main_arg7) x = ((tbr x : ℝ) : EReal))
    (hq : ∀ x, m ((c.tc : Thread nD τ).loc main_arg8) x = ((qr x : ℝ) : EReal))
    (hkn : ∀ x, m ((c.tc : Thread nD τ).loc main_arg9) x = ((knr x : ℝ) : EReal))
    (hck : ∀ x, m ((c.tc : Thread nD τ).loc main_arg11) x = ((ckr x : ℝ) : EReal))
include htb hq hkn hck

/-- One pair of grid step `t` is the reference's two heads, given its loads as slices of the step's blocks. -/
theorem pair_close (t : Fin cfg0.N) (p : Fin 8) (r0 r1 : FVec Ideal S1x1x768 .f32) (q kn vn : FVec Ideal S1x32x128 .bf16)
    (kc vc : FVec Ideal S1x512x128 .f32)
    (lr0 : ∀ x : Fin 768, r0 (ix3 0 0 x) = iblk m c 7 t (ix3 p 0 x))
    (lr1 : ∀ x : Fin 768, r1 (ix3 0 0 x) = iblk m c 7 t (ix3 p 1 x))
    (lq : ∀ (i : Fin 32) (x : Fin 128), q (ix3 0 i x) = iblk m c 8 t (ix3 0 i ⟨128 * p + x, by omega⟩))
    (lkn : ∀ (i : Fin 32) (x : Fin 128), kn (ix3 0 i x) = iblk m c 9 t (ix3 0 i ⟨128 * p + x, by omega⟩))
    (lvn : ∀ (i : Fin 32) (x : Fin 128), vn (ix3 0 i x) = iblk m c 10 t (ix3 0 i ⟨128 * p + x, by omega⟩))
    (lkc : ∀ (j : Fin 512) (x : Fin 128), kc (ix3 0 j x) = iblk m c 11 t (ix3 0 j ⟨128 * p + x, by omega⟩))
    (lvc : ∀ (j : Fin 512) (x : Fin 128), vc (ix3 0 j x) = iblk m c 12 t (ix3 0 j ⟨128 * p + x, by omega⟩))
    (i : Fin 32) (e : Fin 128) :
    pairOf r0 r1 q kn vn kc vc (ix3 0 i e)
      = refBand (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (ix3 ⟨t.val, lt_N t⟩ i ⟨128 * p + e, by omega⟩) := by
  have hb := lt_N t
  rw [pairOf_at r0 r1 q kn vn kc vc
    (fun u i x => qr (ix4 ⟨t.val, hb⟩ i ⟨2 * p + u, by omega⟩ x))
    (fun u j x => if hj : j.val < 512 then ckr (ix4 ⟨t.val, hb⟩ ⟨j, hj⟩ ⟨2 * p + u, by omega⟩ x)
      else knr (ix4 ⟨t.val, hb⟩ ⟨j - 512, by omega⟩ ⟨2 * p + u, by omega⟩ x))
    (fun u i j => tbr (ix3 0 ⟨2 * p + u, by omega⟩ (place i j)))
    (fun j e => refBoth (m ((c.tc : Thread nD τ).loc main_arg12)) (m ((c.tc : Thread nD τ).loc main_arg10))
      (ix4 ⟨t.val, hb⟩ j ⟨(128 * p + e) / 64, by omega⟩ ⟨(128 * p + e) % 64, by omega⟩))]
  · have hh : (⟨(128 * p.val + e.val) / 64, by omega⟩ : Fin 16) = ⟨2 * p.val + e.val / 64, by omega⟩ :=
      Fin.ext (show (128 * p.val + e.val) / 64 = 2 * p.val + e.val / 64 by omega)
    have hs : ∀ (h : Fin 16) (j : Fin 544),
        refScores (m ((c.tc : Thread nD τ).loc main_arg8))
          (refBoth (m ((c.tc : Thread nD τ).loc main_arg11)) (m ((c.tc : Thread nD τ).loc main_arg9)))
          (refBias (m ((c.tc : Thread nD τ).loc main_arg7))) (ix4 ⟨t.val, hb⟩ h i j)
        = (((∑ x : Fin 64, qr (ix4 ⟨t.val, hb⟩ i h x)
            * (if hj : j.val < 512 then ckr (ix4 ⟨t.val, hb⟩ ⟨j, hj⟩ h x)
                else knr (ix4 ⟨t.val, hb⟩ ⟨j - 512, by omega⟩ h x))) * (1 / 8) + tbr (ix3 0 h (place i j)) : ℝ) : EReal) := by
      intro h j
      rw [refScores_at, refBias_at, htb, lit_eighth, EReal.coe_add, EReal.coe_mul, ← sum_coe]
      congr 2
      refine Finset.sum_congr rfl fun x _ => ?_
      rw [hq, refBoth_at, EReal.coe_mul]
      congr 1
      split
      · rw [hck]
      · rw [hkn]
    rw [refBand_at]
    simp only [hh, hs]
  · intro i x
    refine (lq _ _).trans (blk_q m c t i _ _ ((hq _).trans ?_))
    congr 2
    blk_ext
  · intro i x
    refine (lq _ _).trans (blk_q m c t i _ _ ((hq _).trans ?_))
    congr 2
    blk_ext
  · intro j x
    rw [lkc, blk_ck, hck, dif_pos (by simp)]
    congr 2
    blk_ext
  · intro j x
    rw [lkc, blk_ck, hck, dif_pos (by simp)]
    congr 2
    blk_ext
  · intro j x
    rw [lkn, blk_kn, hkn, dif_neg (by simp)]
    congr 2
    blk_ext
  · intro j x
    rw [lkn, blk_kn, hkn, dif_neg (by simp)]
    congr 2
    blk_ext
  · intro i j
    rw [lr0, blk_r, htb]
    congr 3
    exact Fin.ext (show min (768 - (128 + j.val - i.val)) 256 = min (640 + i.val - j.val) 256 by omega)
  · intro i j
    rw [lr1, blk_r, htb]
    congr 3
    exact Fin.ext (show min (768 - (128 + j.val - i.val)) 256 = min (640 + i.val - j.val) 256 by omega)
  · intro j x
    rw [lvc, blk_cv, refBoth_at, dif_pos (by simp)]
  · intro j x
    rw [lvn, blk_vn, refBoth_at, dif_neg (by simp)]
    congr 1
    blk_ext

/-- One store of grid step `t`, read at an index of the result's block. -/
theorem piece_close (t : Fin cfg0.N) (p : Fin 8) (P : FVec Ideal S1x32x128 .bf16) (a0 a1 b0 c0)
    (hP : P = pairOf (View.ld (iblk m c 7 t) (Rect.unit (s := S8x2x768) ![p.val, 0, 0] S1x1x768.size a0))
      (View.ld (iblk m c 7 t) (Rect.unit (s := S8x2x768) ![p.val, 1, 0] S1x1x768.size a1))
      (View.ld (iblk m c 8 t) (Rect.unit (s := S1x32x1024) ![0, 0, 128 * p.val] S1x32x128.size b0))
      (View.ld (iblk m c 9 t) (Rect.unit (s := S1x32x1024) ![0, 0, 128 * p.val] S1x32x128.size b0))
      (View.ld (iblk m c 10 t) (Rect.unit (s := S1x32x1024) ![0, 0, 128 * p.val] S1x32x128.size b0))
      (View.ld (iblk m c 11 t) (Rect.unit (s := S1x512x1024) ![0, 0, 128 * p.val] S1x512x128.size c0))
      (View.ld (iblk m c 12 t) (Rect.unit (s := S1x512x1024) ![0, 0, 128 * p.val] S1x512x128.size c0)))
    (i : Fin 32) (l : Fin 1024) (e : Fin 128) (hl : l.val = 128 * p.val + e.val) :
    P (ix3 0 i e)
      = refBand (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (ix3 ⟨t.val, lt_N t⟩ i l) := by
  have he : l = ⟨128 * p.val + e.val, by omega⟩ := Fin.ext hl
  rw [hP, he]
  refine pair_close m c tbr qr knr ckr htb hq hkn hck t p _ _ _ _ _ _ _ ?_ ?_ ?_ ?_ ?_ ?_ ?_ i e
  all_goals
    intros
    pointwise

set_option maxHeartbeats 4000000 in
/-- The program's second result is the reference's where queries, keys and biases are real. -/
theorem final14 :
    (dats m 0 c).arrAt 14 cfg0.N
      = refBand (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12)) := by
  refine (dats m 0 c).arrAt_eq_of_covers 14 _ (by decide +kernel) fun t _ y => ?_
  have hout : ∀ (i : Fin 32) (l : Fin 1024), ((View.whole main_v30_1).slice (win0_14.rect t)).emb (ix3 0 i l)
      = ix3 ⟨t.val, lt_N t⟩ i l := by
    intro i j
    blk_ext [idx t]
  blk_simp
  rw [after0_14]
  unfold_out out0_14
  frame_out
  obtain ⟨i, l, rfl⟩ : ∃ (i : Fin 32) (l : Fin 1024), y = ix3 0 i l :=
    ⟨y 1, y 2, by funext a; fin_cases a <;> first | rfl | exact Subsingleton.elim (α := Fin 1) _ _⟩
  rw [hout]
  canon_tiles y h
  all_goals
    obtain ⟨i', e, rfl⟩ : ∃ (i' : Fin 32) (e : Fin 128), y = ix3 0 i' e :=
      ⟨y 1, y 2, by funext a; fin_cases a <;> first | rfl | exact Subsingleton.elim (α := Fin 1) _ _⟩
    obtain rfl : i = i' := Fin.ext h1
  case piece0 => exact piece_close m c tbr qr knr ckr htb hq hkn hck t 7 _ _ _ _ _ rfl i l e h2
  case piece1 => exact piece_close m c tbr qr knr ckr htb hq hkn hck t 6 _ _ _ _ _ rfl i l e h2
  case piece2 => exact piece_close m c tbr qr knr ckr htb hq hkn hck t 5 _ _ _ _ _ rfl i l e h2
  case piece3 => exact piece_close m c tbr qr knr ckr htb hq hkn hck t 4 _ _ _ _ _ rfl i l e h2
  case piece4 => exact piece_close m c tbr qr knr ckr htb hq hkn hck t 3 _ _ _ _ _ rfl i l e h2
  case piece5 => exact piece_close m c tbr qr knr ckr htb hq hkn hck t 2 _ _ _ _ _ rfl i l e h2
  case piece6 => exact piece_close m c tbr qr knr ckr htb hq hkn hck t 1 _ _ _ _ _ rfl i l e h2
  case piece7 => exact piece_close m c tbr qr knr ckr htb hq hkn hck t 0 _ _ _ _ _ rfl i l e (by simpa using h2)
end Pieces
end Cert.Kernel2Ideal.Value
end
-- ==== Proof.RefPost3.lean ====
/- The third program's reference result, the sample's output after the second half and the final norm, read at an index. -/
module
public import proofs.«01_k».proof.Proof.Gen.Reference3Ideal.Run
public import proofs.«01_k».proof.Proof.Spec
@[expose] public section
set_option maxRecDepth 1024
noncomputable section
namespace Cert.Reference3Ideal.Value
open Cert.Reference3Ideal Cert.Reference3Ideal.Gen Idealize.ShloMosaic Idealize.ShloMosaic.TcCoe Idealize.SL.Sem Cert.Layer

/-- The residual with the projected attention. -/
def refResid (x o : FVec Ideal S32x32x1024 .f32) (w : FVec Ideal S1x1024x1024 .f32) : FVec Ideal S32x32x1024 .f32 :=
  addf x (Host.dotGeneral dot_S32x32x1024_S1024x1024_S32x32x1024_2_0_01_1_n_n none o
    (shapeCast _ w shapeCasts_S1x1024x1024_S1024x1024))

/-- The second layer's gains. -/
def refGain (g : FVec Ideal S2x1024 .f32) : FVec Ideal S1024 .f32 :=
  shapeCast _ (extractStridedSlice S1x1024 ![1, 0] g slices_S2x1024_S1x1024_1_0) shapeCasts_S1x1024_S1024

/-- The norm of every row. -/
def refNorm (h : FVec Ideal S32x32x1024 .f32) (g : FVec Ideal S1024 .f32) : FVec Ideal S32x32x1024 .f32 :=
  mulf (mulf h (broadcastInDim S32x32x1024 ![0, 1, 2] bcast_S32x32x1_S32x32x1024_0_1_2 (Host.rsqrt (addf (Host.divf (broadcastInDim S32x32x1 ![0, 1] bcast_S32x32_S32x32x1_0_1 (Host.reduceAdd (mulf h h) (constant S_ .f32 0x00000000#32) reducesTo_S32x32x1024_S32x32_d2 h_S_)) (broadcastInDim S32x32x1 ![] bcast_S_S32x32x1 (constant S_ .f32 0x44800000#32))) (broadcastInDim S32x32x1 ![] bcast_S_S32x32x1 (constant S_ .f32 0x358637BD#32)))))) (broadcastInDim S32x32x1024 ![0, 1, 2] bcast_S1x1x1024_S32x32x1024_0_1_2 (broadcastInDim S1x1x1024 ![2] bcast_S1024_S1x1x1024_2 g))

/-- The hidden units. -/
def refUnit (hn : FVec Ideal S32x32x1024 .f32) (w1 : FVec Ideal S2x1024x4096 .f32) : FVec Ideal S32x32x4096 .f32 :=
  maximumf (Host.dotGeneral dot_S32x32x1024_S1024x4096_S32x32x4096_2_0_01_1_n_n none hn (shapeCast _ (extractStridedSlice S1x1024x4096 ![1, 0, 0] w1 slices_S2x1024x4096_S1x1024x4096_1_0_0) shapeCasts_S1x1024x4096_S1024x4096)) (broadcastInDim S32x32x4096 ![] bcast_S_S32x32x4096 (constant S_ .f32 0x00000000#32))

/-- The MLP's output added to the residual. -/
def refMlp (h : FVec Ideal S32x32x1024 .f32) (u : FVec Ideal S32x32x4096 .f32) (w2 : FVec Ideal S2x4096x1024 .f32) :
    FVec Ideal S32x32x1024 .f32 :=
  addf h (Host.dotGeneral dot_S32x32x4096_S4096x1024_S32x32x1024_2_0_01_1_n_n none (mulf u u) (shapeCast _ (extractStridedSlice S1x4096x1024 ![1, 0, 0] w2 slices_S2x4096x1024_S1x4096x1024_1_0_0) shapeCasts_S1x4096x1024_S4096x1024))

theorem refResid_at (x o : FVec Ideal S32x32x1024 .f32) (w : FVec Ideal S1x1024x1024 .f32) (a : Fin 32) (b : Fin 32)
    (j : Fin 1024) :
    refResid x o w (ix3 a b j) = residAt (fun k => x (ix3 a b k)) (fun k => o (ix3 a b k)) (fun k j => w (ix3 0 k j)) j := by
  pointwise [refResid, residAt]

theorem refGain_at (g : FVec Ideal S2x1024 .f32) (j : Fin 1024) : refGain g (ix1 j) = g (ix2 1 j) := by
  pointwise [refGain]

theorem refNorm_at (h : FVec Ideal S32x32x1024 .f32) (g : FVec Ideal S1024 .f32) (a : Fin 32) (b : Fin 32)
    (j : Fin 1024) :
    refNorm h g (ix3 a b j) = rmsAt 1149239296#32 (fun k => h (ix3 a b k)) (fun k => g (ix1 k)) j := by
  pointwise [refNorm, rmsAt]

theorem refUnit_at (hn : FVec Ideal S32x32x1024 .f32) (w1 : FVec Ideal S2x1024x4096 .f32) (a : Fin 32) (b : Fin 32)
    (f : Fin 4096) :
    refUnit hn w1 (ix3 a b f) = unitAt (fun k => hn (ix3 a b k)) (fun k f => w1 (ix3 1 k f)) f := by
  pointwise [refUnit, unitAt]

theorem refMlp_at (h : FVec Ideal S32x32x1024 .f32) (u : FVec Ideal S32x32x4096 .f32) (w2 : FVec Ideal S2x4096x1024 .f32)
    (a : Fin 32) (b : Fin 32) (j : Fin 1024) :
    refMlp h u w2 (ix3 a b j) = h (ix3 a b j) + ∑ f : Fin 4096, u (ix3 a b f) * u (ix3 a b f) * w2 (ix3 1 f j) := by
  pointwise [refMlp]

/-- The reference's result as a function of its arrays. -/
def refFinal (x o : FVec Ideal S32x32x1024 .f32) (w : FVec Ideal S1x1024x1024 .f32) (g : FVec Ideal S2x1024 .f32)
    (w1 : FVec Ideal S2x1024x4096 .f32) (w2 : FVec Ideal S2x4096x1024 .f32) (gf : FVec Ideal S1024 .f32) :
    FVec Ideal S1024x1024 .f32 :=
  shapeCast _ (refNorm (refMlp (refResid x o w) (refUnit (refNorm (refResid x o w) (refGain g)) w1) w2) gf)
    shapeCasts_S32x32x1024_S1024x1024

theorem refFinal_at (x o : FVec Ideal S32x32x1024 .f32) (w : FVec Ideal S1x1024x1024 .f32) (g : FVec Ideal S2x1024 .f32)
    (w1 : FVec Ideal S2x1024x4096 .f32) (w2 : FVec Ideal S2x4096x1024 .f32) (gf : FVec Ideal S1024 .f32) (r : Fin 1024)
    (j : Fin 1024) :
    refFinal x o w g w1 w2 gf (ix2 r j)
      = rmsAt 1149239296#32 (postAt (fun k => x (ix3 ⟨r / 32, by omega⟩ ⟨r % 32, by omega⟩ k))
          (fun k => o (ix3 ⟨r / 32, by omega⟩ ⟨r % 32, by omega⟩ k)) (fun k j => w (ix3 0 k j)) (fun k => g (ix2 1 k))
          (fun k f => w1 (ix3 1 k f)) (fun f j => w2 (ix3 1 f j))) (fun k => gf (ix1 k)) j := by
  pointwise [refFinal]
  rw [refNorm_at]
  refine congrArg (fun z => rmsAt 1149239296#32 z _ j) (funext fun k => ?_)
  rw [refMlp_at]
  simp only [refUnit_at, refNorm_at, refGain_at, refResid_at, postAt, mlpAt]

theorem res_main_v40_eq (m : (ℓ : Loc nD τ sig) → Buf (Elt Ideal) ℓ) (c : Dev nD) :
    res_main_v40 m c = refFinal (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := rfl

end Cert.Reference3Ideal.Value
end
-- ==== Proof.Post3.lean ====
/- The third program's result: each grid step's block of the sample after the last norm is the reference's. -/
module
public import proofs.«01_k».proof.Proof.Gen.Kernel3Ideal.Value
public import proofs.«01_k».proof.Proof.RefPost3
public import Idealize.ShloMosaic.Lib.Pipeline.ValueKit
@[expose] public section
set_option maxRecDepth 1024
noncomputable section
namespace Cert.Kernel3Ideal.Value
open Cert.Kernel3Ideal Cert.Kernel3Ideal.Gen Idealize.ShloMosaic Idealize.ShloMosaic.TcCoe Idealize.SL.Sem Cert.Layer
open Idealize.ShloMosaic.Pipeline (Dat)

/-- The body's residual rows. -/
theorem resid_at (x : FVec Ideal S512x1024 .f32) (o : FVec Ideal S512x1024 .bf16) (w : FVec Ideal S1024x1024 .bf16)
    (r : Fin 512) (j : Fin 1024) :
    k0_pay2 (F := Ideal) x o w (ix2 r j) = residAt (fun k => x (ix2 r k)) (fun k => o (ix2 r k)) (fun k j => w (ix2 k j)) j := by
  pointwise [k0_pay2, residAt]

/-- The body's normed rows. -/
theorem norm_at (x : FVec Ideal S512x1024 .f32) (o : FVec Ideal S512x1024 .bf16) (w : FVec Ideal S1024x1024 .bf16)
    (g : FVec Ideal S1x1024 .f32) (r : Fin 512) (j : Fin 1024) :
    k0_pay3 (F := Ideal) x o w g (ix2 r j)
      = rmsAt 1149239296#32 (fun k => k0_pay2 (F := Ideal) x o w (ix2 r k)) (fun k => g (ix2 0 k)) j := by
  pointwise [k0_pay3, rmsAt]

/-- The body's last norm. -/
theorem last_at (z : FVec Ideal S512x1024 .f32) (gf : FVec Ideal S1x1024 .f32) (r : Fin 512) (j : Fin 1024) :
    k0_pay1 (F := Ideal) z (k0_pay7 gf) (ix2 r j)
      = rmsAt 1149239296#32 (fun k => z (ix2 r k)) (fun k => gf (ix2 0 k)) j := by
  pointwise [k0_pay1, k0_pay7, rmsAt]

/-- The body's four chunks of the MLP, at one row, are the MLP over its 4096 hidden units. -/
theorem chunks_at (x : FVec Ideal S512x1024 .f32) (o : FVec Ideal S512x1024 .bf16) (w : FVec Ideal S1024x1024 .bf16)
    (g gf : FVec Ideal S1x1024 .f32) (a0 a1 a2 a3 b0 b1 b2 b3 : FVec Ideal S1x1024x1024 .bf16)
    (w1 : Fin 1024 → Fin 4096 → EReal) (w2 : Fin 4096 → Fin 1024 → EReal)
    (ha0 : ∀ k f : Fin 1024, a0 (ix3 0 k f) = w1 k ⟨f, by omega⟩)
    (ha1 : ∀ k f : Fin 1024, a1 (ix3 0 k f) = w1 k ⟨1024 + f, by omega⟩)
    (ha2 : ∀ k f : Fin 1024, a2 (ix3 0 k f) = w1 k ⟨2048 + f, by omega⟩)
    (ha3 : ∀ k f : Fin 1024, a3 (ix3 0 k f) = w1 k ⟨3072 + f, by omega⟩)
    (hb0 : ∀ f j : Fin 1024, b0 (ix3 0 f j) = w2 ⟨f, by omega⟩ j)
    (hb1 : ∀ f j : Fin 1024, b1 (ix3 0 f j) = w2 ⟨1024 + f, by omega⟩ j)
    (hb2 : ∀ f j : Fin 1024, b2 (ix3 0 f j) = w2 ⟨2048 + f, by omega⟩ j)
    (hb3 : ∀ f j : Fin 1024, b3 (ix3 0 f j) = w2 ⟨3072 + f, by omega⟩ j)
    (r : Fin 512) (j : Fin 1024) :
    k0_pay1 (F := Ideal) (k0_pay6 (k0_pay2 x o w) (k0_pay3 x o w g) (k0_pay4 x o w g a0 b0) (k0_pay5 a1) b1 a2 b2 a3 b3)
        (k0_pay7 gf) (ix2 r j)
      = rmsAt 1149239296#32 (postAt (fun k => x (ix2 r k)) (fun k => o (ix2 r k)) (fun k j => w (ix2 k j))
          (fun k => g (ix2 0 k)) w1 w2) (fun k => gf (ix2 0 k)) j := by
  rw [last_at]
  congr 1
  funext k
  rw [postAt, mlpAt_tiles]
  pointwise [k0_pay6, k0_pay4, k0_pay5]
  simp only [ha0, ha1, ha2, ha3, hb0, hb1, hb2, hb3, unitAt, norm_at, resid_at]

variable (m : (ℓ : Loc nD τ sig) → Buf (Elt Ideal) ℓ)

/-- The host-prepared operands at an index, in the arguments. -/
theorem V_x (c : Dev nD) (r : Fin 1024) (j : Fin 1024) :
    V m c main_v8 (ix2 r j) = m ((c.tc : Thread nD τ).loc main_arg0) (ix3 ⟨r / 32, by omega⟩ ⟨r % 32, by omega⟩ j) := by
  entry_read; pointwise; try rfl
theorem V_o (c : Dev nD) (r : Fin 1024) (j : Fin 1024) :
    V m c main_v10 (ix2 r j) = m ((c.tc : Thread nD τ).loc main_arg1) (ix3 ⟨r / 32, by omega⟩ ⟨r % 32, by omega⟩ j) := by
  entry_read; pointwise; try rfl
theorem V_w (c : Dev nD) (k j : Fin 1024) :
    V m c main_v1 (ix2 k j) = m ((c.tc : Thread nD τ).loc main_arg2) (ix3 0 k j) := by
  entry_read; pointwise; try rfl
theorem V_g (c : Dev nD) (j : Fin 1024) :
    V m c main_v6 (ix2 0 j) = m ((c.tc : Thread nD τ).loc main_arg3) (ix2 1 j) := by
  entry_read; pointwise; try rfl
theorem V_w1 (c : Dev nD) (l : Fin 2) (k : Fin 1024) (f : Fin 4096) :
    V m c main_v2 (ix3 l k f) = m ((c.tc : Thread nD τ).loc main_arg4) (ix3 l k f) := by
  entry_read; pointwise; try rfl
theorem V_w2 (c : Dev nD) (l : Fin 2) (f : Fin 4096) (j : Fin 1024) :
    V m c main_v3 (ix3 l f j) = m ((c.tc : Thread nD τ).loc main_arg5) (ix3 l f j) := by
  entry_read; pointwise; try rfl
theorem V_gf (c : Dev nD) (j : Fin 1024) :
    V m c main_v7 (ix2 0 j) = m ((c.tc : Thread nD τ).loc main_arg6) (ix1 j) := by
  entry_read; pointwise; try rfl

/-- Where the windows lie at each grid step. -/
theorem idx : ∀ t : Fin cfg0.N, win0_0.index t = ![t.val, 0] ∧ win0_1.index t = ![t.val, 0] ∧ win0_2.index t = ![0, 0]
    ∧ win0_3.index t = ![0, 0] ∧ win0_4.index t = ![1, 0, 0] ∧ win0_5.index t = ![1, 0, 0] ∧ win0_6.index t = ![0, 0]
    ∧ win0_7.index t = ![t.val, 0] :=
  (by decide +kernel : ∀ t : Fin grid0.N, _)

theorem lt_N (t : Fin cfg0.N) : t.val < 2 := t.isLt.trans_eq N_0

/-- The blocks of the operands at an index, in the arguments. -/
theorem blk_x (c : Dev nD) (t : Fin cfg0.N) (i : Fin 512) (j : Fin 1024) :
    iblk m c 0 t (ix2 i j) = m ((c.tc : Thread nD τ).loc main_arg0)
      (ix3 ⟨(t.val * 512 + i) / 32, by have := lt_N t; omega⟩ ⟨(t.val * 512 + i) % 32, by omega⟩ j) := by
  refine Eq.trans ?_ (V_x m c ⟨t.val * 512 + i, by have := lt_N t; omega⟩ j)
  blk_simp [iblk]
  blk_point [idx t]
theorem blk_o (c : Dev nD) (t : Fin cfg0.N) (i : Fin 512) (j : Fin 1024) :
    iblk m c 1 t (ix2 i j) = m ((c.tc : Thread nD τ).loc main_arg1)
      (ix3 ⟨(t.val * 512 + i) / 32, by have := lt_N t; omega⟩ ⟨(t.val * 512 + i) % 32, by omega⟩ j) := by
  refine Eq.trans ?_ (V_o m c ⟨t.val * 512 + i, by have := lt_N t; omega⟩ j)
  blk_simp [iblk]
  blk_point [idx t]
theorem blk_w (c : Dev nD) (t : Fin cfg0.N) (k j : Fin 1024) :
    iblk m c 2 t (ix2 k j) = m ((c.tc : Thread nD τ).loc main_arg2) (ix3 0 k j) := by
  refine Eq.trans ?_ (V_w m c k j)
  blk_simp [iblk]
  blk_point [idx t]
theorem blk_g (c : Dev nD) (t : Fin cfg0.N) (j : Fin 1024) :
    iblk m c 3 t (ix2 0 j) = m ((c.tc : Thread nD τ).loc main_arg3) (ix2 1 j) := by
  refine Eq.trans ?_ (V_g m c j)
  blk_simp [iblk]
  blk_point [idx t]
theorem blk_w1 (c : Dev nD) (t : Fin cfg0.N) (k : Fin 1024) (f : Fin 4096) :
    iblk m c 4 t (ix3 0 k f) = m ((c.tc : Thread nD τ).loc main_arg4) (ix3 1 k f) := by
  refine Eq.trans ?_ (V_w1 m c 1 k f)
  blk_simp [iblk]
  blk_point [idx t]
theorem blk_w2 (c : Dev nD) (t : Fin cfg0.N) (f : Fin 4096) (j : Fin 1024) :
    iblk m c 5 t (ix3 0 f j) = m ((c.tc : Thread nD τ).loc main_arg5) (ix3 1 f j) := by
  refine Eq.trans ?_ (V_w2 m c 1 f j)
  blk_simp [iblk]
  blk_point [idx t]
theorem blk_gf (c : Dev nD) (t : Fin cfg0.N) (j : Fin 1024) :
    iblk m c 6 t (ix2 0 j) = m ((c.tc : Thread nD τ).loc main_arg6) (ix1 j) := by
  refine Eq.trans ?_ (V_gf m c j)
  blk_simp [iblk]
  blk_point [idx t]

set_option maxHeartbeats 1000000 in
/-- The program's result is the reference's. -/
theorem final7 (c : Dev nD) :
    (dats m 0 c).arrAt 7 cfg0.N
      = Cert.Reference3Ideal.Value.refFinal (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  refine (dats m 0 c).arrAt_eq_of_covers 7 _ (by decide +kernel) fun t _ y => ?_
  have hout : ∀ (i : Fin 512) (j : Fin 1024), ((View.whole main_v11).slice (win0_7.rect t)).emb (ix2 i j)
      = ix2 ⟨t.val * 512 + i, by have := lt_N t; omega⟩ j := by
    intro i j
    blk_ext [idx t]
  blk_simp
  rw [after0_7]
  unfold out0_7
  frame_out
  obtain ⟨i, j, rfl⟩ : ∃ (i : Fin 512) (j : Fin 1024), y = ix2 i j := ⟨y 0, y 1, by funext a; fin_cases a <;> rfl⟩
  refine (chunks_at _ _ _ _ _ _ _ _ _ _ _ _ _ (fun k f => m ((c.tc : Thread nD τ).loc main_arg4) (ix3 1 k f))
    (fun f j => m ((c.tc : Thread nD τ).loc main_arg5) (ix3 1 f j)) ?_ ?_ ?_ ?_ ?_ ?_ ?_ ?_ i j).trans ?_
  case refine_9 =>
    rw [hout, Cert.Reference3Ideal.Value.refFinal_at]
    simp only [blk_x, blk_o, blk_w, blk_g, blk_gf]
  case refine_1 | refine_2 | refine_3 | refine_4 =>
    intro k f
    pointwise
    exact blk_w1 m c t _ _
  all_goals
    intro f j
    pointwise
    exact blk_w2 m c t _ _

end Cert.Kernel3Ideal.Value
end
-- ==== Proof.Proj.lean ====
/- The band layer's projections at one row: the norm, a product with a matrix, and the query's scale. Both batches' kernels and
   references are read at an index as these functions. -/
module
public import proofs.«01_k».proof.Proof.Spec
public import proofs.«01_k».proof.Proof.Softmax
@[expose] public section
noncomputable section
namespace Cert.Layer
open Idealize.ShloMosaic

/-- The normed row `x` with gains `g`, times the matrix `w`, at one column. -/
def projAt (x g : Fin 1024 → EReal) (w : Fin 1024 → Fin 1024 → EReal) (j : Fin 1024) : EReal :=
  ∑ k, rmsAt 1149239296#32 x g k * w k j

/-- The left and the right half of a matrix's columns. -/
def leftHalf (w : Fin 1024 → Fin 2048 → EReal) (k j : Fin 1024) : EReal := w k ⟨j, by omega⟩
def rightHalf (w : Fin 1024 → Fin 2048 → EReal) (k j : Fin 1024) : EReal := w k ⟨1024 + j, by omega⟩

/-- The query's scale, `1/8` over `log 2`. -/
def qScale : EReal := ((8⁻¹ * (Real.log 2)⁻¹ : ℝ) : EReal)

/-- The reference's way of writing the scale is the scale. -/
theorem qScale_eq : Ideal.div (Ideal.ofBits FTy.f32 1040187392#32) (Ideal.log (Ideal.ofBits FTy.f32 1073741824#32)) = qScale := by
  rw [scale_eq, qScale]
  congr 1
  ring

end Cert.Layer
end
-- ==== Proof.RefProj4.lean ====
/- The fourth program's reference, the band layer's projections of the prompt, read at an index. -/
module
public import proofs.«01_k».proof.Proof.Gen.Reference4Ideal.Run
public import proofs.«01_k».proof.Proof.Proj
@[expose] public section
set_option maxRecDepth 16384
noncomputable section
namespace Cert.Reference4Ideal.Value
open Cert.Reference4Ideal Cert.Reference4Ideal.Gen Idealize.ShloMosaic Idealize.ShloMosaic.TcCoe Idealize.SL.Sem Cert.Layer

/-- The norm of every row. -/
def refNorm (h : FVec Ideal S8x2048x1024 .f32) (g : FVec Ideal S1024 .f32) : FVec Ideal S8x2048x1024 .f32 :=
  mulf (mulf h (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf h h) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))

/-- The second layer's gains. -/
def refGain (g : FVec Ideal S2x1024 .f32) : FVec Ideal S1024 .f32 :=
  shapeCast _ (extractStridedSlice S1x1024 ![1, 0] g slices_S2x1024_S1x1024_1_0) shapeCasts_S1x1024_S1024

/-- The scaled query. -/
def refQuery (x : FVec Ideal S8x2048x1024 .f32) (g : FVec Ideal S2x1024 .f32) (w : FVec Ideal S1x1024x1024 .f32) :
    FVec Ideal S8x2048x1024 .f32 :=
  mulf (Host.dotGeneral dot_S8x2048x1024_S1024x1024_S8x2048x1024_2_0_01_1_n_n none (refNorm x (refGain g)) (shapeCast _ w shapeCasts_S1x1024x1024_S1024x1024)) (broadcastInDim S8x2048x1024 ![] bcast_S_S8x2048x1024 (Host.divf (constant S_ .f32 0x3E000000#32) (Host.log (constant S_ .f32 0x40000000#32))))

/-- The keys and the values, halves of one product. -/
def refBoth (x : FVec Ideal S8x2048x1024 .f32) (g : FVec Ideal S1024 .f32) (w : FVec Ideal S1024x2048 .f32) :
    FVec Ideal S8x2048x2048 .f32 :=
  Host.dotGeneral dot_S8x2048x1024_S1024x2048_S8x2048x2048_2_0_01_1_n_n none (refNorm x g) w
def refKey (x : FVec Ideal S8x2048x1024 .f32) (g : FVec Ideal S1024 .f32) (w : FVec Ideal S1024x2048 .f32) :
    FVec Ideal S8x2048x1024 .f32 :=
  extractStridedSlice S8x2048x1024 ![0, 0, 0] (refBoth x g w) slices_S8x2048x2048_S8x2048x1024_0_0_0
def refVal (x : FVec Ideal S8x2048x1024 .f32) (g : FVec Ideal S1024 .f32) (w : FVec Ideal S1024x2048 .f32) :
    FVec Ideal S8x2048x1024 .f32 :=
  extractStridedSlice S8x2048x1024 ![0, 0, 1024] (refBoth x g w) slices_S8x2048x2048_S8x2048x1024_0_0_1024

theorem refNorm_at (h : FVec Ideal S8x2048x1024 .f32) (g : FVec Ideal S1024 .f32) (a : Fin 8) (b : Fin 2048)
    (j : Fin 1024) :
    refNorm h g (ix3 a b j) = rmsAt 1149239296#32 (fun k => h (ix3 a b k)) (fun k => g (ix1 k)) j := by
  pointwise [refNorm, rmsAt]

theorem refGain_at (g : FVec Ideal S2x1024 .f32) (j : Fin 1024) : refGain g (ix1 j) = g (ix2 1 j) := by
  pointwise [refGain]

theorem refQuery_at (x : FVec Ideal S8x2048x1024 .f32) (g : FVec Ideal S2x1024 .f32) (w : FVec Ideal S1x1024x1024 .f32)
    (a : Fin 8) (b : Fin 2048) (j : Fin 1024) :
    refQuery x g w (ix3 a b j)
      = projAt (fun k => x (ix3 a b k)) (fun k => g (ix2 1 k)) (fun k j => w (ix3 0 k j)) j * qScale := by
  rw [← qScale_eq]
  pointwise [refQuery]
  simp only [refNorm_at, refGain_at, projAt]

theorem refKey_at (x : FVec Ideal S8x2048x1024 .f32) (g : FVec Ideal S1024 .f32) (w : FVec Ideal S1024x2048 .f32)
    (a : Fin 8) (b : Fin 2048) (j : Fin 1024) :
    refKey x g w (ix3 a b j)
      = projAt (fun k => x (ix3 a b k)) (fun k => g (ix1 k)) (leftHalf fun k j => w (ix2 k j)) j := by
  pointwise [refKey, refBoth]
  simp only [refNorm_at, projAt, leftHalf]

theorem refVal_at (x : FVec Ideal S8x2048x1024 .f32) (g : FVec Ideal S1024 .f32) (w : FVec Ideal S1024x2048 .f32)
    (a : Fin 8) (b : Fin 2048) (j : Fin 1024) :
    refVal x g w (ix3 a b j)
      = projAt (fun k => x (ix3 a b k)) (fun k => g (ix1 k)) (rightHalf fun k j => w (ix2 k j)) j := by
  pointwise [refVal, refBoth]
  simp only [refNorm_at, projAt, rightHalf]

/-- The five results as functions of the arrays. -/
def out0 (x : FVec Ideal S8x2048x1024 .f32) (g : FVec Ideal S2x1024 .f32) (w : FVec Ideal S1x1024x1024 .f32) :
    FVec Ideal S16384x1024 .bf16 :=
  truncf .bf16 (shapeCast _ (refQuery x g w) shapeCasts_S8x2048x1024_S16384x1024) bitsLt_bf16_f32
def out1 (x : FVec Ideal S8x2048x1024 .f32) (g : FVec Ideal S1024 .f32) (w : FVec Ideal S1024x2048 .f32) :
    FVec Ideal S16384x1024 .bf16 :=
  truncf .bf16 (shapeCast _ (refKey x g w) shapeCasts_S8x2048x1024_S16384x1024) bitsLt_bf16_f32
def out2 (x : FVec Ideal S8x2048x1024 .f32) (g : FVec Ideal S1024 .f32) (w : FVec Ideal S1024x2048 .f32) :
    FVec Ideal S1024x16384 .bf16 :=
  truncf .bf16 (transpose S1024x16384 [1, 0] (shapeCast _ (refVal x g w) shapeCasts_S8x2048x1024_S16384x1024) transposes_S16384x1024_S1024x16384_1_0) bitsLt_bf16_f32
def keep (z : FVec Ideal S8x2048x1024 .f32) : FVec Ideal S4096x1024 .f32 :=
  shapeCast _ (extractStridedSlice S8x512x1024 ![0, 1536, 0] z slices_S8x2048x1024_S8x512x1024_0_1536_0) shapeCasts_S8x512x1024_S4096x1024

theorem out0_at (x : FVec Ideal S8x2048x1024 .f32) (g : FVec Ideal S2x1024 .f32) (w : FVec Ideal S1x1024x1024 .f32)
    (r : Fin 16384) (j : Fin 1024) :
    out0 x g w (ix2 r j) = projAt (fun k => x (ix3 ⟨r / 2048, by omega⟩ ⟨r % 2048, by omega⟩ k)) (fun k => g (ix2 1 k))
      (fun k j => w (ix3 0 k j)) j * qScale := by
  pointwise [out0]
  exact refQuery_at x g w _ _ _

theorem out1_at (x : FVec Ideal S8x2048x1024 .f32) (g : FVec Ideal S1024 .f32) (w : FVec Ideal S1024x2048 .f32)
    (r : Fin 16384) (j : Fin 1024) :
    out1 x g w (ix2 r j) = projAt (fun k => x (ix3 ⟨r / 2048, by omega⟩ ⟨r % 2048, by omega⟩ k)) (fun k => g (ix1 k))
      (leftHalf fun k j => w (ix2 k j)) j := by
  pointwise [out1]
  exact refKey_at x g w _ _ _

theorem out2_at (x : FVec Ideal S8x2048x1024 .f32) (g : FVec Ideal S1024 .f32) (w : FVec Ideal S1024x2048 .f32)
    (r : Fin 16384) (j : Fin 1024) :
    out2 x g w (ix2 j r) = projAt (fun k => x (ix3 ⟨r / 2048, by omega⟩ ⟨r % 2048, by omega⟩ k)) (fun k => g (ix1 k))
      (rightHalf fun k j => w (ix2 k j)) j := by
  pointwise [out2]
  exact refVal_at x g w _ _ _

theorem keep_at (z : FVec Ideal S8x2048x1024 .f32) (r : Fin 4096) (j : Fin 1024) :
    keep z (ix2 r j) = z (ix3 ⟨r / 512, by omega⟩ ⟨1536 + r % 512, by omega⟩ j) := by
  pointwise [keep]

end Cert.Reference4Ideal.Value
end
-- ==== Proof.Proj4.lean ====
/- The fourth program: each grid step's projections of the prompt are the reference's. -/
module
public import proofs.«01_k».proof.Proof.Gen.Kernel4Ideal.Value
public import proofs.«01_k».proof.Proof.RefProj4
public import Idealize.ShloMosaic.Lib.Pipeline.ValueKit
@[expose] public section
set_option maxRecDepth 16384
noncomputable section
namespace Cert.Kernel4Ideal.Value
open Cert.Kernel4Ideal Cert.Kernel4Ideal.Gen Idealize.ShloMosaic Idealize.ShloMosaic.TcCoe Idealize.SL.Sem Cert.Layer
open Idealize.ShloMosaic.Pipeline (Dat)

/-- The named scale's value. -/
theorem named_scale : Named.named (F := Ideal) κ "qscale" (φ := .f32) 0x3E38AA3B#32 = qScale :=
  IdealRules.named_const.ideal_named_scalar _ _ _ _ rfl

/-- The body's normed rows. -/
theorem norm_at (x : FVec Ideal S512x1024 .f32) (g : FVec Ideal S1x1024 .f32) (r : Fin 512) (j : Fin 1024) :
    k0_pay3 (F := Ideal) x g (ix2 r j) = rmsAt 1149239296#32 (fun k => x (ix2 r k)) (fun k => g (ix2 0 k)) j := by
  pointwise [k0_pay3, k0_pay2, rmsAt]

/-- The body's scaled query. -/
theorem query_at (x : FVec Ideal S512x1024 .f32) (g : FVec Ideal S1x1024 .f32) (w : FVec Ideal S1024x1024 .bf16)
    (r : Fin 512) (j : Fin 1024) :
    k0_pay4 (F := Ideal) x g w (ix2 r j)
      = projAt (fun k => x (ix2 r k)) (fun k => g (ix2 0 k)) (fun k j => w (ix2 k j)) j * qScale := by
  rw [← named_scale]
  pointwise [k0_pay4, k0_pay2, projAt, rmsAt]

/-- The body's keys and values. -/
theorem key_at (x : FVec Ideal S512x1024 .f32) (g : FVec Ideal S1x1024 .f32) (w : FVec Ideal S1024x1024 .bf16)
    (r : Fin 512) (j : Fin 1024) :
    k0_pay5 (F := Ideal) x g w (ix2 r j)
      = projAt (fun k => x (ix2 r k)) (fun k => g (ix2 0 k)) (fun k j => w (ix2 k j)) j := by
  pointwise [k0_pay5]
  simp only [norm_at, projAt]
theorem val_at (x : FVec Ideal S512x1024 .f32) (g : FVec Ideal S1x1024 .f32) (w : FVec Ideal S1024x1024 .bf16)
    (r : Fin 512) (j : Fin 1024) :
    k0_pay6 (F := Ideal) x g w (ix2 r j)
      = projAt (fun k => x (ix2 r k)) (fun k => g (ix2 0 k)) (fun k j => w (ix2 k j)) j := by
  pointwise [k0_pay6]
  simp only [norm_at, projAt]

variable (m : (ℓ : Loc nD τ sig) → Buf (Elt Ideal) ℓ)

/-- The host-prepared operands at an index, in the arguments. -/
theorem V_x (c : Dev nD) (r : Fin 16384) (j : Fin 1024) :
    V m c main_v7 (ix2 r j) = m ((c.tc : Thread nD τ).loc main_arg0) (ix3 ⟨r / 2048, by omega⟩ ⟨r % 2048, by omega⟩ j) := by
  entry_read; pointwise; try rfl
theorem V_gkv (c : Dev nD) (j : Fin 1024) :
    V m c main_v6 (ix2 0 j) = m ((c.tc : Thread nD τ).loc main_arg2) (ix1 j) := by
  entry_read; pointwise; try rfl
theorem V_wkv (c : Dev nD) (k : Fin 1024) (j : Fin 2048) :
    V m c main_v0 (ix2 k j) = m ((c.tc : Thread nD τ).loc main_arg3) (ix2 k j) := by
  entry_read; pointwise; try rfl
theorem V_gq (c : Dev nD) (j : Fin 1024) :
    V m c main_v5 (ix2 0 j) = m ((c.tc : Thread nD τ).loc main_arg1) (ix2 1 j) := by
  entry_read; pointwise; try rfl
theorem V_wq (c : Dev nD) (k j : Fin 1024) :
    V m c main_v2 (ix2 k j) = m ((c.tc : Thread nD τ).loc main_arg4) (ix3 0 k j) := by
  entry_read; pointwise; try rfl

/-- Where the windows lie at each grid step. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![0, t.val] ∧ win0_8.index t = ![t.val / 4, 0] ∧ win0_9.index t = ![t.val / 4, 0] :=
  (by decide +kernel : ∀ t : Fin grid0.N, _)

theorem lt_N (t : Fin cfg0.N) : t.val < 32 := t.isLt.trans_eq N_0

/-- The blocks of the operands at an index, in the arguments. -/
theorem blk_x (c : Dev nD) (t : Fin cfg0.N) (i : Fin 512) (j : Fin 1024) :
    iblk m c 0 t (ix2 i j) = m ((c.tc : Thread nD τ).loc main_arg0)
      (ix3 ⟨(t.val * 512 + i) / 2048, by have := lt_N t; omega⟩ ⟨(t.val * 512 + i) % 2048, by omega⟩ j) := by
  refine Eq.trans ?_ (V_x m c ⟨t.val * 512 + i, by have := lt_N t; omega⟩ j)
  blk_simp [iblk]
  blk_point [idx t]
theorem blk_gkv (c : Dev nD) (t : Fin cfg0.N) (j : Fin 1024) :
    iblk m c 1 t (ix2 0 j) = m ((c.tc : Thread nD τ).loc main_arg2) (ix1 j) := by
  refine Eq.trans ?_ (V_gkv m c j)
  blk_simp [iblk]
  blk_point [idx t]
theorem blk_wkv (c : Dev nD) (t : Fin cfg0.N) (k : Fin 1024) (j : Fin 2048) :
    iblk m c 2 t (ix2 k j) = m ((c.tc : Thread nD τ).loc main_arg3) (ix2 k j) := by
  refine Eq.trans ?_ (V_wkv m c k j)
  blk_simp [iblk]
  blk_point [idx t]
theorem blk_gq (c : Dev nD) (t : Fin cfg0.N) (j : Fin 1024) :
    iblk m c 3 t (ix2 0 j) = m ((c.tc : Thread nD τ).loc main_arg1) (ix2 1 j) := by
  refine Eq.trans ?_ (V_gq m c j)
  blk_simp [iblk]
  blk_point [idx t]
theorem blk_wq (c : Dev nD) (t : Fin cfg0.N) (k j : Fin 1024) :
    iblk m c 4 t (ix2 k j) = m ((c.tc : Thread nD τ).loc main_arg4) (ix3 0 k j) := by
  refine Eq.trans ?_ (V_wq m c k j)
  blk_simp [iblk]
  blk_point [idx t]

/-- The two halves of the shared weight as the body loads them. -/
def wLeft (c : Dev nD) (t : Fin cfg0.N) : FVec Ideal S1024x1024 .bf16 :=
  View.ld (iblk m c 2 t) (Rect.unit (s := S1024x2048) ![0, 0] ![1024, 1024] inb_S1024x2048_S1024x1024_0_0)
def wRight (c : Dev nD) (t : Fin cfg0.N) : FVec Ideal S1024x1024 .bf16 :=
  View.ld (iblk m c 2 t) (Rect.unit (s := S1024x2048) ![0, 1024] ![1024, 1024] inb_S1024x2048_S1024x1024_0_1024)

theorem wLeft_at (c : Dev nD) (t : Fin cfg0.N) (k j : Fin 1024) :
    wLeft m c t (ix2 k j) = leftHalf (fun k j => m ((c.tc : Thread nD τ).loc main_arg3) (ix2 k j)) k j := by
  pointwise [wLeft, leftHalf]
  exact blk_wkv m c t _ _
theorem wRight_at (c : Dev nD) (t : Fin cfg0.N) (k j : Fin 1024) :
    wRight m c t (ix2 k j) = rightHalf (fun k j => m ((c.tc : Thread nD τ).loc main_arg3) (ix2 k j)) k j := by
  pointwise [wRight, rightHalf]
  exact blk_wkv m c t _ _

/-- What each grid step leaves in the output blocks; the last two only at each sequence's last step. -/
theorem left0 (c : Dev nD) (t : Fin cfg0.N) :
    (outsAt0 m c t.val t.isLt).1 = k0_pay4 (iblk m c 0 t) (iblk m c 3 t) (iblk m c 4 t) := by
  by_cases h0 : t.val % 4 = 3
  · rw [outsAt0_B m c t h0]
    dsimp only
    unfold out0_B_5
    frame_out
    try rfl
  · rw [outsAt0_A m c t h0]
    dsimp only
    unfold out0_A_5
    frame_out
    try rfl
theorem left1 (c : Dev nD) (t : Fin cfg0.N) :
    (outsAt0 m c t.val t.isLt).2.1 = k0_pay7 (iblk m c 0 t) (iblk m c 1 t) (wLeft m c t) := by
  by_cases h0 : t.val % 4 = 3
  · rw [outsAt0_B m c t h0]
    dsimp only
    unfold out0_B_6
    frame_out
    try rfl
  · rw [outsAt0_A m c t h0]
    dsimp only
    unfold out0_A_6
    frame_out
    try rfl
theorem left2 (c : Dev nD) (t : Fin cfg0.N) :
    (outsAt0 m c t.val t.isLt).2.2.1 = k0_pay1 (k0_pay6 (iblk m c 0 t) (iblk m c 1 t) (wRight m c t)) := by
  by_cases h0 : t.val % 4 = 3
  · rw [outsAt0_B m c t h0]
    dsimp only
    unfold out0_B_7
    frame_out
    try rfl
  · rw [outsAt0_A m c t h0]
    dsimp only
    unfold out0_A_7
    frame_out
    try rfl
theorem left3 (c : Dev nD) (t : Fin cfg0.N) (h0 : t.val % 4 = 3) :
    (outsAt0 m c t.val t.isLt).2.2.2.1 = k0_pay5 (iblk m c 0 t) (iblk m c 1 t) (wLeft m c t) := by
  rw [outsAt0_B m c t h0]
  dsimp only
  unfold out0_B_8
  frame_out
  try rfl
theorem left4 (c : Dev nD) (t : Fin cfg0.N) (h0 : t.val % 4 = 3) :
    (outsAt0 m c t.val t.isLt).2.2.2.2 = k0_pay6 (iblk m c 0 t) (iblk m c 1 t) (wRight m c t) := by
  rw [outsAt0_B m c t h0]
  dsimp only
  unfold out0_B_9
  frame_out
  try rfl

/-- The rows of the blocks, read at one row of the prompt. -/
theorem query_blk (c : Dev nD) (t : Fin cfg0.N) (i : Fin 512) (j : Fin 1024) :
    k0_pay4 (F := Ideal) (iblk m c 0 t) (iblk m c 3 t) (iblk m c 4 t) (ix2 i j)
      = projAt (fun k => m ((c.tc : Thread nD τ).loc main_arg0)
            (ix3 ⟨(t.val * 512 + i) / 2048, by have := lt_N t; omega⟩ ⟨(t.val * 512 + i) % 2048, by omega⟩ k))
          (fun k => m ((c.tc : Thread nD τ).loc main_arg1) (ix2 1 k))
          (fun k j => m ((c.tc : Thread nD τ).loc main_arg4) (ix3 0 k j)) j * qScale := by
  rw [query_at]
  simp only [blk_x, blk_gq, blk_wq]
theorem key_blk (c : Dev nD) (t : Fin cfg0.N) (i : Fin 512) (j : Fin 1024) :
    k0_pay5 (F := Ideal) (iblk m c 0 t) (iblk m c 1 t) (wLeft m c t) (ix2 i j)
      = projAt (fun k => m ((c.tc : Thread nD τ).loc main_arg0)
            (ix3 ⟨(t.val * 512 + i) / 2048, by have := lt_N t; omega⟩ ⟨(t.val * 512 + i) % 2048, by omega⟩ k))
          (fun k => m ((c.tc : Thread nD τ).loc main_arg2) (ix1 k))
          (leftHalf fun k j => m ((c.tc : Thread nD τ).loc main_arg3) (ix2 k j)) j := by
  rw [key_at]
  simp only [blk_x, blk_gkv, wLeft_at]
theorem val_blk (c : Dev nD) (t : Fin cfg0.N) (i : Fin 512) (j : Fin 1024) :
    k0_pay6 (F := Ideal) (iblk m c 0 t) (iblk m c 1 t) (wRight m c t) (ix2 i j)
      = projAt (fun k => m ((c.tc : Thread nD τ).loc main_arg0)
            (ix3 ⟨(t.val * 512 + i) / 2048, by have := lt_N t; omega⟩ ⟨(t.val * 512 + i) % 2048, by omega⟩ k))
          (fun k => m ((c.tc : Thread nD τ).loc main_arg2) (ix1 k))
          (rightHalf fun k j => m ((c.tc : Thread nD τ).loc main_arg3) (ix2 k j)) j := by
  rw [val_at]
  simp only [blk_x, blk_gkv, wRight_at]

open Cert.Reference4Ideal.Value in
/-- The program's query is the reference's. -/
theorem final5 (c : Dev nD) :
    (dats m 0 c).arrAt 5 cfg0.N = out0 (m ((c.tc : Thread nD τ).loc main_arg0)) (m ((c.tc : Thread nD τ).loc main_arg1))
      (m ((c.tc : Thread nD τ).loc main_arg4)) := by
  refine (dats m 0 c).arrAt_eq_of_covers 5 _ (by decide +kernel) fun t _ y => ?_
  have hout : ∀ (i : Fin 512) (j : Fin 1024), ((View.whole main_v8_0).slice (win0_5.rect t)).emb (ix2 i j)
      = ix2 ⟨t.val * 512 + i, by have := lt_N t; omega⟩ j := by
    intro i j
    blk_ext [idx t]
  blk_simp
  rw [after0_5, left0]
  obtain ⟨i, j, rfl⟩ : ∃ (i : Fin 512) (j : Fin 1024), y = ix2 i j := ⟨y 0, y 1, by funext a; fin_cases a <;> rfl⟩
  refine (query_blk m c t i j).trans ?_
  rw [hout, out0_at]

open Cert.Reference4Ideal.Value in
/-- The program's keys are the reference's. -/
theorem final6 (c : Dev nD) :
    (dats m 0 c).arrAt 6 cfg0.N = out1 (m ((c.tc : Thread nD τ).loc main_arg0)) (m ((c.tc : Thread nD τ).loc main_arg2))
      (m ((c.tc : Thread nD τ).loc main_arg3)) := by
  refine (dats m 0 c).arrAt_eq_of_covers 6 _ (by decide +kernel) fun t _ y => ?_
  have hout : ∀ (i : Fin 512) (j : Fin 1024), ((View.whole main_v8_1).slice (win0_6.rect t)).emb (ix2 i j)
      = ix2 ⟨t.val * 512 + i, by have := lt_N t; omega⟩ j := by
    intro i j
    blk_ext [idx t]
  blk_simp
  rw [after0_6, left1]
  obtain ⟨i, j, rfl⟩ : ∃ (i : Fin 512) (j : Fin 1024), y = ix2 i j := ⟨y 0, y 1, by funext a; fin_cases a <;> rfl⟩
  refine (key_blk m c t i j).trans ?_
  rw [hout, out1_at]

open Cert.Reference4Ideal.Value in
/-- The program's values, transposed, are the reference's. -/
theorem final7 (c : Dev nD) :
    (dats m 0 c).arrAt 7 cfg0.N = out2 (m ((c.tc : Thread nD τ).loc main_arg0)) (m ((c.tc : Thread nD τ).loc main_arg2))
      (m ((c.tc : Thread nD τ).loc main_arg3)) := by
  refine (dats m 0 c).arrAt_eq_of_covers 7 _ (by decide +kernel) fun t _ y => ?_
  have hout : ∀ (j : Fin 1024) (i : Fin 512), ((View.whole main_v8_2).slice (win0_7.rect t)).emb (ix2 j i)
      = ix2 j ⟨t.val * 512 + i, by have := lt_N t; omega⟩ := by
    intro j i
    blk_ext [idx t]
  blk_simp
  rw [after0_7, left2]
  obtain ⟨j, i, rfl⟩ : ∃ (j : Fin 1024) (i : Fin 512), y = ix2 j i := ⟨y 0, y 1, by funext a; fin_cases a <;> rfl⟩
  rw [hout, out2_at]
  refine Eq.trans ?_ (val_blk m c t i j)
  pointwise [k0_pay1]

/-- At a sequence's last step the block's rows are the sequence's last rows. -/
theorem row_keep (c : Dev nD) (t : Fin cfg0.N) (ht : t.val % 4 = 3) (i : Fin 512) :
    (fun k : Fin 1024 => m ((c.tc : Thread nD τ).loc main_arg0) (ix3
        (⟨(t.val / 4 * 512 + i) / 512, by have := lt_N t; omega⟩ : Fin 8)
        (⟨1536 + (t.val / 4 * 512 + i) % 512, by omega⟩ : Fin 2048) k))
      = fun k => m ((c.tc : Thread nD τ).loc main_arg0)
        (ix3 ⟨(t.val * 512 + i) / 2048, by have := lt_N t; omega⟩ ⟨(t.val * 512 + i) % 2048, by omega⟩ k) := by
  funext k
  congr 2
  · exact Fin.ext (show (t.val / 4 * 512 + i.val) / 512 = (t.val * 512 + i.val) / 2048 by omega)
  · exact Fin.ext (show 1536 + (t.val / 4 * 512 + i.val) % 512 = (t.val * 512 + i.val) % 2048 by omega)

open Cert.Reference4Ideal.Value in
/-- The keys the program keeps, each sequence's last rows, are the reference's. -/
theorem final8 (c : Dev nD) :
    (dats m 0 c).arrAt 8 cfg0.N = keep (refKey (m ((c.tc : Thread nD τ).loc main_arg0))
      (m ((c.tc : Thread nD τ).loc main_arg2)) (m ((c.tc : Thread nD τ).loc main_arg3))) := by
  refine (dats m 0 c).arrAt_eq_of_covers 8 _ (by decide +kernel) fun t hf y => ?_
  have ht := (flush0_8 t).mp hf
  have hout : ∀ (i : Fin 512) (j : Fin 1024), ((View.whole main_v8_3).slice (win0_8.rect t)).emb (ix2 i j)
      = ix2 ⟨t.val / 4 * 512 + i, by have := lt_N t; omega⟩ j := by
    intro i j
    blk_ext [idx t]
  blk_simp
  rw [after0_8, left3 m c t ht]
  obtain ⟨i, j, rfl⟩ : ∃ (i : Fin 512) (j : Fin 1024), y = ix2 i j := ⟨y 0, y 1, by funext a; fin_cases a <;> rfl⟩
  refine (key_blk m c t i j).trans ?_
  rw [hout, keep_at, refKey_at, row_keep m c t ht i]

open Cert.Reference4Ideal.Value in
/-- The values the program keeps, each sequence's last rows, are the reference's. -/
theorem final9 (c : Dev nD) :
    (dats m 0 c).arrAt 9 cfg0.N = keep (refVal (m ((c.tc : Thread nD τ).loc main_arg0))
      (m ((c.tc : Thread nD τ).loc main_arg2)) (m ((c.tc : Thread nD τ).loc main_arg3))) := by
  refine (dats m 0 c).arrAt_eq_of_covers 9 _ (by decide +kernel) fun t hf y => ?_
  have ht := (flush0_9 t).mp hf
  have hout : ∀ (i : Fin 512) (j : Fin 1024), ((View.whole main_v8_4).slice (win0_9.rect t)).emb (ix2 i j)
      = ix2 ⟨t.val / 4 * 512 + i, by have := lt_N t; omega⟩ j := by
    intro i j
    blk_ext [idx t]
  blk_simp
  rw [after0_9, left4 m c t ht]
  obtain ⟨i, j, rfl⟩ : ∃ (i : Fin 512) (j : Fin 1024), y = ix2 i j := ⟨y 0, y 1, by funext a; fin_cases a <;> rfl⟩
  refine (val_blk m c t i j).trans ?_
  rw [hout, keep_at, refVal_at, row_keep m c t ht i]

end Cert.Kernel4Ideal.Value
end
-- ==== Proof.RefProj5.lean ====
/- The fifth program's reference, the band layer's projections of the sample, read at an index. -/
module
public import proofs.«01_k».proof.Proof.Gen.Reference5Ideal.Run
public import proofs.«01_k».proof.Proof.Proj
@[expose] public section
set_option maxRecDepth 16384
noncomputable section
namespace Cert.Reference5Ideal.Value
open Cert.Reference5Ideal Cert.Reference5Ideal.Gen Idealize.ShloMosaic Idealize.ShloMosaic.TcCoe Idealize.SL.Sem Cert.Layer

/-- The norm of every row. -/
def refNorm (h : FVec Ideal S32x32x1024 .f32) (g : FVec Ideal S1024 .f32) : FVec Ideal S32x32x1024 .f32 :=
  mulf (mulf h (broadcastInDim S32x32x1024 ![0, 1, 2] bcast_S32x32x1_S32x32x1024_0_1_2 (Host.rsqrt (addf (Host.divf (broadcastInDim S32x32x1 ![0, 1] bcast_S32x32_S32x32x1_0_1 (Host.reduceAdd (mulf h h) (constant S_ .f32 0x00000000#32) reducesTo_S32x32x1024_S32x32_d2 h_S_)) (broadcastInDim S32x32x1 ![] bcast_S_S32x32x1 (constant S_ .f32 0x44800000#32))) (broadcastInDim S32x32x1 ![] bcast_S_S32x32x1 (constant S_ .f32 0x358637BD#32)))))) (broadcastInDim S32x32x1024 ![0, 1, 2] bcast_S1x1x1024_S32x32x1024_0_1_2 (broadcastInDim S1x1x1024 ![2] bcast_S1024_S1x1x1024_2 g))

/-- The second layer's gains. -/
def refGain (g : FVec Ideal S2x1024 .f32) : FVec Ideal S1024 .f32 :=
  shapeCast _ (extractStridedSlice S1x1024 ![1, 0] g slices_S2x1024_S1x1024_1_0) shapeCasts_S1x1024_S1024

/-- The scaled query. -/
def refQuery (x : FVec Ideal S32x32x1024 .f32) (g : FVec Ideal S2x1024 .f32) (w : FVec Ideal S1x1024x1024 .f32) :
    FVec Ideal S32x32x1024 .f32 :=
  mulf (Host.dotGeneral dot_S32x32x1024_S1024x1024_S32x32x1024_2_0_01_1_n_n none (refNorm x (refGain g)) (shapeCast _ w shapeCasts_S1x1024x1024_S1024x1024)) (broadcastInDim S32x32x1024 ![] bcast_S_S32x32x1024 (Host.divf (constant S_ .f32 0x3E000000#32) (Host.log (constant S_ .f32 0x40000000#32))))

/-- The keys and the values, halves of one product. -/
def refBoth (x : FVec Ideal S32x32x1024 .f32) (g : FVec Ideal S1024 .f32) (w : FVec Ideal S1024x2048 .f32) :
    FVec Ideal S32x32x2048 .f32 :=
  Host.dotGeneral dot_S32x32x1024_S1024x2048_S32x32x2048_2_0_01_1_n_n none (refNorm x g) w
def refKey (x : FVec Ideal S32x32x1024 .f32) (g : FVec Ideal S1024 .f32) (w : FVec Ideal S1024x2048 .f32) :
    FVec Ideal S32x32x1024 .f32 :=
  extractStridedSlice S32x32x1024 ![0, 0, 0] (refBoth x g w) slices_S32x32x2048_S32x32x1024_0_0_0
def refVal (x : FVec Ideal S32x32x1024 .f32) (g : FVec Ideal S1024 .f32) (w : FVec Ideal S1024x2048 .f32) :
    FVec Ideal S32x32x1024 .f32 :=
  extractStridedSlice S32x32x1024 ![0, 0, 1024] (refBoth x g w) slices_S32x32x2048_S32x32x1024_0_0_1024

theorem refNorm_at (h : FVec Ideal S32x32x1024 .f32) (g : FVec Ideal S1024 .f32) (a : Fin 32) (b : Fin 32)
    (j : Fin 1024) :
    refNorm h g (ix3 a b j) = rmsAt 1149239296#32 (fun k => h (ix3 a b k)) (fun k => g (ix1 k)) j := by
  pointwise [refNorm, rmsAt]

theorem refGain_at (g : FVec Ideal S2x1024 .f32) (j : Fin 1024) : refGain g (ix1 j) = g (ix2 1 j) := by
  pointwise [refGain]

theorem refQuery_at (x : FVec Ideal S32x32x1024 .f32) (g : FVec Ideal S2x1024 .f32) (w : FVec Ideal S1x1024x1024 .f32)
    (a : Fin 32) (b : Fin 32) (j : Fin 1024) :
    refQuery x g w (ix3 a b j)
      = projAt (fun k => x (ix3 a b k)) (fun k => g (ix2 1 k)) (fun k j => w (ix3 0 k j)) j * qScale := by
  rw [← qScale_eq]
  pointwise [refQuery]
  simp only [refNorm_at, refGain_at, projAt]

theorem refKey_at (x : FVec Ideal S32x32x1024 .f32) (g : FVec Ideal S1024 .f32) (w : FVec Ideal S1024x2048 .f32)
    (a : Fin 32) (b : Fin 32) (j : Fin 1024) :
    refKey x g w (ix3 a b j)
      = projAt (fun k => x (ix3 a b k)) (fun k => g (ix1 k)) (leftHalf fun k j => w (ix2 k j)) j := by
  pointwise [refKey, refBoth]
  simp only [refNorm_at, projAt, leftHalf]

theorem refVal_at (x : FVec Ideal S32x32x1024 .f32) (g : FVec Ideal S1024 .f32) (w : FVec Ideal S1024x2048 .f32)
    (a : Fin 32) (b : Fin 32) (j : Fin 1024) :
    refVal x g w (ix3 a b j)
      = projAt (fun k => x (ix3 a b k)) (fun k => g (ix1 k)) (rightHalf fun k j => w (ix2 k j)) j := by
  pointwise [refVal, refBoth]
  simp only [refNorm_at, projAt, rightHalf]

/-- The results as functions of the arrays: the query, the keys, the values, and the keys and the values kept. -/
def out0 (x : FVec Ideal S32x32x1024 .f32) (g : FVec Ideal S2x1024 .f32) (w : FVec Ideal S1x1024x1024 .f32) :
    FVec Ideal S1024x1024 .bf16 :=
  truncf .bf16 (shapeCast _ (refQuery x g w) shapeCasts_S32x32x1024_S1024x1024) bitsLt_bf16_f32
def out3 (x : FVec Ideal S32x32x1024 .f32) (g : FVec Ideal S1024 .f32) (w : FVec Ideal S1024x2048 .f32) :
    FVec Ideal S1024x1024 .f32 :=
  shapeCast _ (refKey x g w) shapeCasts_S32x32x1024_S1024x1024
def out4 (x : FVec Ideal S32x32x1024 .f32) (g : FVec Ideal S1024 .f32) (w : FVec Ideal S1024x2048 .f32) :
    FVec Ideal S1024x1024 .f32 :=
  shapeCast _ (refVal x g w) shapeCasts_S32x32x1024_S1024x1024
def out1 (x : FVec Ideal S32x32x1024 .f32) (g : FVec Ideal S1024 .f32) (w : FVec Ideal S1024x2048 .f32) :
    FVec Ideal S1024x1024 .bf16 :=
  truncf .bf16 (out3 x g w) bitsLt_bf16_f32
def out2 (x : FVec Ideal S32x32x1024 .f32) (g : FVec Ideal S1024 .f32) (w : FVec Ideal S1024x2048 .f32) :
    FVec Ideal S1024x1024 .bf16 :=
  truncf .bf16 (out4 x g w) bitsLt_bf16_f32

theorem out0_at (x : FVec Ideal S32x32x1024 .f32) (g : FVec Ideal S2x1024 .f32) (w : FVec Ideal S1x1024x1024 .f32)
    (r j : Fin 1024) :
    out0 x g w (ix2 r j) = projAt (fun k => x (ix3 ⟨r / 32, by omega⟩ ⟨r % 32, by omega⟩ k)) (fun k => g (ix2 1 k))
      (fun k j => w (ix3 0 k j)) j * qScale := by
  pointwise [out0]
  exact refQuery_at x g w _ _ _

theorem out3_at (x : FVec Ideal S32x32x1024 .f32) (g : FVec Ideal S1024 .f32) (w : FVec Ideal S1024x2048 .f32)
    (r j : Fin 1024) :
    out3 x g w (ix2 r j) = projAt (fun k => x (ix3 ⟨r / 32, by omega⟩ ⟨r % 32, by omega⟩ k)) (fun k => g (ix1 k))
      (leftHalf fun k j => w (ix2 k j)) j := by
  pointwise [out3]
  exact refKey_at x g w _ _ _

theorem out4_at (x : FVec Ideal S32x32x1024 .f32) (g : FVec Ideal S1024 .f32) (w : FVec Ideal S1024x2048 .f32)
    (r j : Fin 1024) :
    out4 x g w (ix2 r j) = projAt (fun k => x (ix3 ⟨r / 32, by omega⟩ ⟨r % 32, by omega⟩ k)) (fun k => g (ix1 k))
      (rightHalf fun k j => w (ix2 k j)) j := by
  pointwise [out4]
  exact refVal_at x g w _ _ _

theorem out1_at (x : FVec Ideal S32x32x1024 .f32) (g : FVec Ideal S1024 .f32) (w : FVec Ideal S1024x2048 .f32)
    (r j : Fin 1024) :
    out1 x g w (ix2 r j) = projAt (fun k => x (ix3 ⟨r / 32, by omega⟩ ⟨r % 32, by omega⟩ k)) (fun k => g (ix1 k))
      (leftHalf fun k j => w (ix2 k j)) j := by
  pointwise [out1]
  exact out3_at x g w _ _

theorem out2_at (x : FVec Ideal S32x32x1024 .f32) (g : FVec Ideal S1024 .f32) (w : FVec Ideal S1024x2048 .f32)
    (r j : Fin 1024) :
    out2 x g w (ix2 r j) = projAt (fun k => x (ix3 ⟨r / 32, by omega⟩ ⟨r % 32, by omega⟩ k)) (fun k => g (ix1 k))
      (rightHalf fun k j => w (ix2 k j)) j := by
  pointwise [out2]
  exact out4_at x g w _ _

end Cert.Reference5Ideal.Value
end
-- ==== Proof.Proj5.lean ====
/- The fifth program: each grid step's projections of the sample are the reference's. The bodies' pure values are the fourth
   program's, so its lemmas about them are used. -/
module
public import proofs.«01_k».proof.Proof.Gen.Kernel5Ideal.Value
public import proofs.«01_k».proof.Proof.RefProj5
public import proofs.«01_k».proof.Proof.Proj4
public import Idealize.ShloMosaic.Lib.Pipeline.ValueKit
@[expose] public section
set_option maxRecDepth 16384
noncomputable section
namespace Cert.Kernel5Ideal.Value
open Cert.Kernel5Ideal Cert.Kernel5Ideal.Gen Idealize.ShloMosaic Idealize.ShloMosaic.TcCoe Idealize.SL.Sem Cert.Layer
open Idealize.ShloMosaic.Pipeline (Dat)

/-- The body's pure values are the fourth program's. -/
theorem query_same : k0_pay4 (F := Ideal) = Cert.Kernel4Ideal.Gen.k0_pay4 (F := Ideal) := rfl
theorem key_same : k0_pay5 (F := Ideal) = Cert.Kernel4Ideal.Gen.k0_pay5 (F := Ideal) := rfl
theorem val_same : k0_pay6 (F := Ideal) = Cert.Kernel4Ideal.Gen.k0_pay6 (F := Ideal) := rfl

variable (m : (ℓ : Loc nD τ sig) → Buf (Elt Ideal) ℓ)

/-- The host-prepared operands at an index, in the arguments. -/
theorem V_x (c : Dev nD) (r : Fin 1024) (j : Fin 1024) :
    V m c main_v7 (ix2 r j) = m ((c.tc : Thread nD τ).loc main_arg0) (ix3 ⟨r / 32, by omega⟩ ⟨r % 32, by omega⟩ j) := by
  entry_read; pointwise; try rfl
theorem V_gkv (c : Dev nD) (j : Fin 1024) :
    V m c main_v6 (ix2 0 j) = m ((c.tc : Thread nD τ).loc main_arg2) (ix1 j) := by
  entry_read; pointwise; try rfl
theorem V_wkv (c : Dev nD) (k : Fin 1024) (j : Fin 2048) :
    V m c main_v0 (ix2 k j) = m ((c.tc : Thread nD τ).loc main_arg3) (ix2 k j) := by
  entry_read; pointwise; try rfl
theorem V_gq (c : Dev nD) (j : Fin 1024) :
    V m c main_v5 (ix2 0 j) = m ((c.tc : Thread nD τ).loc main_arg1) (ix2 1 j) := by
  entry_read; pointwise; try rfl
theorem V_wq (c : Dev nD) (k j : Fin 1024) :
    V m c main_v2 (ix2 k j) = m ((c.tc : Thread nD τ).loc main_arg4) (ix3 0 k j) := by
  entry_read; pointwise; try rfl

/-- Where the windows lie at each grid step. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem lt_N (t : Fin cfg0.N) : t.val < 2 := t.isLt.trans_eq N_0

/-- The blocks of the operands at an index, in the arguments. -/
theorem blk_x (c : Dev nD) (t : Fin cfg0.N) (i : Fin 512) (j : Fin 1024) :
    iblk m c 0 t (ix2 i j) = m ((c.tc : Thread nD τ).loc main_arg0)
      (ix3 ⟨(t.val * 512 + i) / 32, by have := lt_N t; omega⟩ ⟨(t.val * 512 + i) % 32, by omega⟩ j) := by
  refine Eq.trans ?_ (V_x m c ⟨t.val * 512 + i, by have := lt_N t; omega⟩ j)
  blk_simp [iblk]
  blk_point [idx t]
theorem blk_gkv (c : Dev nD) (t : Fin cfg0.N) (j : Fin 1024) :
    iblk m c 1 t (ix2 0 j) = m ((c.tc : Thread nD τ).loc main_arg2) (ix1 j) := by
  refine Eq.trans ?_ (V_gkv m c j)
  blk_simp [iblk]
  blk_point [idx t]
theorem blk_wkv (c : Dev nD) (t : Fin cfg0.N) (k : Fin 1024) (j : Fin 2048) :
    iblk m c 2 t (ix2 k j) = m ((c.tc : Thread nD τ).loc main_arg3) (ix2 k j) := by
  refine Eq.trans ?_ (V_wkv m c k j)
  blk_simp [iblk]
  blk_point [idx t]
theorem blk_gq (c : Dev nD) (t : Fin cfg0.N) (j : Fin 1024) :
    iblk m c 3 t (ix2 0 j) = m ((c.tc : Thread nD τ).loc main_arg1) (ix2 1 j) := by
  refine Eq.trans ?_ (V_gq m c j)
  blk_simp [iblk]
  blk_point [idx t]
theorem blk_wq (c : Dev nD) (t : Fin cfg0.N) (k j : Fin 1024) :
    iblk m c 4 t (ix2 k j) = m ((c.tc : Thread nD τ).loc main_arg4) (ix3 0 k j) := by
  refine Eq.trans ?_ (V_wq m c k j)
  blk_simp [iblk]
  blk_point [idx t]

/-- The two halves of the shared weight as the body loads them. -/
def wLeft (c : Dev nD) (t : Fin cfg0.N) : FVec Ideal S1024x1024 .bf16 :=
  View.ld (iblk m c 2 t) (Rect.unit (s := S1024x2048) ![0, 0] ![1024, 1024] inb_S1024x2048_S1024x1024_0_0)
def wRight (c : Dev nD) (t : Fin cfg0.N) : FVec Ideal S1024x1024 .bf16 :=
  View.ld (iblk m c 2 t) (Rect.unit (s := S1024x2048) ![0, 1024] ![1024, 1024] inb_S1024x2048_S1024x1024_0_1024)

theorem wLeft_at (c : Dev nD) (t : Fin cfg0.N) (k j : Fin 1024) :
    wLeft m c t (ix2 k j) = leftHalf (fun k j => m ((c.tc : Thread nD τ).loc main_arg3) (ix2 k j)) k j := by
  pointwise [wLeft, leftHalf]
  exact blk_wkv m c t _ _
theorem wRight_at (c : Dev nD) (t : Fin cfg0.N) (k j : Fin 1024) :
    wRight m c t (ix2 k j) = rightHalf (fun k j => m ((c.tc : Thread nD τ).loc main_arg3) (ix2 k j)) k j := by
  pointwise [wRight, rightHalf]
  exact blk_wkv m c t _ _

/-- What each grid step leaves in the output blocks. -/
theorem left0 (c : Dev nD) (t : Fin cfg0.N) :
    (outsAt0 m c t).1 = k0_pay4 (iblk m c 0 t) (iblk m c 3 t) (iblk m c 4 t) := by
  unfold outsAt0
  dsimp only
  unfold out0_A_5
  frame_out
  try rfl
theorem left1 (c : Dev nD) (t : Fin cfg0.N) :
    (outsAt0 m c t).2.1 = k0_pay7 (iblk m c 0 t) (iblk m c 1 t) (wLeft m c t) := by
  unfold outsAt0
  dsimp only
  unfold out0_A_6
  frame_out
  try rfl
theorem left2 (c : Dev nD) (t : Fin cfg0.N) :
    (outsAt0 m c t).2.2.1 = k0_pay1 (k0_pay6 (iblk m c 0 t) (iblk m c 1 t) (wRight m c t)) := by
  unfold outsAt0
  dsimp only
  unfold out0_A_7
  frame_out
  try rfl
theorem left3 (c : Dev nD) (t : Fin cfg0.N) :
    (outsAt0 m c t).2.2.2.1 = k0_pay5 (iblk m c 0 t) (iblk m c 1 t) (wLeft m c t) := by
  unfold outsAt0
  dsimp only
  unfold out0_A_8
  frame_out
  try rfl
theorem left4 (c : Dev nD) (t : Fin cfg0.N) :
    (outsAt0 m c t).2.2.2.2 = k0_pay6 (iblk m c 0 t) (iblk m c 1 t) (wRight m c t) := by
  unfold outsAt0
  dsimp only
  unfold out0_A_9
  frame_out
  try rfl

/-- The rows of the blocks, read at one row of the sample. -/
theorem query_blk (c : Dev nD) (t : Fin cfg0.N) (i : Fin 512) (j : Fin 1024) :
    k0_pay4 (F := Ideal) (iblk m c 0 t) (iblk m c 3 t) (iblk m c 4 t) (ix2 i j)
      = projAt (fun k => m ((c.tc : Thread nD τ).loc main_arg0)
            (ix3 ⟨(t.val * 512 + i) / 32, by have := lt_N t; omega⟩ ⟨(t.val * 512 + i) % 32, by omega⟩ k))
          (fun k => m ((c.tc : Thread nD τ).loc main_arg1) (ix2 1 k))
          (fun k j => m ((c.tc : Thread nD τ).loc main_arg4) (ix3 0 k j)) j * qScale := by
  rw [query_same, Cert.Kernel4Ideal.Value.query_at]
  simp only [blk_x, blk_gq, blk_wq]
theorem key_blk (c : Dev nD) (t : Fin cfg0.N) (i : Fin 512) (j : Fin 1024) :
    k0_pay5 (F := Ideal) (iblk m c 0 t) (iblk m c 1 t) (wLeft m c t) (ix2 i j)
      = projAt (fun k => m ((c.tc : Thread nD τ).loc main_arg0)
            (ix3 ⟨(t.val * 512 + i) / 32, by have := lt_N t; omega⟩ ⟨(t.val * 512 + i) % 32, by omega⟩ k))
          (fun k => m ((c.tc : Thread nD τ).loc main_arg2) (ix1 k))
          (leftHalf fun k j => m ((c.tc : Thread nD τ).loc main_arg3) (ix2 k j)) j := by
  rw [key_same, Cert.Kernel4Ideal.Value.key_at]
  simp only [blk_x, blk_gkv, wLeft_at]
theorem val_blk (c : Dev nD) (t : Fin cfg0.N) (i : Fin 512) (j : Fin 1024) :
    k0_pay6 (F := Ideal) (iblk m c 0 t) (iblk m c 1 t) (wRight m c t) (ix2 i j)
      = projAt (fun k => m ((c.tc : Thread nD τ).loc main_arg0)
            (ix3 ⟨(t.val * 512 + i) / 32, by have := lt_N t; omega⟩ ⟨(t.val * 512 + i) % 32, by omega⟩ k))
          (fun k => m ((c.tc : Thread nD τ).loc main_arg2) (ix1 k))
          (rightHalf fun k j => m ((c.tc : Thread nD τ).loc main_arg3) (ix2 k j)) j := by
  rw [val_same, Cert.Kernel4Ideal.Value.val_at]
  simp only [blk_x, blk_gkv, wRight_at]

open Cert.Reference5Ideal.Value

/-- The program's query is the reference's. -/
theorem final5 (c : Dev nD) :
    (dats m 0 c).arrAt 5 cfg0.N = out0 (m ((c.tc : Thread nD τ).loc main_arg0)) (m ((c.tc : Thread nD τ).loc main_arg1))
      (m ((c.tc : Thread nD τ).loc main_arg4)) := by
  refine (dats m 0 c).arrAt_eq_of_covers 5 _ (by decide +kernel) fun t _ y => ?_
  have hout : ∀ (i : Fin 512) (j : Fin 1024), ((View.whole main_v8_0).slice (win0_5.rect t)).emb (ix2 i j)
      = ix2 ⟨t.val * 512 + i, by have := lt_N t; omega⟩ j := by
    intro i j
    blk_ext [idx t]
  blk_simp
  rw [after0_5, left0]
  obtain ⟨i, j, rfl⟩ : ∃ (i : Fin 512) (j : Fin 1024), y = ix2 i j := ⟨y 0, y 1, by funext a; fin_cases a <;> rfl⟩
  refine (query_blk m c t i j).trans ?_
  rw [hout, out0_at]

/-- The program's keys are the reference's. -/
theorem final6 (c : Dev nD) :
    (dats m 0 c).arrAt 6 cfg0.N = out1 (m ((c.tc : Thread nD τ).loc main_arg0)) (m ((c.tc : Thread nD τ).loc main_arg2))
      (m ((c.tc : Thread nD τ).loc main_arg3)) := by
  refine (dats m 0 c).arrAt_eq_of_covers 6 _ (by decide +kernel) fun t _ y => ?_
  have hout : ∀ (i : Fin 512) (j : Fin 1024), ((View.whole main_v8_1).slice (win0_6.rect t)).emb (ix2 i j)
      = ix2 ⟨t.val * 512 + i, by have := lt_N t; omega⟩ j := by
    intro i j
    blk_ext [idx t]
  blk_simp
  rw [after0_6, left1]
  obtain ⟨i, j, rfl⟩ : ∃ (i : Fin 512) (j : Fin 1024), y = ix2 i j := ⟨y 0, y 1, by funext a; fin_cases a <;> rfl⟩
  refine (key_blk m c t i j).trans ?_
  rw [hout, out1_at]

/-- The program's values are the reference's. -/
theorem final7 (c : Dev nD) :
    (dats m 0 c).arrAt 7 cfg0.N = out2 (m ((c.tc : Thread nD τ).loc main_arg0)) (m ((c.tc : Thread nD τ).loc main_arg2))
      (m ((c.tc : Thread nD τ).loc main_arg3)) := by
  refine (dats m 0 c).arrAt_eq_of_covers 7 _ (by decide +kernel) fun t _ y => ?_
  have hout : ∀ (i : Fin 512) (j : Fin 1024), ((View.whole main_v8_2).slice (win0_7.rect t)).emb (ix2 i j)
      = ix2 ⟨t.val * 512 + i, by have := lt_N t; omega⟩ j := by
    intro i j
    blk_ext [idx t]
  blk_simp
  rw [after0_7, left2]
  obtain ⟨i, j, rfl⟩ : ∃ (i : Fin 512) (j : Fin 1024), y = ix2 i j := ⟨y 0, y 1, by funext a; fin_cases a <;> rfl⟩
  refine (val_blk m c t i j).trans ?_
  rw [hout, out2_at]

/-- The keys the program keeps are the reference's. -/
theorem final8 (c : Dev nD) :
    (dats m 0 c).arrAt 8 cfg0.N = out3 (m ((c.tc : Thread nD τ).loc main_arg0)) (m ((c.tc : Thread nD τ).loc main_arg2))
      (m ((c.tc : Thread nD τ).loc main_arg3)) := by
  refine (dats m 0 c).arrAt_eq_of_covers 8 _ (by decide +kernel) fun t _ y => ?_
  have hout : ∀ (i : Fin 512) (j : Fin 1024), ((View.whole main_v8_3).slice (win0_8.rect t)).emb (ix2 i j)
      = ix2 ⟨t.val * 512 + i, by have := lt_N t; omega⟩ j := by
    intro i j
    blk_ext [idx t]
  blk_simp
  rw [after0_8, left3]
  obtain ⟨i, j, rfl⟩ : ∃ (i : Fin 512) (j : Fin 1024), y = ix2 i j := ⟨y 0, y 1, by funext a; fin_cases a <;> rfl⟩
  refine (key_blk m c t i j).trans ?_
  rw [hout, out3_at]

/-- The values the program keeps are the reference's. -/
theorem final9 (c : Dev nD) :
    (dats m 0 c).arrAt 9 cfg0.N = out4 (m ((c.tc : Thread nD τ).loc main_arg0)) (m ((c.tc : Thread nD τ).loc main_arg2))
      (m ((c.tc : Thread nD τ).loc main_arg3)) := by
  refine (dats m 0 c).arrAt_eq_of_covers 9 _ (by decide +kernel) fun t _ y => ?_
  have hout : ∀ (i : Fin 512) (j : Fin 1024), ((View.whole main_v8_4).slice (win0_9.rect t)).emb (ix2 i j)
      = ix2 ⟨t.val * 512 + i, by have := lt_N t; omega⟩ j := by
    intro i j
    blk_ext [idx t]
  blk_simp
  rw [after0_9, left4]
  obtain ⟨i, j, rfl⟩ : ∃ (i : Fin 512) (j : Fin 1024), y = ix2 i j := ⟨y 0, y 1, by funext a; fin_cases a <;> rfl⟩
  refine (val_blk m c t i j).trans ?_
  rw [hout, out4_at]

end Cert.Kernel5Ideal.Value
end
-- ==== Proof.Rot6Ideal.lean ====
/- The frame of the attention layer's projection call on the prompt batch (Kernel6Ideal.lean): what the body's loads read, what its
   stores leave in each output's buffer, the run of the whole call and the frame claim. Two of its outputs, the
   projections in the layout of the cache, are stored eight rows apart, one head at a time: `rows_cover` (Rot6.lean) says that the
   eight stores together leave no entry unwritten. -/
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Rot6
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel6Ideal.Rot

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel6Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S512x128 := Rect.unit (s := S512x128) ![0, 0] S512x128.size inb_S512x128_S512x128_0_0
abbrev r0_3 : Rect S1024x3072 := Rect.unit (s := S1024x3072) ![0, 0] S1024x1024.size inb_S1024x3072_S1024x1024_0_0
abbrev r0_4 : Rect S512x1024 := Rect.unit (s := S512x1024) ![0, 0] S512x128.size inb_S512x1024_S512x128_0_0
abbrev r0_5 : Rect S512x1024 := Rect.unit (s := S512x1024) ![0, 128] S512x128.size inb_S512x1024_S512x128_0_128
abbrev r0_6 : Rect S512x1024 := Rect.unit (s := S512x1024) ![0, 256] S512x128.size inb_S512x1024_S512x128_0_256
abbrev r0_7 : Rect S512x1024 := Rect.unit (s := S512x1024) ![0, 384] S512x128.size inb_S512x1024_S512x128_0_384
abbrev r0_8 : Rect S512x1024 := Rect.unit (s := S512x1024) ![0, 512] S512x128.size inb_S512x1024_S512x128_0_512
abbrev r0_9 : Rect S512x1024 := Rect.unit (s := S512x1024) ![0, 640] S512x128.size inb_S512x1024_S512x128_0_640
abbrev r0_10 : Rect S512x1024 := Rect.unit (s := S512x1024) ![0, 768] S512x128.size inb_S512x1024_S512x128_0_768
abbrev r0_11 : Rect S512x1024 := Rect.unit (s := S512x1024) ![0, 896] S512x128.size inb_S512x1024_S512x128_0_896
abbrev r0_12 : Rect S1024x3072 := Rect.unit (s := S1024x3072) ![0, 1024] S1024x1024.size inb_S1024x3072_S1024x1024_0_1024
abbrev r0_13 : Rect S4096x128 := ⟨(⟨![0, 0], S512x128.size, ![8, 1], inb_S4096x128_S512x128_0_0_s_8_1⟩ : LoadRect S4096x128), spos_8_1⟩
abbrev r0_14 : Rect S4096x128 := ⟨(⟨![1, 0], S512x128.size, ![8, 1], inb_S4096x128_S512x128_1_0_s_8_1⟩ : LoadRect S4096x128), spos_8_1⟩
abbrev r0_15 : Rect S4096x128 := ⟨(⟨![2, 0], S512x128.size, ![8, 1], inb_S4096x128_S512x128_2_0_s_8_1⟩ : LoadRect S4096x128), spos_8_1⟩
abbrev r0_16 : Rect S4096x128 := ⟨(⟨![3, 0], S512x128.size, ![8, 1], inb_S4096x128_S512x128_3_0_s_8_1⟩ : LoadRect S4096x128), spos_8_1⟩
abbrev r0_17 : Rect S4096x128 := ⟨(⟨![4, 0], S512x128.size, ![8, 1], inb_S4096x128_S512x128_4_0_s_8_1⟩ : LoadRect S4096x128), spos_8_1⟩
abbrev r0_18 : Rect S4096x128 := ⟨(⟨![5, 0], S512x128.size, ![8, 1], inb_S4096x128_S512x128_5_0_s_8_1⟩ : LoadRect S4096x128), spos_8_1⟩
abbrev r0_19 : Rect S4096x128 := ⟨(⟨![6, 0], S512x128.size, ![8, 1], inb_S4096x128_S512x128_6_0_s_8_1⟩ : LoadRect S4096x128), spos_8_1⟩
abbrev r0_20 : Rect S4096x128 := ⟨(⟨![7, 0], S512x128.size, ![8, 1], inb_S4096x128_S512x128_7_0_s_8_1⟩ : LoadRect S4096x128), spos_8_1⟩
abbrev r0_21 : Rect S1024x3072 := Rect.unit (s := S1024x3072) ![0, 2048] S1024x1024.size inb_S1024x3072_S1024x1024_0_2048
abbrev r0_22 : Rect S1024x512 := Rect.unit (s := S1024x512) ![0, 0] S1024x512.size inb_S1024x512_S1024x512_0_0

/-! ## What the body leaves in each output window's buffer -/

/-! ### Values of the body that several stores use: the normed rows, the tables, the mask and the three products -/

def k0_pay45 (x0 : Vec F S512x1024 .f32) (x1 : Vec F S1x1024 .f32) (x2 : Vec F S1024x3072 .bf16) (x3 : Vec F S512x128 .f32) (x4 : Vec F S512x128 .f32) : FVec F S512x1024 .bf16 :=
  k0_pay9 (View.ld x0 r0_0) (View.ld x1 r0_1) -- `v16`
def k0_pay46 (x0 : Vec F S512x1024 .f32) (x1 : Vec F S1x1024 .f32) (x2 : Vec F S1024x3072 .bf16) (x3 : Vec F S512x128 .f32) (x4 : Vec F S512x128 .f32) : FVec F S512x128 .f32 :=
  k0_pay10 (View.ld x3 r0_2) -- `v18`
def k0_pay47 (x0 : Vec F S512x1024 .f32) (x1 : Vec F S1x1024 .f32) (x2 : Vec F S1024x3072 .bf16) (x3 : Vec F S512x128 .f32) (x4 : Vec F S512x128 .f32) : FVec F S512x128 .f32 :=
  k0_pay11 (View.ld x4 r0_2) -- `v20`
def k0_pay48 (x0 : Vec F S512x1024 .f32) (x1 : Vec F S1x1024 .f32) (x2 : Vec F S1024x3072 .bf16) (x3 : Vec F S512x128 .f32) (x4 : Vec F S512x128 .f32) : IVec S512x128 1 :=
  k0_pay12 -- `v39`
def k0_pay49 (x0 : Vec F S512x1024 .f32) (x1 : Vec F S1x1024 .f32) (x2 : Vec F S1024x3072 .bf16) (x3 : Vec F S512x128 .f32) (x4 : Vec F S512x128 .f32) : FVec F S512x1024 .f32 :=
  k0_pay13 (k0_pay45 x0 x1 x2 x3 x4) (View.ld x2 r0_3) -- `v42`
def k0_pay50 (x0 : Vec F S512x1024 .f32) (x1 : Vec F S1x1024 .f32) (x2 : Vec F S1024x3072 .bf16) (x3 : Vec F S512x128 .f32) (x4 : Vec F S512x128 .f32) : FVec F S512x1024 .f32 :=
  k0_pay24 (k0_pay45 x0 x1 x2 x3 x4) (View.ld x2 r0_12) -- `v133`
def k0_pay51 (x0 : Vec F S512x1024 .f32) (x1 : Vec F S1x1024 .f32) (x2 : Vec F S1024x3072 .bf16) (x3 : Vec F S512x128 .f32) (x4 : Vec F S512x128 .f32) : FVec F S512x128 .f32 :=
  k0_pay35 (k0_pay50 x0 x1 x2 x3 x4) -- `v184`
def k0_pay52 (x0 : Vec F S512x1024 .f32) (x1 : Vec F S1x1024 .f32) (x2 : Vec F S1024x3072 .bf16) (x3 : Vec F S512x128 .f32) (x4 : Vec F S512x128 .f32) : FVec F S512x128 .f32 :=
  k0_pay36 (k0_pay50 x0 x1 x2 x3 x4) -- `v185`
def k0_pay53 (x0 : Vec F S512x1024 .f32) (x1 : Vec F S1x1024 .f32) (x2 : Vec F S1024x3072 .bf16) (x3 : Vec F S512x128 .f32) (x4 : Vec F S512x128 .f32) : FVec F S512x1024 .f32 :=
  k0_pay43 (k0_pay45 x0 x1 x2 x3 x4) (View.ld x2 r0_21) -- `v216`

/-- Window 5's staging buffer after the body, from the input windows' blocks: its 8 stores as pieces, LAST
    FIRST (the payloads are the skeleton's and the values stated above). -/
def out0_5 (x0 : Vec F S512x1024 .f32) (x1 : Vec F S1x1024 .f32) (x2 : Vec F S1024x3072 .bf16) (x3 : Vec F S512x128 .f32) (x4 : Vec F S512x128 .f32) : Vec F S512x1024 .bf16 :=
  View.canon [⟨r0_11, k0_pay23 (k0_pay46 x0 x1 x2 x3 x4) (k0_pay47 x0 x1 x2 x3 x4) (k0_pay48 x0 x1 x2 x3 x4) (k0_pay49 x0 x1 x2 x3 x4)⟩,
    ⟨r0_10, k0_pay22 (k0_pay46 x0 x1 x2 x3 x4) (k0_pay47 x0 x1 x2 x3 x4) (k0_pay48 x0 x1 x2 x3 x4) (k0_pay49 x0 x1 x2 x3 x4)⟩,
    ⟨r0_9, k0_pay21 (k0_pay46 x0 x1 x2 x3 x4) (k0_pay47 x0 x1 x2 x3 x4) (k0_pay48 x0 x1 x2 x3 x4) (k0_pay49 x0 x1 x2 x3 x4)⟩,
    ⟨r0_8, k0_pay20 (k0_pay46 x0 x1 x2 x3 x4) (k0_pay47 x0 x1 x2 x3 x4) (k0_pay48 x0 x1 x2 x3 x4) (k0_pay49 x0 x1 x2 x3 x4)⟩,
    ⟨r0_7, k0_pay19 (k0_pay46 x0 x1 x2 x3 x4) (k0_pay47 x0 x1 x2 x3 x4) (k0_pay48 x0 x1 x2 x3 x4) (k0_pay17 (k0_pay45 x0 x1 x2 x3 x4) (View.ld x2 r0_3)) (k0_pay18 (k0_pay45 x0 x1 x2 x3 x4) (View.ld x2 r0_3)) 32#32⟩,
    ⟨r0_6, k0_pay16 (k0_pay45 x0 x1 x2 x3 x4) (k0_pay46 x0 x1 x2 x3 x4) (k0_pay47 x0 x1 x2 x3 x4) (k0_pay48 x0 x1 x2 x3 x4) (View.ld x2 r0_3)⟩,
    ⟨r0_5, k0_pay15 (k0_pay45 x0 x1 x2 x3 x4) (k0_pay46 x0 x1 x2 x3 x4) (k0_pay47 x0 x1 x2 x3 x4) (k0_pay48 x0 x1 x2 x3 x4) (View.ld x2 r0_3)⟩,
    ⟨r0_4, k0_pay14 (k0_pay45 x0 x1 x2 x3 x4) (k0_pay46 x0 x1 x2 x3 x4) (k0_pay47 x0 x1 x2 x3 x4) (k0_pay48 x0 x1 x2 x3 x4) (View.ld x2 r0_3)⟩]

/-- Its stores tile the buffer (checked by evaluation), so they cover it. -/
theorem cover0_5 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_11, p0⟩, ⟨r0_10, p1⟩, ⟨r0_9, p2⟩, ⟨r0_8, p3⟩, ⟨r0_7, p4⟩, ⟨r0_6, p5⟩, ⟨r0_5, p6⟩, ⟨r0_4, p7⟩] : List (View.Piece (Elt F) S512x1024 .bf16)), y ∈ pc.1.set :=
  View.cover_of_tiled [⟨r0_11, p0⟩, ⟨r0_10, p1⟩, ⟨r0_9, p2⟩, ⟨r0_8, p3⟩, ⟨r0_7, p4⟩, ⟨r0_6, p5⟩, ⟨r0_5, p6⟩, ⟨r0_4, p7⟩] S512x128.size (by rfl) y

/-- Window 6's staging buffer after the body, from the input windows' blocks: its 8 stores as pieces, LAST
    FIRST (the payloads are the skeleton's and the values stated above). -/
def out0_6 (x0 : Vec F S512x1024 .f32) (x1 : Vec F S1x1024 .f32) (x2 : Vec F S1024x3072 .bf16) (x3 : Vec F S512x128 .f32) (x4 : Vec F S512x128 .f32) : Vec F S4096x128 .f32 :=
  View.canon [⟨r0_20, k0_pay41 (k0_pay46 x0 x1 x2 x3 x4) (k0_pay47 x0 x1 x2 x3 x4) (k0_pay48 x0 x1 x2 x3 x4) (k0_pay50 x0 x1 x2 x3 x4)⟩,
    ⟨r0_19, k0_pay39 (k0_pay46 x0 x1 x2 x3 x4) (k0_pay47 x0 x1 x2 x3 x4) (k0_pay48 x0 x1 x2 x3 x4) (k0_pay50 x0 x1 x2 x3 x4)⟩,
    ⟨r0_18, k0_pay37 (k0_pay46 x0 x1 x2 x3 x4) (k0_pay47 x0 x1 x2 x3 x4) (k0_pay48 x0 x1 x2 x3 x4) (k0_pay51 x0 x1 x2 x3 x4) (k0_pay52 x0 x1 x2 x3 x4)⟩,
    ⟨r0_17, k0_pay33 (k0_pay46 x0 x1 x2 x3 x4) (k0_pay47 x0 x1 x2 x3 x4) (k0_pay48 x0 x1 x2 x3 x4) (k0_pay50 x0 x1 x2 x3 x4)⟩,
    ⟨r0_16, k0_pay31 (k0_pay46 x0 x1 x2 x3 x4) (k0_pay47 x0 x1 x2 x3 x4) (k0_pay48 x0 x1 x2 x3 x4) (k0_pay50 x0 x1 x2 x3 x4)⟩,
    ⟨r0_15, k0_pay29 (k0_pay46 x0 x1 x2 x3 x4) (k0_pay47 x0 x1 x2 x3 x4) (k0_pay48 x0 x1 x2 x3 x4) (k0_pay50 x0 x1 x2 x3 x4)⟩,
    ⟨r0_14, k0_pay27 (k0_pay45 x0 x1 x2 x3 x4) (k0_pay46 x0 x1 x2 x3 x4) (k0_pay47 x0 x1 x2 x3 x4) (k0_pay48 x0 x1 x2 x3 x4) (View.ld x2 r0_12)⟩,
    ⟨r0_13, k0_pay25 (k0_pay45 x0 x1 x2 x3 x4) (k0_pay46 x0 x1 x2 x3 x4) (k0_pay47 x0 x1 x2 x3 x4) (k0_pay48 x0 x1 x2 x3 x4) (View.ld x2 r0_12)⟩]

/-- Its stores take every eighth row, from eight first rows, so they cover it. -/
theorem cover0_6 (p0 : Vec F S512x128 .f32) (p1 : Vec F S512x128 .f32) (p2 : Vec F S512x128 .f32) (p3 : Vec F S512x128 .f32) (p4 : Vec F S512x128 .f32) (p5 : Vec F S512x128 .f32) (p6 : Vec F S512x128 .f32) (p7 : Vec F S512x128 .f32) (y : S4096x128.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩] : List (View.Piece (Elt F) S4096x128 .f32)), y ∈ pc.1.set :=
  Cert.Kernel6.Rot.rows_cover p0 p1 p2 p3 p4 p5 p6 p7 y

/-- Window 7's staging buffer after the body, from the input windows' blocks: its 8 stores as pieces, LAST
    FIRST (the payloads are the skeleton's and the values stated above). -/
def out0_7 (x0 : Vec F S512x1024 .f32) (x1 : Vec F S1x1024 .f32) (x2 : Vec F S1024x3072 .bf16) (x3 : Vec F S512x128 .f32) (x4 : Vec F S512x128 .f32) : Vec F S512x1024 .bf16 :=
  View.canon [⟨r0_11, k0_pay42 (k0_pay46 x0 x1 x2 x3 x4) (k0_pay47 x0 x1 x2 x3 x4) (k0_pay48 x0 x1 x2 x3 x4) (k0_pay50 x0 x1 x2 x3 x4)⟩,
    ⟨r0_10, k0_pay40 (k0_pay46 x0 x1 x2 x3 x4) (k0_pay47 x0 x1 x2 x3 x4) (k0_pay48 x0 x1 x2 x3 x4) (k0_pay50 x0 x1 x2 x3 x4)⟩,
    ⟨r0_9, k0_pay38 (k0_pay46 x0 x1 x2 x3 x4) (k0_pay47 x0 x1 x2 x3 x4) (k0_pay48 x0 x1 x2 x3 x4) (k0_pay51 x0 x1 x2 x3 x4) (k0_pay52 x0 x1 x2 x3 x4)⟩,
    ⟨r0_8, k0_pay34 (k0_pay46 x0 x1 x2 x3 x4) (k0_pay47 x0 x1 x2 x3 x4) (k0_pay48 x0 x1 x2 x3 x4) (k0_pay50 x0 x1 x2 x3 x4)⟩,
    ⟨r0_7, k0_pay32 (k0_pay46 x0 x1 x2 x3 x4) (k0_pay47 x0 x1 x2 x3 x4) (k0_pay48 x0 x1 x2 x3 x4) (k0_pay50 x0 x1 x2 x3 x4)⟩,
    ⟨r0_6, k0_pay30 (k0_pay46 x0 x1 x2 x3 x4) (k0_pay47 x0 x1 x2 x3 x4) (k0_pay48 x0 x1 x2 x3 x4) (k0_pay50 x0 x1 x2 x3 x4)⟩,
    ⟨r0_5, k0_pay28 (k0_pay45 x0 x1 x2 x3 x4) (k0_pay46 x0 x1 x2 x3 x4) (k0_pay47 x0 x1 x2 x3 x4) (k0_pay48 x0 x1 x2 x3 x4) (View.ld x2 r0_12)⟩,
    ⟨r0_4, k0_pay26 (k0_pay45 x0 x1 x2 x3 x4) (k0_pay46 x0 x1 x2 x3 x4) (k0_pay47 x0 x1 x2 x3 x4) (k0_pay48 x0 x1 x2 x3 x4) (View.ld x2 r0_12)⟩]

/-- Its stores tile the buffer (checked by evaluation), so they cover it. -/
theorem cover0_7 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_11, p0⟩, ⟨r0_10, p1⟩, ⟨r0_9, p2⟩, ⟨r0_8, p3⟩, ⟨r0_7, p4⟩, ⟨r0_6, p5⟩, ⟨r0_5, p6⟩, ⟨r0_4, p7⟩] : List (View.Piece (Elt F) S512x1024 .bf16)), y ∈ pc.1.set :=
  View.cover_of_tiled [⟨r0_11, p0⟩, ⟨r0_10, p1⟩, ⟨r0_9, p2⟩, ⟨r0_8, p3⟩, ⟨r0_7, p4⟩, ⟨r0_6, p5⟩, ⟨r0_5, p6⟩, ⟨r0_4, p7⟩] S512x128.size (by rfl) y

/-- Window 8's staging buffer after the body, from the input windows' blocks: its 8 stores as pieces, LAST
    FIRST (the payloads are the skeleton's and the values stated above). -/
def out0_8 (x0 : Vec F S512x1024 .f32) (x1 : Vec F S1x1024 .f32) (x2 : Vec F S1024x3072 .bf16) (x3 : Vec F S512x128 .f32) (x4 : Vec F S512x128 .f32) : Vec F S4096x128 .f32 :=
  View.canon [⟨r0_20, k0_pay7 (k0_pay53 x0 x1 x2 x3 x4)⟩,
    ⟨r0_19, k0_pay6 (k0_pay53 x0 x1 x2 x3 x4)⟩,
    ⟨r0_18, k0_pay5 (k0_pay53 x0 x1 x2 x3 x4)⟩,
    ⟨r0_17, k0_pay4 (k0_pay53 x0 x1 x2 x3 x4)⟩,
    ⟨r0_16, k0_pay3 (k0_pay53 x0 x1 x2 x3 x4)⟩,
    ⟨r0_15, k0_pay2 (k0_pay53 x0 x1 x2 x3 x4)⟩,
    ⟨r0_14, k0_pay1 (k0_pay53 x0 x1 x2 x3 x4)⟩,
    ⟨r0_13, k0_pay44 (k0_pay45 x0 x1 x2 x3 x4) (View.ld x2 r0_21)⟩]

/-- Its stores take every eighth row, from eight first rows, so they cover it. -/
theorem cover0_8 (p0 : Vec F S512x128 .f32) (p1 : Vec F S512x128 .f32) (p2 : Vec F S512x128 .f32) (p3 : Vec F S512x128 .f32) (p4 : Vec F S512x128 .f32) (p5 : Vec F S512x128 .f32) (p6 : Vec F S512x128 .f32) (p7 : Vec F S512x128 .f32) (y : S4096x128.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩] : List (View.Piece (Elt F) S4096x128 .f32)), y ∈ pc.1.set :=
  Cert.Kernel6.Rot.rows_cover p0 p1 p2 p3 p4 p5 p6 p7 y

/-- Window 9's staging buffer after the body, from the input windows' blocks: its 1 store as pieces, LAST
    FIRST (the payloads are the skeleton's and the values stated above). -/
def out0_9 (x0 : Vec F S512x1024 .f32) (x1 : Vec F S1x1024 .f32) (x2 : Vec F S1024x3072 .bf16) (x3 : Vec F S512x128 .f32) (x4 : Vec F S512x128 .f32) : Vec F S1024x512 .bf16 :=
  View.canon [⟨r0_22, k0_pay8 (k0_pay53 x0 x1 x2 x3 x4)⟩]

/-- Its stores tile the buffer (checked by evaluation), so they cover it. -/
theorem cover0_9 (p0 : Vec F S1024x512 .bf16) (y : S1024x512.Idx) :
    ∃ pc ∈ ([⟨r0_22, p0⟩] : List (View.Piece (Elt F) S1024x512 .bf16)), y ∈ pc.1.set :=
  View.cover_of_tiled [⟨r0_22, p0⟩] S1024x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1024 .bf16) (harg6 : arg6.IsWhole) (arg7 : Memref sig .tc .vmem S4096x128 .f32) (harg7 : arg7.IsWhole) (arg8 : Memref sig .tc .vmem S512x1024 .bf16) (harg8 : arg8.IsWhole) (arg9 : Memref sig .tc .vmem S4096x128 .f32) (harg9 : arg9.IsWhole) (arg10 : Memref sig .tc .vmem S1024x512 .bf16) (harg10 : arg10.IsWhole)
    (x0 : Vec F S512x1024 .f32) (x1 : Vec F S1x1024 .f32) (x2 : Vec F S1024x3072 .bf16) (x3 : Vec F S512x128 .f32) (x4 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4)) -∗ K ⟨⟩))
      ⊢ wp frame (wpE (defs₀ (F := F)) Variants.none c none) E (cc0_proj_a i arg1 harg1 arg2 harg2 arg3 harg3 arg4 harg4 arg5 harg5 arg6 harg6 arg7 harg7 arg8 harg8 arg9 harg9 arg10 harg10) K := by
  simp only [cc0_proj_a_eq_skeleton]; unfold cc0_proj_a_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _ _ _ _ _)).trans ?_
    rfl
  isplitl [H6]
  · iexists _; isplitr
    swap; · iexact H6
    ipureintro
    refine (View.read_writes_eq_canon _ _ _ (cover0_6 _ _ _ _ _ _ _ _)).trans ?_
    rfl
  isplitl [H7]
  · iexists _; isplitr
    swap; · iexact H7
    ipureintro
    refine (View.read_writes_eq_canon _ _ _ (cover0_7 _ _ _ _ _ _ _ _)).trans ?_
    rfl
  isplitl [H8]
  · iexists _; isplitr
    swap; · iexact H8
    ipureintro
    refine (View.read_writes_eq_canon _ _ _ (cover0_8 _ _ _ _ _ _ _ _)).trans ?_
    rfl
  iexists _; isplitr
  swap; · iexact H9
  ipureintro
  refine (View.read_writes_eq_canon _ _ _ (cover0_9 _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t) (iblk m c 3 t) (iblk m c 4 t)
    | ⟨9, _⟩ => out0_9 (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) (iblk m c 3 t) (iblk m c 4 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim of this program, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel6Ideal.Rot

end
-- ==== Proof.Rope.lean ====
/- The attention layer's projections at one row: three thirds of one product, the first two turned by the row's position.
   Both batches' kernels and references are read at an index as these functions. -/
module
public import proofs.«01_k».proof.Proof.Proj
@[expose] public section
noncomputable section
namespace Cert.Layer
open Idealize.ShloMosaic

/-- The angle of position `p` at frequency `i` of the 32. -/
def angle (p : BitVec 32) (i : ℕ) : EReal :=
  FloatOps.sitofp (F := Ideal) FTy.f32 p * Ideal.div 1 (Ideal.pow (Ideal.ofBits FTy.f32 1176256512#32)
    (Ideal.div (FloatOps.sitofp (F := Ideal) FTy.f32 (BitVec.ofNat 32 i)) (Ideal.ofBits FTy.f32 1107296256#32)))

/-- The row `a` turned by position `p`: in every 64 columns, entry `i` of the first half pairs with entry `i` of the second. -/
def ropeAt (p : BitVec 32) (a : Fin 1024 → EReal) (j : Fin 1024) : EReal :=
  if h : j.val % 64 < 32 then
    a j * Ideal.cos (angle p (j.val % 64)) - a ⟨j.val + 32, by omega⟩ * Ideal.sin (angle p (j.val % 64))
  else a j * Ideal.cos (angle p (j.val % 64 - 32)) + a ⟨j.val - 32, by omega⟩ * Ideal.sin (angle p (j.val % 64 - 32))

/-- The tables the kernel is given, at a column of 128: the cosine, and the sine with the first halves' signs turned. -/
def cosTab (p : BitVec 32) (l : ℕ) : EReal :=
  if l % 64 < 32 then Ideal.cos (angle p (l % 64)) else Ideal.cos (angle p (l % 64 - 32))
def sinTab (p : BitVec 32) (l : ℕ) : EReal :=
  if l % 64 < 32 then -Ideal.sin (angle p (l % 64)) else Ideal.sin (angle p (l % 64 - 32))

/-- The row `a` times the table of cosines, plus each entry's partner times the table of sines. -/
def turnAt (cos sin : Fin 128 → EReal) (a : Fin 1024 → EReal) (j : Fin 1024) : EReal :=
  a j * cos ⟨j.val % 128, by omega⟩
    + (if h : j.val % 64 < 32 then a ⟨j.val + 32, by omega⟩ else a ⟨j.val - 32, by omega⟩) * sin ⟨j.val % 128, by omega⟩

/-- With the tables of one position that is the row turned by the position. -/
theorem turnAt_tables (p : BitVec 32) (a : Fin 1024 → EReal) (j : Fin 1024) :
    turnAt (fun l => cosTab p l) (fun l => sinTab p l) a j = ropeAt p a j := by
  have h64 : j.val % 128 % 64 = j.val % 64 := by omega
  unfold turnAt ropeAt cosTab sinTab
  dsimp only
  rw [h64]
  by_cases h : j.val % 64 < 32
  · simp only [dif_pos h, if_pos h]
    rw [mul_neg, sub_eq_add_neg]
  · simp only [dif_neg h, if_neg h]

/-- The thirds of a matrix's columns. -/
def thirdCols (n : Fin 3) (w : Fin 1024 → Fin 3072 → EReal) (k j : Fin 1024) : EReal := w k ⟨1024 * n.val + j, by omega⟩

end Cert.Layer
end
-- ==== Proof.RefRot6.lean ====
/- The sixth program's reference, the attention layer's projections of the prompt, read at an index. -/
module
public import proofs.«01_k».proof.Proof.Gen.Reference6Ideal.Run
public import proofs.«01_k».proof.Proof.Rope
@[expose] public section
set_option maxRecDepth 16384
noncomputable section
namespace Cert.Reference6Ideal.Value
open Cert.Reference6Ideal Cert.Reference6Ideal.Gen Idealize.ShloMosaic Idealize.ShloMosaic.TcCoe Idealize.SL.Sem Cert.Layer

/-- The norm of every row. -/
def refNorm (h : FVec Ideal S8x2048x1024 .f32) (g : FVec Ideal S2x1024 .f32) : FVec Ideal S8x2048x1024 .f32 :=
  mulf (mulf h (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf h h) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1024 ![0, 0] g slices_S2x1024_S1x1024_0_0) shapeCasts_S1x1024_S1024)))

/-- The product with the shared weight. -/
def refProd (x : FVec Ideal S8x2048x1024 .f32) (g : FVec Ideal S2x1024 .f32) (w : FVec Ideal S1x1024x3072 .f32) : FVec Ideal S8x2048x3072 .f32 :=
  Host.dotGeneral dot_S8x2048x1024_S1024x3072_S8x2048x3072_2_0_01_1_n_n none (refNorm x g) (shapeCast _ w shapeCasts_S1x1024x3072_S1024x3072)

/-- The angles of the positions. -/
def refAngle : FVec Ideal S2048x32 .f32 :=
  mulf (broadcastInDim S2048x32 ![0, 1] bcast_S2048x1_S2048x32_0_1 (broadcastInDim S2048x1 ![0] bcast_S2048_S2048x1_0 (sitofp .f32 (iotaInDim S2048 32 0)))) (broadcastInDim S2048x32 ![0, 1] bcast_S1x32_S2048x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (iotaInDim S32 32 0)) (broadcastInDim S32 ![] bcast_S_S32 (constant S_ .f32 0x42000000#32)))))))
def refTab (t : FVec Ideal S2048x32 .f32) : FVec Ideal S8x2048x8x2x32 .f32 :=
  broadcastInDim S8x2048x8x2x32 ![0, 1, 2, 3, 4] bcast_S1x2048x1x1x32_S8x2048x8x2x32_0_1_2_3_4 (broadcastInDim S1x2048x1x1x32 ![1, 2, 3, 4] bcast_S2048x1x1x32_S1x2048x1x1x32_1_2_3_4 (broadcastInDim S2048x1x1x32 ![0, 3] bcast_S2048x32_S2048x1x1x32_0_3 t))

/-- Every head turned by its row's position. -/
def refRope (z : FVec Ideal S8x2048x8x2x64 .f32) : FVec Ideal S8x2048x8x2x64 .f32 :=
  concatenate S8x2048x8x2x64 4 [
    ⟨S8x2048x8x2x32, subf (mulf (extractStridedSlice S8x2048x8x2x32 ![0, 0, 0, 0, 0] z slices_S8x2048x8x2x64_S8x2048x8x2x32_0_0_0_0_0) (refTab (Host.cos refAngle)))
      (mulf (extractStridedSlice S8x2048x8x2x32 ![0, 0, 0, 0, 32] z slices_S8x2048x8x2x64_S8x2048x8x2x32_0_0_0_0_32) (refTab (Host.sin refAngle)))⟩,
    ⟨S8x2048x8x2x32, addf (mulf (extractStridedSlice S8x2048x8x2x32 ![0, 0, 0, 0, 32] z slices_S8x2048x8x2x64_S8x2048x8x2x32_0_0_0_0_32) (refTab (Host.cos refAngle)))
      (mulf (extractStridedSlice S8x2048x8x2x32 ![0, 0, 0, 0, 0] z slices_S8x2048x8x2x64_S8x2048x8x2x32_0_0_0_0_0) (refTab (Host.sin refAngle)))⟩]
    concatenates_S8x2048x8x2x32_S8x2048x8x2x32_S8x2048x8x2x64_d4

/-- The query and the keys, turned, by heads, and the values. -/
def refQuery (x : FVec Ideal S8x2048x1024 .f32) (g : FVec Ideal S2x1024 .f32) (w : FVec Ideal S1x1024x3072 .f32) : FVec Ideal S8x2048x8x2x64 .f32 :=
  refRope (shapeCast _ (extractStridedSlice S8x2048x1024 ![0, 0, 0] (refProd x g w) slices_S8x2048x3072_S8x2048x1024_0_0_0) shapeCasts_S8x2048x1024_S8x2048x8x2x64)
def refKey (x : FVec Ideal S8x2048x1024 .f32) (g : FVec Ideal S2x1024 .f32) (w : FVec Ideal S1x1024x3072 .f32) : FVec Ideal S8x2048x8x2x64 .f32 :=
  refRope (shapeCast _ (extractStridedSlice S8x2048x1024 ![0, 0, 1024] (refProd x g w) slices_S8x2048x3072_S8x2048x1024_0_0_1024) shapeCasts_S8x2048x1024_S8x2048x8x2x64)
def refVal (x : FVec Ideal S8x2048x1024 .f32) (g : FVec Ideal S2x1024 .f32) (w : FVec Ideal S1x1024x3072 .f32) : FVec Ideal S8x2048x8x128 .f32 :=
  shapeCast _ (extractStridedSlice S8x2048x1024 ![0, 0, 2048] (refProd x g w) slices_S8x2048x3072_S8x2048x1024_0_0_2048) shapeCasts_S8x2048x1024_S8x2048x8x128

/-- The results as functions of the arrays: the query, the keys in the cache's layout and in rows, the values likewise. -/
def out0 (x : FVec Ideal S8x2048x1024 .f32) (g : FVec Ideal S2x1024 .f32) (w : FVec Ideal S1x1024x3072 .f32) : FVec Ideal S16384x1024 .bf16 :=
  truncf .bf16 (shapeCast _ (mulf (refQuery x g w) (broadcastInDim S8x2048x8x2x64 ![] bcast_S_S8x2048x8x2x64 (Host.divf (constant S_ .f32 0x3E000000#32) (Host.log (constant S_ .f32 0x40000000#32))))) shapeCasts_S8x2048x8x2x64_S16384x1024) bitsLt_bf16_f32
def out1 (x : FVec Ideal S8x2048x1024 .f32) (g : FVec Ideal S2x1024 .f32) (w : FVec Ideal S1x1024x3072 .f32) : FVec Ideal S131072x128 .f32 :=
  shapeCast _ (refKey x g w) shapeCasts_S8x2048x8x2x64_S131072x128
def out2 (x : FVec Ideal S8x2048x1024 .f32) (g : FVec Ideal S2x1024 .f32) (w : FVec Ideal S1x1024x3072 .f32) : FVec Ideal S16384x1024 .bf16 :=
  truncf .bf16 (shapeCast _ (refKey x g w) shapeCasts_S8x2048x8x2x64_S16384x1024) bitsLt_bf16_f32
def out3 (x : FVec Ideal S8x2048x1024 .f32) (g : FVec Ideal S2x1024 .f32) (w : FVec Ideal S1x1024x3072 .f32) : FVec Ideal S131072x128 .f32 :=
  shapeCast _ (refVal x g w) shapeCasts_S8x2048x8x128_S131072x128
def out4 (x : FVec Ideal S8x2048x1024 .f32) (g : FVec Ideal S2x1024 .f32) (w : FVec Ideal S1x1024x3072 .f32) : FVec Ideal S1024x16384 .bf16 :=
  truncf .bf16 (transpose S1024x16384 [1, 0] (shapeCast _ (refVal x g w) shapeCasts_S8x2048x8x128_S16384x1024) transposes_S16384x1024_S1024x16384_1_0) bitsLt_bf16_f32

/-- They are what the reference returns. -/
theorem res0 (m : (ℓ : Loc nD τ sig) → Buf (Elt Ideal) ℓ) (c : Dev nD) : res_main_v99 m c
    = out0 (m ((c.tc : Thread nD τ).loc main_arg0)) (m ((c.tc : Thread nD τ).loc main_arg1)) (m ((c.tc : Thread nD τ).loc main_arg2)) := rfl
theorem res1 (m : (ℓ : Loc nD τ sig) → Buf (Elt Ideal) ℓ) (c : Dev nD) : res_main_v92 m c
    = out1 (m ((c.tc : Thread nD τ).loc main_arg0)) (m ((c.tc : Thread nD τ).loc main_arg1)) (m ((c.tc : Thread nD τ).loc main_arg2)) := rfl
theorem res2 (m : (ℓ : Loc nD τ sig) → Buf (Elt Ideal) ℓ) (c : Dev nD) : res_main_v101 m c
    = out2 (m ((c.tc : Thread nD τ).loc main_arg0)) (m ((c.tc : Thread nD τ).loc main_arg1)) (m ((c.tc : Thread nD τ).loc main_arg2)) := rfl

section
variable (x : FVec Ideal S8x2048x1024 .f32) (g : FVec Ideal S2x1024 .f32) (w : FVec Ideal S1x1024x3072 .f32)

theorem refNorm_at (a : Fin 8) (b : Fin 2048) (j : Fin 1024) :
    refNorm x g (ix3 a b j) = rmsAt 1149239296#32 (fun k => x (ix3 a b k)) (fun k => g (ix2 0 k)) j := by
  pointwise [refNorm, rmsAt]
theorem refProd_at (a : Fin 8) (b : Fin 2048) (n : Fin 3) (j : Fin 1024) :
    refProd x g w (ix3 a b ⟨1024 * n.val + j, by omega⟩)
      = projAt (fun k => x (ix3 a b k)) (fun k => g (ix2 0 k)) (thirdCols n fun k j => w (ix3 0 k j)) j := by
  pointwise [refProd]
  simp only [refNorm_at, projAt, thirdCols]
theorem refAngle_at (b : Fin 2048) (i : Fin 32) : refAngle (ix2 b i) = angle (BitVec.ofNat 32 b) i := by
  pointwise [refAngle, angle]
theorem refTab_at (t : FVec Ideal S2048x32 .f32) (a : Fin 8) (b : Fin 2048) (h : Fin 8) (s : Fin 2) (d : Fin 32) :
    refTab t (ix5 a b h s d) = t (ix2 b d) := by
  pointwise [refTab]

/-- A third by heads, turned: the row turned by its position. -/
theorem refRope_at (y : FVec Ideal S8x2048x1024 .f32) (a : Fin 8) (b : Fin 2048) (j : Fin 1024) :
    refRope (shapeCast _ y shapeCasts_S8x2048x1024_S8x2048x8x2x64)
        (ix5 a b ⟨j.val / 128, by omega⟩ ⟨j.val % 128 / 64, by omega⟩ ⟨j.val % 64, by omega⟩)
      = ropeAt (BitVec.ofNat 32 b) (fun j => y (ix3 a b j)) j := by
  pointwise [refRope]
  unfold ropeAt
  by_cases h : j.val % 64 < 32
  · have e : (⟨j.val / 128 * 128 + j.val % 128 / 64 * 64 + (32 + j.val % 64), by omega⟩ : Fin 1024) = ⟨j.val + 32, by omega⟩ :=
      Fin.ext (by show j.val / 128 * 128 + j.val % 128 / 64 * 64 + (32 + j.val % 64) = j.val + 32; omega)
    rw [dif_pos h, dif_pos h, refTab_at, refTab_at, e]
    pointwise
    simp only [refAngle_at]
  · have e : (⟨j.val / 128 * 128 + j.val % 128 / 64 * 64 + (32 + (j.val % 64 - 32)), by omega⟩ : Fin 1024) = j :=
      Fin.ext (by show j.val / 128 * 128 + j.val % 128 / 64 * 64 + (32 + (j.val % 64 - 32)) = j.val; omega)
    have e' : (⟨j.val / 128 * 128 + j.val % 128 / 64 * 64 + (j.val % 64 - 32), by omega⟩ : Fin 1024) = ⟨j.val - 32, by omega⟩ :=
      Fin.ext (by show j.val / 128 * 128 + j.val % 128 / 64 * 64 + (j.val % 64 - 32) = j.val - 32; omega)
    rw [dif_neg h, dif_neg h, refTab_at, refTab_at, e, e']
    pointwise
    simp only [refAngle_at]

/-- The turned third `n` of the product and the third `n` itself, at one entry of one row. -/
def turnedAt (n : Fin 3) (a : Fin 8) (b : Fin 2048) (j : Fin 1024) : EReal :=
  ropeAt (BitVec.ofNat 32 b) (projAt (fun k => x (ix3 a b k)) (fun k => g (ix2 0 k)) (thirdCols n fun k j => w (ix3 0 k j))) j
def plainAt (n : Fin 3) (a : Fin 8) (b : Fin 2048) (j : Fin 1024) : EReal :=
  projAt (fun k => x (ix3 a b k)) (fun k => g (ix2 0 k)) (thirdCols n fun k j => w (ix3 0 k j)) j

theorem refThird_at (n : Fin 3) (y : FVec Ideal S8x2048x1024 .f32)
    (hy : ∀ (a : Fin 8) (b : Fin 2048) (j : Fin 1024), y (ix3 a b j) = refProd x g w (ix3 a b ⟨1024 * n.val + j, by omega⟩))
    (a : Fin 8) (b : Fin 2048) (h : Fin 8) (s : Fin 2) (d : Fin 64) :
    refRope (shapeCast _ y shapeCasts_S8x2048x1024_S8x2048x8x2x64) (ix5 a b h s d)
      = turnedAt x g w n a b ⟨128 * h.val + 64 * s.val + d.val, by omega⟩ := by
  have e := refRope_at y a b ⟨128 * h.val + 64 * s.val + d.val, by omega⟩
  rw [show (⟨(128 * h.val + 64 * s.val + d.val) / 128, by omega⟩ : Fin 8) = h from Fin.ext (by show (128 * h.val + 64 * s.val + d.val) / 128 = h.val; omega),
    show (⟨(128 * h.val + 64 * s.val + d.val) % 128 / 64, by omega⟩ : Fin 2) = s from Fin.ext (by show (128 * h.val + 64 * s.val + d.val) % 128 / 64 = s.val; omega),
    show (⟨(128 * h.val + 64 * s.val + d.val) % 64, by omega⟩ : Fin 64) = d from Fin.ext (by show (128 * h.val + 64 * s.val + d.val) % 64 = d.val; omega)] at e
  refine e.trans ?_
  unfold turnedAt
  congr 1
  funext j
  exact (hy a b j).trans (refProd_at x g w a b n j)
theorem refQuery_at (a : Fin 8) (b : Fin 2048) (h : Fin 8) (s : Fin 2) (d : Fin 64) :
    refQuery x g w (ix5 a b h s d) = turnedAt x g w 0 a b ⟨128 * h.val + 64 * s.val + d.val, by omega⟩ := by
  refine refThird_at x g w 0 _ (fun a b j => ?_) a b h s d
  pointwise
theorem refKey_at (a : Fin 8) (b : Fin 2048) (h : Fin 8) (s : Fin 2) (d : Fin 64) :
    refKey x g w (ix5 a b h s d) = turnedAt x g w 1 a b ⟨128 * h.val + 64 * s.val + d.val, by omega⟩ := by
  refine refThird_at x g w 1 _ (fun a b j => ?_) a b h s d
  pointwise

theorem out0_at (r : Fin 16384) (j : Fin 1024) :
    out0 x g w (ix2 r j) = turnedAt x g w 0 ⟨r.val / 2048, by omega⟩ ⟨r.val % 2048, by omega⟩ j * qScale := by
  rw [← qScale_eq]
  pointwise [out0]
  rw [refQuery_at]
  exact congrArg (· * _) (congrArg (turnedAt x g w 0 _ _) (Fin.ext (by show 128 * (j.val / 128) + 64 * (j.val / 64 % 2) + j.val % 64 = j.val; omega)))
theorem out1_at (r : Fin 131072) (l : Fin 128) :
    out1 x g w (ix2 r l) = turnedAt x g w 1 ⟨r.val / 8 / 2048, by omega⟩ ⟨r.val / 8 % 2048, by omega⟩ ⟨128 * (r.val % 8) + l.val, by omega⟩ := by
  pointwise [out1]
  rw [refKey_at]
  congr 1
  · exact Fin.ext (by show r.val / 16384 = r.val / 8 / 2048; omega)
  · exact Fin.ext (by show 128 * (r.val % 8) + 64 * (l.val / 64) + l.val % 64 = 128 * (r.val % 8) + l.val; omega)
theorem out2_at (r : Fin 16384) (j : Fin 1024) :
    out2 x g w (ix2 r j) = turnedAt x g w 1 ⟨r.val / 2048, by omega⟩ ⟨r.val % 2048, by omega⟩ j := by
  pointwise [out2]
  rw [refKey_at]
  congr 1
  exact Fin.ext (by show 128 * (j.val / 128) + 64 * (j.val / 64 % 2) + j.val % 64 = j.val; omega)
theorem out3_at (r : Fin 131072) (l : Fin 128) :
    out3 x g w (ix2 r l) = plainAt x g w 2 ⟨r.val / 8 / 2048, by omega⟩ ⟨r.val / 8 % 2048, by omega⟩ ⟨128 * (r.val % 8) + l.val, by omega⟩ := by
  pointwise [out3, refVal]
  refine Eq.trans ?_ (refProd_at x g w _ _ 2 _)
  congr 2
  · exact Fin.ext (by show r.val / 16384 = r.val / 8 / 2048; omega)
  · exact Fin.ext (by show 2048 + (r.val % 8 * 128 + l.val) = 1024 * 2 + (128 * (r.val % 8) + l.val); omega)
theorem out4_at (r : Fin 16384) (j : Fin 1024) :
    out4 x g w (ix2 j r) = plainAt x g w 2 ⟨r.val / 2048, by omega⟩ ⟨r.val % 2048, by omega⟩ j := by
  pointwise [out4, refVal]
  exact (congrArg _ (congrArg (ix3 _ _) (Fin.ext (by show 2048 + j.val = 1024 * 2 + j.val; omega)))).trans (refProd_at x g w _ _ 2 j)
end
end Cert.Reference6Ideal.Value
end
-- ==== Proof.Turn6.lean ====
/- The bodies of the attention layer's projections: what each output's buffer holds, in the blocks. -/
module
public import proofs.«01_k».proof.Proof.Rot6Ideal
public import proofs.«01_k».proof.Proof.RefRot6
public import Idealize.ShloMosaic.Lib.Pipeline.ValueKit
@[expose] public section
set_option maxRecDepth 16384
noncomputable section
namespace Cert.Kernel6Ideal.Rot
open Cert.Kernel6Ideal Cert.Kernel6Ideal.Gen Idealize.ShloMosaic Idealize.ShloMosaic.TcCoe Idealize.SL.Sem Cert.Layer
open Idealize.ShloMosaic.Pipeline (Dat)

/-- The named scale's value. -/
theorem named_scale : Named.named (F := Ideal) κ "qscale" (φ := .f32) 0x3E38AA3B#32 = qScale :=
  IdealRules.named_const.ideal_named_scalar _ _ _ _ rfl

/-- The mask of the first halves. -/
theorem mask_at (r : Fin 512) (l : Fin 128) : k0_pay12 (ix2 r l) = if l.val % 64 < 32 then 1#1 else 0#1 := by
  pointwise [k0_pay12]
  revert l; decide

/-- One head of a product, turned by the tables, as the body computes it. -/
theorem slices (c : Fin 8) : S512x1024.Slices ![0, 128 * c.val] S512x128 := by
  fin_cases c <;> decide
def headRot (c : Fin 8) (cos sin : FVec Ideal S512x128 .f32) (p : FVec Ideal S512x1024 .f32) : FVec Ideal S512x128 .f32 :=
  addf (mulf (extractStridedSlice S512x128 ![0, 128 * c.val] p (slices c)) cos)
    (mulf (select k0_pay12 (dynamicRotate 1 96#32 none (extractStridedSlice S512x128 ![0, 128 * c.val] p (slices c)) rotates_S512x128_d1)
      (dynamicRotate 1 32#32 none (extractStridedSlice S512x128 ![0, 128 * c.val] p (slices c)) rotates_S512x128_d1)) sin)

theorem headRot_at (c : Fin 8) (cos sin : FVec Ideal S512x128 .f32) (p : FVec Ideal S512x1024 .f32) (i : Fin 512) (l : Fin 128) :
    headRot c cos sin p (ix2 i l)
      = turnAt (fun l => cos (ix2 i l)) (fun l => sin (ix2 i l)) (fun j => p (ix2 i j)) ⟨128 * c.val + l, by omega⟩ := by
  pointwise [headRot]
  rw [mask_at]
  unfold turnAt
  dsimp only
  have hl := l.isLt
  have hm : (⟨(128 * c.val + l.val) % 128, by omega⟩ : Fin 128) = l := Fin.ext (by show (128 * c.val + l.val) % 128 = l.val; omega)
  rw [hm]
  by_cases h : l.val % 64 < 32
  · rw [if_pos h, dif_pos (by omega)]
    congr 3
    exact congrArg p (congrArg (ix2 i) (Fin.ext (by show 128 * c.val + (l.val + 128 - 96) % 128 = 128 * c.val + l.val + 32; omega)))
  · rw [if_neg h, dif_neg (by omega)]
    congr 3
    exact congrArg p (congrArg (ix2 i) (Fin.ext (by show 128 * c.val + (l.val + 128 - 32) % 128 = 128 * c.val + l.val - 32; omega)))

/-- The three products of the normed rows. -/
theorem proj0 (x0 : Vec Ideal S512x1024 .f32) (x1 : Vec Ideal S1x1024 .f32) (x2 : Vec Ideal S1024x3072 .bf16) (x3 x4 : Vec Ideal S512x128 .f32)
    (i : Fin 512) (j : Fin 1024) : k0_pay49 x0 x1 x2 x3 x4 (ix2 i j)
      = projAt (fun k => x0 (ix2 i k)) (fun k => x1 (ix2 0 k)) (thirdCols 0 fun k j => x2 (ix2 k j)) j := by
  pointwise [k0_pay49, k0_pay13, k0_pay45, k0_pay9, projAt, rmsAt, thirdCols]

/-- A row of a product turned by the row's tables, at an index. -/
def turned (cos sin : FVec Ideal S512x128 .f32) (p : FVec Ideal S512x1024 .f32) (i : Fin 512) (j : Fin 1024) : EReal :=
  turnAt (fun l => cos (ix2 i l)) (fun l => sin (ix2 i l)) (fun j => p (ix2 i j)) j

/-- Each head of the query, scaled. -/
theorem query_piece (c : Fin 8) (cos sin : FVec Ideal S512x128 .f32) (p : FVec Ideal S512x1024 .f32) (x : S512x128.Idx) (y : S512x1024.Idx)
    (h0 : (y 0).val = (x 0).val) (h1 : (y 1).val = 128 * c.val + (x 1).val) :
    truncf .bf16 (mulf (headRot c cos sin p) (broadcast S512x128 (Named.named (F := Ideal) κ "qscale" (φ := .f32) 0x3E38AA3B#32))) bitsLt_bf16_f32 x
      = turned cos sin p (y 0) (y 1) * qScale := by
  obtain ⟨i, l, rfl⟩ : ∃ (i : Fin 512) (l : Fin 128), x = ix2 i l := ⟨x 0, x 1, by funext a; fin_cases a <;> rfl⟩
  rw [show y 0 = i from Fin.ext h0, show y 1 = (⟨128 * c.val + l, by omega⟩ : Fin 1024) from Fin.ext h1, turned, ← headRot_at, ← named_scale]
  rfl

/-- Each head of the keys, in the layout of the cache: the head's rows lie eight apart. -/
theorem key_piece (c : Fin 8) (cos sin : FVec Ideal S512x128 .f32) (p : FVec Ideal S512x1024 .f32) (x : S512x128.Idx) (i : Fin 512) (j : Fin 1024)
    (h0 : i.val = (x 0).val) (h1 : j.val = 128 * c.val + (x 1).val) :
    headRot c cos sin p x = turned cos sin p i j := by
  obtain ⟨i, l, rfl⟩ : ∃ (i : Fin 512) (l : Fin 128), x = ix2 i l := ⟨x 0, x 1, by funext a; fin_cases a <;> rfl⟩
  obtain rfl := Fin.ext h0
  rw [show j = (⟨128 * c.val + l, by have := l.isLt; omega⟩ : Fin 1024) from Fin.ext h1]
  exact headRot_at c cos sin p _ l

section
variable (x0 : Vec Ideal S512x1024 .f32) (x1 : Vec Ideal S1x1024 .f32) (x2 : Vec Ideal S1024x3072 .bf16) (x3 x4 : Vec Ideal S512x128 .f32)

theorem cos_whole : k0_pay46 x0 x1 x2 x3 x4 = x3 := by
  funext y; obtain ⟨i, l, rfl⟩ : ∃ (i : Fin 512) (l : Fin 128), y = ix2 i l := ⟨y 0, y 1, by funext a; fin_cases a <;> rfl⟩
  pointwise [k0_pay46, k0_pay10]
theorem sin_whole : k0_pay47 x0 x1 x2 x3 x4 = x4 := by
  funext y; obtain ⟨i, l, rfl⟩ : ∃ (i : Fin 512) (l : Fin 128), y = ix2 i l := ⟨y 0, y 1, by funext a; fin_cases a <;> rfl⟩
  pointwise [k0_pay47, k0_pay11]

theorem out5_at (y : S512x1024.Idx) : out0_5 x0 x1 x2 x3 x4 y = turned x3 x4 (k0_pay49 x0 x1 x2 x3 x4) (y 0) (y 1) * qScale := by
  unfold out0_5
  rw [cos_whole, sin_whole]
  refine View.canon_apply_of_pieces (Val := Elt Ideal) (e := .bf16) (fun y : S512x1024.Idx => (turned x3 x4 (k0_pay49 x0 x1 x2 x3 x4) (y 0) (y 1) * qScale : EReal)) _ ?_ y ?_
  rotate_left
  · exact cover0_5 (F := Ideal) _ _ _ _ _ _ _ _ y
  simp only [List.forall_mem_cons]
  have f := fun (c : Fin 8) (o : ℕ) (ho : o = 128 * c.val) (x : S512x128.Idx) (y : S512x1024.Idx) (h : (y 0).val = 0 + 1 * (x 0).val) (hl : (y 1).val = o + 1 * (x 1).val) =>
    query_piece c x3 x4 (k0_pay49 x0 x1 x2 x3 x4) x y (by omega) (by omega)
  exact ⟨fun x => f 7 896 rfl x _ rfl rfl, fun x => f 6 768 rfl x _ rfl rfl,
    fun x => f 5 640 rfl x _ rfl rfl, fun x => f 4 512 rfl x _ rfl rfl,
    fun x => f 3 384 rfl x _ rfl rfl, fun x => f 2 256 rfl x _ rfl rfl,
    fun x => f 1 128 rfl x _ rfl rfl, fun x => f 0 0 rfl x _ rfl rfl, fun _ h => nomatch h⟩
theorem out7_at (y : S512x1024.Idx) : out0_7 x0 x1 x2 x3 x4 y = turned x3 x4 (k0_pay50 x0 x1 x2 x3 x4) (y 0) (y 1) := by
  unfold out0_7
  rw [cos_whole, sin_whole]
  refine View.canon_apply_of_pieces (Val := Elt Ideal) (e := .bf16) (fun y : S512x1024.Idx => (turned x3 x4 (k0_pay50 x0 x1 x2 x3 x4) (y 0) (y 1) : EReal)) _ ?_ y ?_
  rotate_left
  · exact cover0_7 (F := Ideal) _ _ _ _ _ _ _ _ y
  simp only [List.forall_mem_cons]
  have f := fun (c : Fin 8) (o : ℕ) (ho : o = 128 * c.val) (x : S512x128.Idx) (y : S512x1024.Idx) (h : (y 0).val = 0 + 1 * (x 0).val) (hl : (y 1).val = o + 1 * (x 1).val) =>
    key_piece c x3 x4 (k0_pay50 x0 x1 x2 x3 x4) x (y 0) (y 1) (by omega) (by omega)
  exact ⟨fun x => f 7 896 rfl x _ rfl rfl, fun x => f 6 768 rfl x _ rfl rfl,
    fun x => f 5 640 rfl x _ rfl rfl, fun x => f 4 512 rfl x _ rfl rfl,
    fun x => f 3 384 rfl x _ rfl rfl, fun x => f 2 256 rfl x _ rfl rfl,
    fun x => f 1 128 rfl x _ rfl rfl, fun x => f 0 0 rfl x _ rfl rfl, fun _ h => nomatch h⟩

theorem out5_ix (i : Fin 512) (j : Fin 1024) : out0_5 x0 x1 x2 x3 x4 (ix2 i j) = turned x3 x4 (k0_pay49 x0 x1 x2 x3 x4) i j * qScale :=
  out5_at x0 x1 x2 x3 x4 (ix2 i j)
theorem out7_ix (i : Fin 512) (j : Fin 1024) : out0_7 x0 x1 x2 x3 x4 (ix2 i j) = turned x3 x4 (k0_pay50 x0 x1 x2 x3 x4) i j :=
  out7_at x0 x1 x2 x3 x4 (ix2 i j)

/-- Where an entry of the cache's layout lies in the product: row `r` is head `r % 8` of row `r / 8`. -/
def natRow (y : S4096x128.Idx) : Fin 512 := ⟨(y 0).val / 8, by have : (y 0).val < 4096 := (y 0).isLt; omega⟩
def natCol (y : S4096x128.Idx) : Fin 1024 := ⟨128 * ((y 0).val % 8) + (y 1).val, by have : (y 1).val < 128 := (y 1).isLt; omega⟩
theorem natRow_of (y : S4096x128.Idx) (c n : ℕ) (hc : c < 8) (h : (y 0).val = c + 8 * n) : (natRow y).val = n := by
  show (y 0).val / 8 = n
  omega
theorem natCol_of (y : S4096x128.Idx) (c n l : ℕ) (hc : c < 8) (h : (y 0).val = c + 8 * n) (hl : (y 1).val = 0 + 1 * l) :
    (natCol y).val = 128 * c + l := by
  show 128 * ((y 0).val % 8) + (y 1).val = _
  rw [hl, h]
  omega

theorem out6_at (y : S4096x128.Idx) : out0_6 x0 x1 x2 x3 x4 y = turned x3 x4 (k0_pay50 x0 x1 x2 x3 x4) (natRow y) (natCol y) := by
  unfold out0_6
  rw [cos_whole, sin_whole]
  refine View.canon_apply_of_pieces (Val := Elt Ideal) (e := .f32) (fun y => (turned x3 x4 (k0_pay50 x0 x1 x2 x3 x4) (natRow y) (natCol y) : EReal)) _ ?_ y
    (cover0_6 _ _ _ _ _ _ _ _ y)
  simp only [List.forall_mem_cons]
  have f := fun (c : Fin 8) (x : S512x128.Idx) (y : S4096x128.Idx) (h : (y 0).val = c.val + 8 * (x 0).val) (hl : (y 1).val = 0 + 1 * (x 1).val) =>
    key_piece c x3 x4 (k0_pay50 x0 x1 x2 x3 x4) x (natRow y) (natCol y) (natRow_of y c _ c.isLt h) (natCol_of y c _ _ c.isLt h hl)
  exact ⟨fun x => f 7 x _ rfl rfl, fun x => f 6 x _ rfl rfl, fun x => f 5 x _ rfl rfl, fun x => f 4 x _ rfl rfl,
    fun x => f 3 x _ rfl rfl, fun x => f 2 x _ rfl rfl, fun x => f 1 x _ rfl rfl, fun x => f 0 x _ rfl rfl, fun _ h => nomatch h⟩

/-- Each head of the values, in the layout of the cache. -/
theorem val_piece (c : Fin 8) (p : FVec Ideal S512x1024 .f32) (x : S512x128.Idx) (i : Fin 512) (j : Fin 1024)
    (h0 : i.val = (x 0).val) (h1 : j.val = 128 * c.val + (x 1).val) :
    extractStridedSlice S512x128 ![0, 128 * c.val] p (slices c) x = p (ix2 i j) := by
  obtain ⟨i, l, rfl⟩ : ∃ (i : Fin 512) (l : Fin 128), x = ix2 i l := ⟨x 0, x 1, by funext a; fin_cases a <;> rfl⟩
  obtain rfl := Fin.ext h0
  rw [show j = (⟨128 * c.val + l, by have := l.isLt; omega⟩ : Fin 1024) from Fin.ext h1]
  pointwise

theorem out8_at (y : S4096x128.Idx) : out0_8 x0 x1 x2 x3 x4 y = k0_pay53 x0 x1 x2 x3 x4 (ix2 (natRow y) (natCol y)) := by
  unfold out0_8
  refine View.canon_apply_of_pieces (Val := Elt Ideal) (e := .f32) (fun y => k0_pay53 x0 x1 x2 x3 x4 (ix2 (natRow y) (natCol y))) _ ?_ y
    (cover0_8 _ _ _ _ _ _ _ _ y)
  simp only [List.forall_mem_cons]
  have f := fun (c : Fin 8) (x : S512x128.Idx) (y : S4096x128.Idx) (h : (y 0).val = c.val + 8 * (x 0).val) (hl : (y 1).val = 0 + 1 * (x 1).val) =>
    val_piece c (k0_pay53 x0 x1 x2 x3 x4) x (natRow y) (natCol y) (natRow_of y c _ c.isLt h) (natCol_of y c _ _ c.isLt h hl)
  exact ⟨fun x => f 7 x _ rfl rfl, fun x => f 6 x _ rfl rfl, fun x => f 5 x _ rfl rfl, fun x => f 4 x _ rfl rfl,
    fun x => f 3 x _ rfl rfl, fun x => f 2 x _ rfl rfl, fun x => f 1 x _ rfl rfl, fun x => f 0 x _ rfl rfl, fun _ h => nomatch h⟩

/-- The values, transposed. -/
theorem out9_at (j : Fin 1024) (i : Fin 512) : out0_9 x0 x1 x2 x3 x4 (ix2 j i) = k0_pay53 x0 x1 x2 x3 x4 (ix2 i j) := by
  unfold out0_9
  refine (View.canon_apply_of_pieces (Val := Elt Ideal) (e := .bf16) (fun y => k0_pay8 (k0_pay53 x0 x1 x2 x3 x4) y) _ ?_ _ (cover0_9 _ _)).trans ?_
  · simp only [List.forall_mem_cons]
    exact ⟨fun x => congrArg _ (by funext a; fin_cases a <;> exact Fin.ext (by show _ = 0 + 1 * _; omega)), fun _ h => nomatch h⟩
  · pointwise [k0_pay8]
theorem proj1 (i : Fin 512) (j : Fin 1024) : k0_pay50 x0 x1 x2 x3 x4 (ix2 i j)
      = projAt (fun k => x0 (ix2 i k)) (fun k => x1 (ix2 0 k)) (thirdCols 1 fun k j => x2 (ix2 k j)) j := by
  pointwise [k0_pay50, k0_pay24, k0_pay45, k0_pay9, projAt, rmsAt, thirdCols]
theorem proj2 (i : Fin 512) (j : Fin 1024) : k0_pay53 x0 x1 x2 x3 x4 (ix2 i j)
      = projAt (fun k => x0 (ix2 i k)) (fun k => x1 (ix2 0 k)) (thirdCols 2 fun k j => x2 (ix2 k j)) j := by
  pointwise [k0_pay53, k0_pay43, k0_pay45, k0_pay9, projAt, rmsAt, thirdCols]
end

section
variable (m : (ℓ : Loc nD τ sig) → Buf (Elt Ideal) ℓ) (ρ : Dev nD → PrngReg)

/-- After the frame run, output window 5's array is `(dats m 0 c).arrAt 5 N`. -/
theorem post5 (r : PUnit × MemSt nD τ sig (Elt Ideal)) (h : Pipeline.FramePost cfgs (dats m) 0 (V m) r) (c : Dev nD) :
    r.2.mem ((c : Thread nD τ).loc main_v31_0) = (dats m 0 c).arrAt 5 cfg0.N :=
  (h c).1 5

/-- After the frame run, output window 6's array is `(dats m 0 c).arrAt 6 N`. -/
theorem post6 (r : PUnit × MemSt nD τ sig (Elt Ideal)) (h : Pipeline.FramePost cfgs (dats m) 0 (V m) r) (c : Dev nD) :
    r.2.mem ((c : Thread nD τ).loc main_v31_1) = (dats m 0 c).arrAt 6 cfg0.N :=
  (h c).1 6

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v31_2) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v31_3) = (dats m 0 c).arrAt 8 cfg0.N :=
  (h c).1 8

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v31_4) = (dats m 0 c).arrAt 9 cfg0.N :=
  (h c).1 9

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v31_0) = (dats m 0 c).arrAt 5 cfg0.N
      ∧ r.2.mem ((c : Thread nD τ).loc main_v31_1) = (dats m 0 c).arrAt 6 cfg0.N
      ∧ r.2.mem ((c : Thread nD τ).loc main_v31_2) = (dats m 0 c).arrAt 7 cfg0.N
      ∧ r.2.mem ((c : Thread nD τ).loc main_v31_3) = (dats m 0 c).arrAt 8 cfg0.N
      ∧ r.2.mem ((c : Thread nD τ).loc main_v31_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post5 m r h c,
      post6 m r h c,
      post7 m r h c,
      post8 m r h c,
      post9 m r h c,
      kept_main_arg0 m r h c,
      kept_main_arg1 m r h c,
      kept_main_arg2 m r h c⟩)
    (run_main m ρ)

/-- The host-prepared operands at an index, in the arguments. -/
theorem V_x (c : Dev nD) (r : Fin 16384) (j : Fin 1024) :
    V m c main_v30 (ix2 r j) = m ((c.tc : Thread nD τ).loc main_arg0) (ix3 ⟨r / 2048, by omega⟩ ⟨r % 2048, by omega⟩ j) := by
  entry_read; pointwise; try rfl
theorem V_g (c : Dev nD) (j : Fin 1024) :
    V m c main_v4 (ix2 0 j) = m ((c.tc : Thread nD τ).loc main_arg1) (ix2 0 j) := by
  entry_read; pointwise; try rfl
theorem V_w (c : Dev nD) (k : Fin 1024) (j : Fin 3072) :
    V m c main_v1 (ix2 k j) = m ((c.tc : Thread nD τ).loc main_arg2) (ix3 0 k j) := by
  entry_read; pointwise; try rfl
theorem V_cos (c : Dev nD) (p : Fin 2048) (l : Fin 128) :
    (V m c main_v24 (ix2 p l) : EReal) = cosTab (BitVec.ofNat 32 p) l := by
  entry_read; pointwise; rfl
theorem V_sin (c : Dev nD) (p : Fin 2048) (l : Fin 128) :
    (V m c main_v29 (ix2 p l) : EReal) = sinTab (BitVec.ofNat 32 p) l := by
  entry_read; pointwise; rfl

/-- Where the windows lie at each grid step. -/
theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val, 0] ∧ win0_6.index t = ![t.val, 0]
    ∧ win0_7.index t = ![t.val, 0] ∧ win0_8.index t = ![t.val, 0] ∧ win0_9.index t = ![0, t.val] :=
  (by decide +kernel : ∀ t : Fin grid0.N, _)

theorem lt_N (t : Fin cfg0.N) : t.val < 32 := t.isLt.trans_eq N_0

/-- The blocks of the operands at an index, in the arguments. -/
theorem blk_x (c : Dev nD) (t : Fin cfg0.N) (i : Fin 512) (j : Fin 1024) :
    iblk m c 0 t (ix2 i j) = m ((c.tc : Thread nD τ).loc main_arg0)
      (ix3 ⟨(t.val * 512 + i) / 2048, by have := lt_N t; omega⟩ ⟨(t.val * 512 + i) % 2048, by omega⟩ j) := by
  refine Eq.trans ?_ (V_x m c ⟨t.val * 512 + i, by have := lt_N t; omega⟩ j)
  blk_simp [iblk]
  blk_point [idx t]
theorem blk_g (c : Dev nD) (t : Fin cfg0.N) (j : Fin 1024) :
    iblk m c 1 t (ix2 0 j) = m ((c.tc : Thread nD τ).loc main_arg1) (ix2 0 j) := by
  refine Eq.trans ?_ (V_g m c j)
  blk_simp [iblk]
  blk_point [idx t]
theorem blk_w (c : Dev nD) (t : Fin cfg0.N) (k : Fin 1024) (j : Fin 3072) :
    iblk m c 2 t (ix2 k j) = m ((c.tc : Thread nD τ).loc main_arg2) (ix3 0 k j) := by
  refine Eq.trans ?_ (V_w m c k j)
  blk_simp [iblk]
  blk_point [idx t]
theorem blk_cos (c : Dev nD) (t : Fin cfg0.N) (i : Fin 512) (l : Fin 128) :
    (iblk m c 3 t (ix2 i l) : EReal) = cosTab (BitVec.ofNat 32 ((t.val * 512 + i) % 2048)) l := by
  refine Eq.trans ?_ (V_cos m c ⟨(t.val * 512 + i) % 2048, by omega⟩ l)
  blk_simp [iblk]
  blk_point [idx t]
theorem blk_sin (c : Dev nD) (t : Fin cfg0.N) (i : Fin 512) (l : Fin 128) :
    (iblk m c 4 t (ix2 i l) : EReal) = sinTab (BitVec.ofNat 32 ((t.val * 512 + i) % 2048)) l := by
  refine Eq.trans ?_ (V_sin m c ⟨(t.val * 512 + i) % 2048, by omega⟩ l)
  blk_simp [iblk]
  blk_point [idx t]

open Cert.Reference6Ideal.Value

/-- The rows of the blocks, read at one row of the prompt. -/
theorem turned_blk (c : Dev nD) (t : Fin cfg0.N) (n : Fin 3) (p : FVec Ideal S512x1024 .f32)
    (hp : ∀ (i : Fin 512) (j : Fin 1024), p (ix2 i j)
      = projAt (fun k => iblk m c 0 t (ix2 i k)) (fun k => iblk m c 1 t (ix2 0 k)) (thirdCols n fun k j => iblk m c 2 t (ix2 k j)) j)
    (i : Fin 512) (j : Fin 1024) :
    turned (iblk m c 3 t) (iblk m c 4 t) p i j
      = turnedAt (m ((c.tc : Thread nD τ).loc main_arg0)) (m ((c.tc : Thread nD τ).loc main_arg1)) (m ((c.tc : Thread nD τ).loc main_arg2)) n
          ⟨(t.val * 512 + i) / 2048, by have := lt_N t; omega⟩ ⟨(t.val * 512 + i) % 2048, by omega⟩ j := by
  refine Eq.trans ?_ (turnAt_tables _ _ j)
  unfold turned
  congr 1
  · funext l; exact blk_cos m c t i l
  · funext l; exact blk_sin m c t i l
  · funext j; rw [hp]; simp only [blk_x, blk_g, blk_w]
theorem plain_blk (c : Dev nD) (t : Fin cfg0.N) (i : Fin 512) (j : Fin 1024) :
    k0_pay53 (iblk m c 0 t) (iblk m c 1 t) (iblk m c 2 t) (iblk m c 3 t) (iblk m c 4 t) (ix2 i j)
      = plainAt (m ((c.tc : Thread nD τ).loc main_arg0)) (m ((c.tc : Thread nD τ).loc main_arg1)) (m ((c.tc : Thread nD τ).loc main_arg2)) 2
          ⟨(t.val * 512 + i) / 2048, by have := lt_N t; omega⟩ ⟨(t.val * 512 + i) % 2048, by omega⟩ j := by
  rw [proj2, plainAt]
  simp only [blk_x, blk_g, blk_w]

/-- The program's query is the reference's. -/
theorem final5 (c : Dev nD) :
    (dats m 0 c).arrAt 5 cfg0.N = out0 (m ((c.tc : Thread nD τ).loc main_arg0)) (m ((c.tc : Thread nD τ).loc main_arg1))
      (m ((c.tc : Thread nD τ).loc main_arg2)) := by
  refine (dats m 0 c).arrAt_eq_of_covers 5 _ (by decide +kernel) fun t _ y => ?_
  have hout : ∀ (i : Fin 512) (j : Fin 1024), ((View.whole main_v31_0).slice (win0_5.rect t)).emb (ix2 i j)
      = ix2 ⟨t.val * 512 + i, by have := lt_N t; omega⟩ j := by
    intro i j
    blk_ext [idx t]
  blk_simp
  rw [after0_5]
  obtain ⟨i, j, rfl⟩ : ∃ (i : Fin 512) (j : Fin 1024), y = ix2 i j := ⟨y 0, y 1, by funext a; fin_cases a <;> rfl⟩
  refine (out5_ix (iblk m c 0 t) (iblk m c 1 t) (iblk m c 2 t) (iblk m c 3 t) (iblk m c 4 t) i j).trans ?_
  rw [turned_blk m c t 0 _ (proj0 _ _ _ _ _) i j]
  rw [hout, out0_at]

/-- The program's keys in the cache's layout are the reference's. -/
theorem final6 (c : Dev nD) :
    (dats m 0 c).arrAt 6 cfg0.N = out1 (m ((c.tc : Thread nD τ).loc main_arg0)) (m ((c.tc : Thread nD τ).loc main_arg1))
      (m ((c.tc : Thread nD τ).loc main_arg2)) := by
  refine (dats m 0 c).arrAt_eq_of_covers 6 _ (by decide +kernel) fun t _ y => ?_
  have hout : ∀ (i : Fin 4096) (j : Fin 128), ((View.whole main_v31_1).slice (win0_6.rect t)).emb (ix2 i j)
      = ix2 ⟨t.val * 4096 + i, by have := lt_N t; omega⟩ j := by
    intro i j
    blk_ext [idx t]
  blk_simp
  rw [after0_6]
  obtain ⟨i, j, rfl⟩ : ∃ (i : Fin 4096) (j : Fin 128), y = ix2 i j := ⟨y 0, y 1, by funext a; fin_cases a <;> rfl⟩
  refine ((out6_at _ _ _ _ _ _).trans (turned_blk m c t 1 _ (proj1 _ _ _ _ _) _ _)).trans ?_
  rw [hout, out1_at]
  congr 1
  · exact Fin.ext (by show (t.val * 512 + i.val / 8) / 2048 = (t.val * 4096 + i.val) / 8 / 2048; omega)
  · exact Fin.ext (by show (t.val * 512 + i.val / 8) % 2048 = (t.val * 4096 + i.val) / 8 % 2048; omega)
  · exact Fin.ext (by show 128 * (i.val % 8) + j.val = 128 * ((t.val * 4096 + i.val) % 8) + j.val; omega)

/-- The program's keys in rows are the reference's. -/
theorem final7 (c : Dev nD) :
    (dats m 0 c).arrAt 7 cfg0.N = out2 (m ((c.tc : Thread nD τ).loc main_arg0)) (m ((c.tc : Thread nD τ).loc main_arg1))
      (m ((c.tc : Thread nD τ).loc main_arg2)) := by
  refine (dats m 0 c).arrAt_eq_of_covers 7 _ (by decide +kernel) fun t _ y => ?_
  have hout : ∀ (i : Fin 512) (j : Fin 1024), ((View.whole main_v31_2).slice (win0_7.rect t)).emb (ix2 i j)
      = ix2 ⟨t.val * 512 + i, by have := lt_N t; omega⟩ j := by
    intro i j
    blk_ext [idx t]
  blk_simp
  rw [after0_7]
  obtain ⟨i, j, rfl⟩ : ∃ (i : Fin 512) (j : Fin 1024), y = ix2 i j := ⟨y 0, y 1, by funext a; fin_cases a <;> rfl⟩
  refine (out7_ix (iblk m c 0 t) (iblk m c 1 t) (iblk m c 2 t) (iblk m c 3 t) (iblk m c 4 t) i j).trans ?_
  rw [turned_blk m c t 1 _ (proj1 _ _ _ _ _) i j]
  rw [hout, out2_at]

/-- The program's values in the cache's layout are the reference's. -/
theorem final8 (c : Dev nD) :
    (dats m 0 c).arrAt 8 cfg0.N = out3 (m ((c.tc : Thread nD τ).loc main_arg0)) (m ((c.tc : Thread nD τ).loc main_arg1))
      (m ((c.tc : Thread nD τ).loc main_arg2)) := by
  refine (dats m 0 c).arrAt_eq_of_covers 8 _ (by decide +kernel) fun t _ y => ?_
  have hout : ∀ (i : Fin 4096) (j : Fin 128), ((View.whole main_v31_3).slice (win0_8.rect t)).emb (ix2 i j)
      = ix2 ⟨t.val * 4096 + i, by have := lt_N t; omega⟩ j := by
    intro i j
    blk_ext [idx t]
  blk_simp
  rw [after0_8]
  obtain ⟨i, j, rfl⟩ : ∃ (i : Fin 4096) (j : Fin 128), y = ix2 i j := ⟨y 0, y 1, by funext a; fin_cases a <;> rfl⟩
  refine ((out8_at _ _ _ _ _ _).trans (plain_blk m c t _ _)).trans ?_
  rw [hout, out3_at]
  congr 1
  · exact Fin.ext (by show (t.val * 512 + i.val / 8) / 2048 = (t.val * 4096 + i.val) / 8 / 2048; omega)
  · exact Fin.ext (by show (t.val * 512 + i.val / 8) % 2048 = (t.val * 4096 + i.val) / 8 % 2048; omega)
  · exact Fin.ext (by show 128 * (i.val % 8) + j.val = 128 * ((t.val * 4096 + i.val) % 8) + j.val; omega)

/-- The program's transposed values are the reference's. -/
theorem final9 (c : Dev nD) :
    (dats m 0 c).arrAt 9 cfg0.N = out4 (m ((c.tc : Thread nD τ).loc main_arg0)) (m ((c.tc : Thread nD τ).loc main_arg1))
      (m ((c.tc : Thread nD τ).loc main_arg2)) := by
  refine (dats m 0 c).arrAt_eq_of_covers 9 _ (by decide +kernel) fun t _ y => ?_
  have hout : ∀ (j : Fin 1024) (i : Fin 512), ((View.whole main_v31_4).slice (win0_9.rect t)).emb (ix2 j i)
      = ix2 j ⟨t.val * 512 + i, by have := lt_N t; omega⟩ := by
    intro j i
    blk_ext [idx t]
  blk_simp
  rw [after0_9]
  obtain ⟨j, i, rfl⟩ : ∃ (j : Fin 1024) (i : Fin 512), y = ix2 j i := ⟨y 0, y 1, by funext a; fin_cases a <;> rfl⟩
  refine ((out9_at _ _ _ _ _ _ _).trans (plain_blk m c t i j)).trans ?_
  rw [hout, out4_at]
end
end Cert.Kernel6Ideal.Rot
-- ==== Proof.Rot7Ideal.lean ====
/- The frame of the attention layer's projection call on the sample batch (Kernel7Ideal.lean): what the body's loads read, what its
   stores leave in each output's buffer, the run of the whole call and the frame claim. Two of its outputs, the
   projections in the layout of the cache, are stored eight rows apart, one head at a time: `rows_cover` (Rot6.lean) says that the
   eight stores together leave no entry unwritten. -/
module

public import proofs.«01_k».proof.Proof.Gen.Kernel7Ideal.Launch
public import proofs.«01_k».proof.Proof.Gen.Kernel7Ideal.Skeleton
public import proofs.«01_k».proof.Proof.Gen.Kernel7Ideal.Points
public import proofs.«01_k».proof.Proof.Rot6
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel7Ideal.Rot

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel7Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S512x128 := Rect.unit (s := S512x128) ![0, 0] S512x128.size inb_S512x128_S512x128_0_0
abbrev r0_3 : Rect S1024x3072 := Rect.unit (s := S1024x3072) ![0, 0] S1024x1024.size inb_S1024x3072_S1024x1024_0_0
abbrev r0_4 : Rect S512x1024 := Rect.unit (s := S512x1024) ![0, 0] S512x128.size inb_S512x1024_S512x128_0_0
abbrev r0_5 : Rect S512x1024 := Rect.unit (s := S512x1024) ![0, 128] S512x128.size inb_S512x1024_S512x128_0_128
abbrev r0_6 : Rect S512x1024 := Rect.unit (s := S512x1024) ![0, 256] S512x128.size inb_S512x1024_S512x128_0_256
abbrev r0_7 : Rect S512x1024 := Rect.unit (s := S512x1024) ![0, 384] S512x128.size inb_S512x1024_S512x128_0_384
abbrev r0_8 : Rect S512x1024 := Rect.unit (s := S512x1024) ![0, 512] S512x128.size inb_S512x1024_S512x128_0_512
abbrev r0_9 : Rect S512x1024 := Rect.unit (s := S512x1024) ![0, 640] S512x128.size inb_S512x1024_S512x128_0_640
abbrev r0_10 : Rect S512x1024 := Rect.unit (s := S512x1024) ![0, 768] S512x128.size inb_S512x1024_S512x128_0_768
abbrev r0_11 : Rect S512x1024 := Rect.unit (s := S512x1024) ![0, 896] S512x128.size inb_S512x1024_S512x128_0_896
abbrev r0_12 : Rect S1024x3072 := Rect.unit (s := S1024x3072) ![0, 1024] S1024x1024.size inb_S1024x3072_S1024x1024_0_1024
abbrev r0_13 : Rect S4096x128 := ⟨(⟨![0, 0], S512x128.size, ![8, 1], inb_S4096x128_S512x128_0_0_s_8_1⟩ : LoadRect S4096x128), spos_8_1⟩
abbrev r0_14 : Rect S4096x128 := ⟨(⟨![1, 0], S512x128.size, ![8, 1], inb_S4096x128_S512x128_1_0_s_8_1⟩ : LoadRect S4096x128), spos_8_1⟩
abbrev r0_15 : Rect S4096x128 := ⟨(⟨![2, 0], S512x128.size, ![8, 1], inb_S4096x128_S512x128_2_0_s_8_1⟩ : LoadRect S4096x128), spos_8_1⟩
abbrev r0_16 : Rect S4096x128 := ⟨(⟨![3, 0], S512x128.size, ![8, 1], inb_S4096x128_S512x128_3_0_s_8_1⟩ : LoadRect S4096x128), spos_8_1⟩
abbrev r0_17 : Rect S4096x128 := ⟨(⟨![4, 0], S512x128.size, ![8, 1], inb_S4096x128_S512x128_4_0_s_8_1⟩ : LoadRect S4096x128), spos_8_1⟩
abbrev r0_18 : Rect S4096x128 := ⟨(⟨![5, 0], S512x128.size, ![8, 1], inb_S4096x128_S512x128_5_0_s_8_1⟩ : LoadRect S4096x128), spos_8_1⟩
abbrev r0_19 : Rect S4096x128 := ⟨(⟨![6, 0], S512x128.size, ![8, 1], inb_S4096x128_S512x128_6_0_s_8_1⟩ : LoadRect S4096x128), spos_8_1⟩
abbrev r0_20 : Rect S4096x128 := ⟨(⟨![7, 0], S512x128.size, ![8, 1], inb_S4096x128_S512x128_7_0_s_8_1⟩ : LoadRect S4096x128), spos_8_1⟩
abbrev r0_21 : Rect S1024x3072 := Rect.unit (s := S1024x3072) ![0, 2048] S1024x1024.size inb_S1024x3072_S1024x1024_0_2048

/-! ## What the body leaves in each output window's buffer -/

/-! ### Values of the body that several stores use: the normed rows, the tables, the mask and the three products -/

def k0_pay45 (x0 : Vec F S512x1024 .f32) (x1 : Vec F S1x1024 .f32) (x2 : Vec F S1024x3072 .bf16) (x3 : Vec F S512x128 .f32) (x4 : Vec F S512x128 .f32) : FVec F S512x1024 .bf16 :=
  k0_pay9 (View.ld x0 r0_0) (View.ld x1 r0_1) -- `v16`
def k0_pay46 (x0 : Vec F S512x1024 .f32) (x1 : Vec F S1x1024 .f32) (x2 : Vec F S1024x3072 .bf16) (x3 : Vec F S512x128 .f32) (x4 : Vec F S512x128 .f32) : FVec F S512x128 .f32 :=
  k0_pay10 (View.ld x3 r0_2) -- `v18`
def k0_pay47 (x0 : Vec F S512x1024 .f32) (x1 : Vec F S1x1024 .f32) (x2 : Vec F S1024x3072 .bf16) (x3 : Vec F S512x128 .f32) (x4 : Vec F S512x128 .f32) : FVec F S512x128 .f32 :=
  k0_pay11 (View.ld x4 r0_2) -- `v20`
def k0_pay48 (x0 : Vec F S512x1024 .f32) (x1 : Vec F S1x1024 .f32) (x2 : Vec F S1024x3072 .bf16) (x3 : Vec F S512x128 .f32) (x4 : Vec F S512x128 .f32) : IVec S512x128 1 :=
  k0_pay12 -- `v39`
def k0_pay49 (x0 : Vec F S512x1024 .f32) (x1 : Vec F S1x1024 .f32) (x2 : Vec F S1024x3072 .bf16) (x3 : Vec F S512x128 .f32) (x4 : Vec F S512x128 .f32) : FVec F S512x1024 .f32 :=
  k0_pay13 (k0_pay45 x0 x1 x2 x3 x4) (View.ld x2 r0_3) -- `v42`
def k0_pay50 (x0 : Vec F S512x1024 .f32) (x1 : Vec F S1x1024 .f32) (x2 : Vec F S1024x3072 .bf16) (x3 : Vec F S512x128 .f32) (x4 : Vec F S512x128 .f32) : FVec F S512x1024 .f32 :=
  k0_pay24 (k0_pay45 x0 x1 x2 x3 x4) (View.ld x2 r0_12) -- `v133`
def k0_pay51 (x0 : Vec F S512x1024 .f32) (x1 : Vec F S1x1024 .f32) (x2 : Vec F S1024x3072 .bf16) (x3 : Vec F S512x128 .f32) (x4 : Vec F S512x128 .f32) : FVec F S512x128 .f32 :=
  k0_pay35 (k0_pay50 x0 x1 x2 x3 x4) -- `v184`
def k0_pay52 (x0 : Vec F S512x1024 .f32) (x1 : Vec F S1x1024 .f32) (x2 : Vec F S1024x3072 .bf16) (x3 : Vec F S512x128 .f32) (x4 : Vec F S512x128 .f32) : FVec F S512x128 .f32 :=
  k0_pay36 (k0_pay50 x0 x1 x2 x3 x4) -- `v185`
def k0_pay53 (x0 : Vec F S512x1024 .f32) (x1 : Vec F S1x1024 .f32) (x2 : Vec F S1024x3072 .bf16) (x3 : Vec F S512x128 .f32) (x4 : Vec F S512x128 .f32) : FVec F S512x1024 .f32 :=
  k0_pay43 (k0_pay45 x0 x1 x2 x3 x4) (View.ld x2 r0_21) -- `v216`

/-- Window 5's staging buffer after the body, from the input windows' blocks: its 8 stores as pieces, LAST
    FIRST (the payloads are the skeleton's and the values stated above). -/
def out0_5 (x0 : Vec F S512x1024 .f32) (x1 : Vec F S1x1024 .f32) (x2 : Vec F S1024x3072 .bf16) (x3 : Vec F S512x128 .f32) (x4 : Vec F S512x128 .f32) : Vec F S512x1024 .bf16 :=
  View.canon [⟨r0_11, k0_pay23 (k0_pay46 x0 x1 x2 x3 x4) (k0_pay47 x0 x1 x2 x3 x4) (k0_pay48 x0 x1 x2 x3 x4) (k0_pay49 x0 x1 x2 x3 x4)⟩,
    ⟨r0_10, k0_pay22 (k0_pay46 x0 x1 x2 x3 x4) (k0_pay47 x0 x1 x2 x3 x4) (k0_pay48 x0 x1 x2 x3 x4) (k0_pay49 x0 x1 x2 x3 x4)⟩,
    ⟨r0_9, k0_pay21 (k0_pay46 x0 x1 x2 x3 x4) (k0_pay47 x0 x1 x2 x3 x4) (k0_pay48 x0 x1 x2 x3 x4) (k0_pay49 x0 x1 x2 x3 x4)⟩,
    ⟨r0_8, k0_pay20 (k0_pay46 x0 x1 x2 x3 x4) (k0_pay47 x0 x1 x2 x3 x4) (k0_pay48 x0 x1 x2 x3 x4) (k0_pay49 x0 x1 x2 x3 x4)⟩,
    ⟨r0_7, k0_pay19 (k0_pay46 x0 x1 x2 x3 x4) (k0_pay47 x0 x1 x2 x3 x4) (k0_pay48 x0 x1 x2 x3 x4) (k0_pay17 (k0_pay45 x0 x1 x2 x3 x4) (View.ld x2 r0_3)) (k0_pay18 (k0_pay45 x0 x1 x2 x3 x4) (View.ld x2 r0_3)) 32#32⟩,
    ⟨r0_6, k0_pay16 (k0_pay45 x0 x1 x2 x3 x4) (k0_pay46 x0 x1 x2 x3 x4) (k0_pay47 x0 x1 x2 x3 x4) (k0_pay48 x0 x1 x2 x3 x4) (View.ld x2 r0_3)⟩,
    ⟨r0_5, k0_pay15 (k0_pay45 x0 x1 x2 x3 x4) (k0_pay46 x0 x1 x2 x3 x4) (k0_pay47 x0 x1 x2 x3 x4) (k0_pay48 x0 x1 x2 x3 x4) (View.ld x2 r0_3)⟩,
    ⟨r0_4, k0_pay14 (k0_pay45 x0 x1 x2 x3 x4) (k0_pay46 x0 x1 x2 x3 x4) (k0_pay47 x0 x1 x2 x3 x4) (k0_pay48 x0 x1 x2 x3 x4) (View.ld x2 r0_3)⟩]

/-- Its stores tile the buffer (checked by evaluation), so they cover it. -/
theorem cover0_5 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_11, p0⟩, ⟨r0_10, p1⟩, ⟨r0_9, p2⟩, ⟨r0_8, p3⟩, ⟨r0_7, p4⟩, ⟨r0_6, p5⟩, ⟨r0_5, p6⟩, ⟨r0_4, p7⟩] : List (View.Piece (Elt F) S512x1024 .bf16)), y ∈ pc.1.set :=
  View.cover_of_tiled [⟨r0_11, p0⟩, ⟨r0_10, p1⟩, ⟨r0_9, p2⟩, ⟨r0_8, p3⟩, ⟨r0_7, p4⟩, ⟨r0_6, p5⟩, ⟨r0_5, p6⟩, ⟨r0_4, p7⟩] S512x128.size (by rfl) y

/-- Window 6's staging buffer after the body, from the input windows' blocks: its 8 stores as pieces, LAST
    FIRST (the payloads are the skeleton's and the values stated above). -/
def out0_6 (x0 : Vec F S512x1024 .f32) (x1 : Vec F S1x1024 .f32) (x2 : Vec F S1024x3072 .bf16) (x3 : Vec F S512x128 .f32) (x4 : Vec F S512x128 .f32) : Vec F S4096x128 .f32 :=
  View.canon [⟨r0_20, k0_pay41 (k0_pay46 x0 x1 x2 x3 x4) (k0_pay47 x0 x1 x2 x3 x4) (k0_pay48 x0 x1 x2 x3 x4) (k0_pay50 x0 x1 x2 x3 x4)⟩,
    ⟨r0_19, k0_pay39 (k0_pay46 x0 x1 x2 x3 x4) (k0_pay47 x0 x1 x2 x3 x4) (k0_pay48 x0 x1 x2 x3 x4) (k0_pay50 x0 x1 x2 x3 x4)⟩,
    ⟨r0_18, k0_pay37 (k0_pay46 x0 x1 x2 x3 x4) (k0_pay47 x0 x1 x2 x3 x4) (k0_pay48 x0 x1 x2 x3 x4) (k0_pay51 x0 x1 x2 x3 x4) (k0_pay52 x0 x1 x2 x3 x4)⟩,
    ⟨r0_17, k0_pay33 (k0_pay46 x0 x1 x2 x3 x4) (k0_pay47 x0 x1 x2 x3 x4) (k0_pay48 x0 x1 x2 x3 x4) (k0_pay50 x0 x1 x2 x3 x4)⟩,
    ⟨r0_16, k0_pay31 (k0_pay46 x0 x1 x2 x3 x4) (k0_pay47 x0 x1 x2 x3 x4) (k0_pay48 x0 x1 x2 x3 x4) (k0_pay50 x0 x1 x2 x3 x4)⟩,
    ⟨r0_15, k0_pay29 (k0_pay46 x0 x1 x2 x3 x4) (k0_pay47 x0 x1 x2 x3 x4) (k0_pay48 x0 x1 x2 x3 x4) (k0_pay50 x0 x1 x2 x3 x4)⟩,
    ⟨r0_14, k0_pay27 (k0_pay45 x0 x1 x2 x3 x4) (k0_pay46 x0 x1 x2 x3 x4) (k0_pay47 x0 x1 x2 x3 x4) (k0_pay48 x0 x1 x2 x3 x4) (View.ld x2 r0_12)⟩,
    ⟨r0_13, k0_pay25 (k0_pay45 x0 x1 x2 x3 x4) (k0_pay46 x0 x1 x2 x3 x4) (k0_pay47 x0 x1 x2 x3 x4) (k0_pay48 x0 x1 x2 x3 x4) (View.ld x2 r0_12)⟩]

/-- Its stores take every eighth row, from eight first rows, so they cover it. -/
theorem cover0_6 (p0 : Vec F S512x128 .f32) (p1 : Vec F S512x128 .f32) (p2 : Vec F S512x128 .f32) (p3 : Vec F S512x128 .f32) (p4 : Vec F S512x128 .f32) (p5 : Vec F S512x128 .f32) (p6 : Vec F S512x128 .f32) (p7 : Vec F S512x128 .f32) (y : S4096x128.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩] : List (View.Piece (Elt F) S4096x128 .f32)), y ∈ pc.1.set :=
  Cert.Kernel6.Rot.rows_cover p0 p1 p2 p3 p4 p5 p6 p7 y

/-- Window 7's staging buffer after the body, from the input windows' blocks: its 8 stores as pieces, LAST
    FIRST (the payloads are the skeleton's and the values stated above). -/
def out0_7 (x0 : Vec F S512x1024 .f32) (x1 : Vec F S1x1024 .f32) (x2 : Vec F S1024x3072 .bf16) (x3 : Vec F S512x128 .f32) (x4 : Vec F S512x128 .f32) : Vec F S512x1024 .bf16 :=
  View.canon [⟨r0_11, k0_pay42 (k0_pay46 x0 x1 x2 x3 x4) (k0_pay47 x0 x1 x2 x3 x4) (k0_pay48 x0 x1 x2 x3 x4) (k0_pay50 x0 x1 x2 x3 x4)⟩,
    ⟨r0_10, k0_pay40 (k0_pay46 x0 x1 x2 x3 x4) (k0_pay47 x0 x1 x2 x3 x4) (k0_pay48 x0 x1 x2 x3 x4) (k0_pay50 x0 x1 x2 x3 x4)⟩,
    ⟨r0_9, k0_pay38 (k0_pay46 x0 x1 x2 x3 x4) (k0_pay47 x0 x1 x2 x3 x4) (k0_pay48 x0 x1 x2 x3 x4) (k0_pay51 x0 x1 x2 x3 x4) (k0_pay52 x0 x1 x2 x3 x4)⟩,
    ⟨r0_8, k0_pay34 (k0_pay46 x0 x1 x2 x3 x4) (k0_pay47 x0 x1 x2 x3 x4) (k0_pay48 x0 x1 x2 x3 x4) (k0_pay50 x0 x1 x2 x3 x4)⟩,
    ⟨r0_7, k0_pay32 (k0_pay46 x0 x1 x2 x3 x4) (k0_pay47 x0 x1 x2 x3 x4) (k0_pay48 x0 x1 x2 x3 x4) (k0_pay50 x0 x1 x2 x3 x4)⟩,
    ⟨r0_6, k0_pay30 (k0_pay46 x0 x1 x2 x3 x4) (k0_pay47 x0 x1 x2 x3 x4) (k0_pay48 x0 x1 x2 x3 x4) (k0_pay50 x0 x1 x2 x3 x4)⟩,
    ⟨r0_5, k0_pay28 (k0_pay45 x0 x1 x2 x3 x4) (k0_pay46 x0 x1 x2 x3 x4) (k0_pay47 x0 x1 x2 x3 x4) (k0_pay48 x0 x1 x2 x3 x4) (View.ld x2 r0_12)⟩,
    ⟨r0_4, k0_pay26 (k0_pay45 x0 x1 x2 x3 x4) (k0_pay46 x0 x1 x2 x3 x4) (k0_pay47 x0 x1 x2 x3 x4) (k0_pay48 x0 x1 x2 x3 x4) (View.ld x2 r0_12)⟩]

/-- Its stores tile the buffer (checked by evaluation), so they cover it. -/
theorem cover0_7 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_11, p0⟩, ⟨r0_10, p1⟩, ⟨r0_9, p2⟩, ⟨r0_8, p3⟩, ⟨r0_7, p4⟩, ⟨r0_6, p5⟩, ⟨r0_5, p6⟩, ⟨r0_4, p7⟩] : List (View.Piece (Elt F) S512x1024 .bf16)), y ∈ pc.1.set :=
  View.cover_of_tiled [⟨r0_11, p0⟩, ⟨r0_10, p1⟩, ⟨r0_9, p2⟩, ⟨r0_8, p3⟩, ⟨r0_7, p4⟩, ⟨r0_6, p5⟩, ⟨r0_5, p6⟩, ⟨r0_4, p7⟩] S512x128.size (by rfl) y

/-- Window 8's staging buffer after the body, from the input windows' blocks: its 8 stores as pieces, LAST
    FIRST (the payloads are the skeleton's and the values stated above). -/
def out0_8 (x0 : Vec F S512x1024 .f32) (x1 : Vec F S1x1024 .f32) (x2 : Vec F S1024x3072 .bf16) (x3 : Vec F S512x128 .f32) (x4 : Vec F S512x128 .f32) : Vec F S4096x128 .f32 :=
  View.canon [⟨r0_20, k0_pay7 (k0_pay53 x0 x1 x2 x3 x4)⟩,
    ⟨r0_19, k0_pay6 (k0_pay53 x0 x1 x2 x3 x4)⟩,
    ⟨r0_18, k0_pay5 (k0_pay53 x0 x1 x2 x3 x4)⟩,
    ⟨r0_17, k0_pay4 (k0_pay53 x0 x1 x2 x3 x4)⟩,
    ⟨r0_16, k0_pay3 (k0_pay53 x0 x1 x2 x3 x4)⟩,
    ⟨r0_15, k0_pay2 (k0_pay53 x0 x1 x2 x3 x4)⟩,
    ⟨r0_14, k0_pay1 (k0_pay53 x0 x1 x2 x3 x4)⟩,
    ⟨r0_13, k0_pay44 (k0_pay45 x0 x1 x2 x3 x4) (View.ld x2 r0_21)⟩]

/-- Its stores take every eighth row, from eight first rows, so they cover it. -/
theorem cover0_8 (p0 : Vec F S512x128 .f32) (p1 : Vec F S512x128 .f32) (p2 : Vec F S512x128 .f32) (p3 : Vec F S512x128 .f32) (p4 : Vec F S512x128 .f32) (p5 : Vec F S512x128 .f32) (p6 : Vec F S512x128 .f32) (p7 : Vec F S512x128 .f32) (y : S4096x128.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩] : List (View.Piece (Elt F) S4096x128 .f32)), y ∈ pc.1.set :=
  Cert.Kernel6.Rot.rows_cover p0 p1 p2 p3 p4 p5 p6 p7 y

/-- Window 9's staging buffer after the body, from the input windows' blocks: its 1 store as pieces, LAST
    FIRST (the payloads are the skeleton's and the values stated above). -/
def out0_9 (x0 : Vec F S512x1024 .f32) (x1 : Vec F S1x1024 .f32) (x2 : Vec F S1024x3072 .bf16) (x3 : Vec F S512x128 .f32) (x4 : Vec F S512x128 .f32) : Vec F S512x1024 .bf16 :=
  View.canon [⟨r0_0, k0_pay8 (k0_pay53 x0 x1 x2 x3 x4)⟩]

/-- Its stores tile the buffer (checked by evaluation), so they cover it. -/
theorem cover0_9 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3072 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x1024 .bf16) (harg6 : arg6.IsWhole) (arg7 : Memref sig .tc .vmem S4096x128 .f32) (harg7 : arg7.IsWhole) (arg8 : Memref sig .tc .vmem S512x1024 .bf16) (harg8 : arg8.IsWhole) (arg9 : Memref sig .tc .vmem S4096x128 .f32) (harg9 : arg9.IsWhole) (arg10 : Memref sig .tc .vmem S512x1024 .bf16) (harg10 : arg10.IsWhole)
    (x0 : Vec F S512x1024 .f32) (x1 : Vec F S1x1024 .f32) (x2 : Vec F S1024x3072 .bf16) (x3 : Vec F S512x128 .f32) (x4 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4)) -∗ K ⟨⟩))
      ⊢ wp frame (wpE (defs₀ (F := F)) Variants.none c none) E (cc0_proj_a i arg1 harg1 arg2 harg2 arg3 harg3 arg4 harg4 arg5 harg5 arg6 harg6 arg7 harg7 arg8 harg8 arg9 harg9 arg10 harg10) K := by
  simp only [cc0_proj_a_eq_skeleton]; unfold cc0_proj_a_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _ _ _ _ _)).trans ?_
    rfl
  isplitl [H6]
  · iexists _; isplitr
    swap; · iexact H6
    ipureintro
    refine (View.read_writes_eq_canon _ _ _ (cover0_6 _ _ _ _ _ _ _ _)).trans ?_
    rfl
  isplitl [H7]
  · iexists _; isplitr
    swap; · iexact H7
    ipureintro
    refine (View.read_writes_eq_canon _ _ _ (cover0_7 _ _ _ _ _ _ _ _)).trans ?_
    rfl
  isplitl [H8]
  · iexists _; isplitr
    swap; · iexact H8
    ipureintro
    refine (View.read_writes_eq_canon _ _ _ (cover0_8 _ _ _ _ _ _ _ _)).trans ?_
    rfl
  iexists _; isplitr
  swap; · iexact H9
  ipureintro
  refine (View.read_writes_eq_canon _ _ _ (cover0_9 _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
    | ⟨7, _⟩ => out0_7 (iblk m c 0 t) (iblk m c 1 t) (iblk m c 2 t) (iblk m c 3 t) (iblk m c 4 t)
    | ⟨8, _⟩ => out0_8 (iblk m c 0 t) (iblk m c 1 t) (iblk m c 2 t) (iblk m c 3 t) (iblk m c 4 t)
    | ⟨9, _⟩ => out0_9 (iblk m c 0 t) (iblk m c 1 t) (iblk m c 2 t) (iblk m c 3 t) (iblk m c 4 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]
theorem after0_7 (c : Dev nD) (t : Fin cfg0.N) : (dats m 0 c).after 7 t = out0_7 (iblk m c 0 t) (iblk m c 1 t) (iblk m c 2 t) (iblk m c 3 t) (iblk m c 4 t) := by dsimp only [dats]
theorem after0_8 (c : Dev nD) (t : Fin cfg0.N) : (dats m 0 c).after 8 t = out0_8 (iblk m c 0 t) (iblk m c 1 t) (iblk m c 2 t) (iblk m c 3 t) (iblk m c 4 t) := by dsimp only [dats]
theorem after0_9 (c : Dev nD) (t : Fin cfg0.N) : (dats m 0 c).after 9 t = out0_9 (iblk m c 0 t) (iblk m c 1 t) (iblk m c 2 t) (iblk m c 3 t) (iblk m c 4 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame claim of this program, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel7Ideal.Rot

end
-- ==== Proof.RefRot7.lean ====
/- The seventh program's reference, the attention layer's projections of the sample, read at an index. -/
module
public import proofs.«01_k».proof.Proof.Gen.Reference7Ideal.Run
public import proofs.«01_k».proof.Proof.Rope
@[expose] public section
set_option maxRecDepth 1024
noncomputable section
namespace Cert.Reference7Ideal.Value
open Cert.Reference7Ideal Cert.Reference7Ideal.Gen Idealize.ShloMosaic Idealize.ShloMosaic.TcCoe Idealize.SL.Sem Cert.Layer

/-- The norm of every row. -/
def refNorm (h : FVec Ideal S32x32x1024 .f32) (g : FVec Ideal S2x1024 .f32) : FVec Ideal S32x32x1024 .f32 :=
  mulf (mulf h (broadcastInDim S32x32x1024 ![0, 1, 2] bcast_S32x32x1_S32x32x1024_0_1_2 (Host.rsqrt (addf (Host.divf (broadcastInDim S32x32x1 ![0, 1] bcast_S32x32_S32x32x1_0_1 (Host.reduceAdd (mulf h h) (constant S_ .f32 0x00000000#32) reducesTo_S32x32x1024_S32x32_d2 h_S_)) (broadcastInDim S32x32x1 ![] bcast_S_S32x32x1 (constant S_ .f32 0x44800000#32))) (broadcastInDim S32x32x1 ![] bcast_S_S32x32x1 (constant S_ .f32 0x358637BD#32)))))) (broadcastInDim S32x32x1024 ![0, 1, 2] bcast_S1x1x1024_S32x32x1024_0_1_2 (broadcastInDim S1x1x1024 ![2] bcast_S1024_S1x1x1024_2 (shapeCast _ (extractStridedSlice S1x1024 ![0, 0] g slices_S2x1024_S1x1024_0_0) shapeCasts_S1x1024_S1024)))

/-- The product with the shared weight. -/
def refProd (x : FVec Ideal S32x32x1024 .f32) (g : FVec Ideal S2x1024 .f32) (w : FVec Ideal S1x1024x3072 .f32) : FVec Ideal S32x32x3072 .f32 :=
  Host.dotGeneral dot_S32x32x1024_S1024x3072_S32x32x3072_2_0_01_1_n_n none (refNorm x g) (shapeCast _ w shapeCasts_S1x1024x3072_S1024x3072)

/-- The angles of the positions. -/
def refAngle : FVec Ideal S32x32 .f32 :=
  mulf (broadcastInDim S32x32 ![0, 1] bcast_S32x1_S32x32_0_1 (broadcastInDim S32x1 ![0] bcast_S32_S32x1_0 (sitofp .f32 (addi (broadcastInDim S32 ![] bcast_S_S32 (constantI S_ 32 1024#32)) (iotaInDim S32 32 0))))) (broadcastInDim S32x32 ![0, 1] bcast_S1x32_S32x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (sitofp .f32 (iotaInDim S32 32 0)) (broadcastInDim S32 ![] bcast_S_S32 (constant S_ .f32 0x42000000#32)))))))
def refTab (t : FVec Ideal S32x32 .f32) : FVec Ideal S32x32x8x2x32 .f32 :=
  broadcastInDim S32x32x8x2x32 ![0, 1, 2, 3, 4] bcast_S1x32x1x1x32_S32x32x8x2x32_0_1_2_3_4 (broadcastInDim S1x32x1x1x32 ![1, 2, 3, 4] bcast_S32x1x1x32_S1x32x1x1x32_1_2_3_4 (broadcastInDim S32x1x1x32 ![0, 3] bcast_S32x32_S32x1x1x32_0_3 t))

/-- Every head turned by its row's position. -/
def refRope (z : FVec Ideal S32x32x8x2x64 .f32) : FVec Ideal S32x32x8x2x64 .f32 :=
  concatenate S32x32x8x2x64 4 [
    ⟨S32x32x8x2x32, subf (mulf (extractStridedSlice S32x32x8x2x32 ![0, 0, 0, 0, 0] z slices_S32x32x8x2x64_S32x32x8x2x32_0_0_0_0_0) (refTab (Host.cos refAngle)))
      (mulf (extractStridedSlice S32x32x8x2x32 ![0, 0, 0, 0, 32] z slices_S32x32x8x2x64_S32x32x8x2x32_0_0_0_0_32) (refTab (Host.sin refAngle)))⟩,
    ⟨S32x32x8x2x32, addf (mulf (extractStridedSlice S32x32x8x2x32 ![0, 0, 0, 0, 32] z slices_S32x32x8x2x64_S32x32x8x2x32_0_0_0_0_32) (refTab (Host.cos refAngle)))
      (mulf (extractStridedSlice S32x32x8x2x32 ![0, 0, 0, 0, 0] z slices_S32x32x8x2x64_S32x32x8x2x32_0_0_0_0_0) (refTab (Host.sin refAngle)))⟩]
    concatenates_S32x32x8x2x32_S32x32x8x2x32_S32x32x8x2x64_d4

/-- The query and the keys, turned, by heads, and the values. -/
def refQuery (x : FVec Ideal S32x32x1024 .f32) (g : FVec Ideal S2x1024 .f32) (w : FVec Ideal S1x1024x3072 .f32) : FVec Ideal S32x32x8x2x64 .f32 :=
  refRope (shapeCast _ (extractStridedSlice S32x32x1024 ![0, 0, 0] (refProd x g w) slices_S32x32x3072_S32x32x1024_0_0_0) shapeCasts_S32x32x1024_S32x32x8x2x64)
def refKey (x : FVec Ideal S32x32x1024 .f32) (g : FVec Ideal S2x1024 .f32) (w : FVec Ideal S1x1024x3072 .f32) : FVec Ideal S32x32x8x2x64 .f32 :=
  refRope (shapeCast _ (extractStridedSlice S32x32x1024 ![0, 0, 1024] (refProd x g w) slices_S32x32x3072_S32x32x1024_0_0_1024) shapeCasts_S32x32x1024_S32x32x8x2x64)
def refVal (x : FVec Ideal S32x32x1024 .f32) (g : FVec Ideal S2x1024 .f32) (w : FVec Ideal S1x1024x3072 .f32) : FVec Ideal S32x32x8x128 .f32 :=
  shapeCast _ (extractStridedSlice S32x32x1024 ![0, 0, 2048] (refProd x g w) slices_S32x32x3072_S32x32x1024_0_0_2048) shapeCasts_S32x32x1024_S32x32x8x128

/-- The results as functions of the arrays: the query, the keys in the cache's layout and in rows, the values likewise. -/
def out0 (x : FVec Ideal S32x32x1024 .f32) (g : FVec Ideal S2x1024 .f32) (w : FVec Ideal S1x1024x3072 .f32) : FVec Ideal S1024x1024 .bf16 :=
  truncf .bf16 (shapeCast _ (mulf (refQuery x g w) (broadcastInDim S32x32x8x2x64 ![] bcast_S_S32x32x8x2x64 (Host.divf (constant S_ .f32 0x3E000000#32) (Host.log (constant S_ .f32 0x40000000#32))))) shapeCasts_S32x32x8x2x64_S1024x1024) bitsLt_bf16_f32
def out1 (x : FVec Ideal S32x32x1024 .f32) (g : FVec Ideal S2x1024 .f32) (w : FVec Ideal S1x1024x3072 .f32) : FVec Ideal S8192x128 .f32 :=
  shapeCast _ (refKey x g w) shapeCasts_S32x32x8x2x64_S8192x128
def out2 (x : FVec Ideal S32x32x1024 .f32) (g : FVec Ideal S2x1024 .f32) (w : FVec Ideal S1x1024x3072 .f32) : FVec Ideal S1024x1024 .bf16 :=
  truncf .bf16 (shapeCast _ (refKey x g w) shapeCasts_S32x32x8x2x64_S1024x1024) bitsLt_bf16_f32
def out3 (x : FVec Ideal S32x32x1024 .f32) (g : FVec Ideal S2x1024 .f32) (w : FVec Ideal S1x1024x3072 .f32) : FVec Ideal S8192x128 .f32 :=
  shapeCast _ (refVal x g w) shapeCasts_S32x32x8x128_S8192x128
def out4 (x : FVec Ideal S32x32x1024 .f32) (g : FVec Ideal S2x1024 .f32) (w : FVec Ideal S1x1024x3072 .f32) : FVec Ideal S1024x1024 .bf16 :=
  truncf .bf16 (shapeCast _ (refVal x g w) shapeCasts_S32x32x8x128_S1024x1024) bitsLt_bf16_f32

/-- They are what the reference returns. -/
theorem res0 (m : (ℓ : Loc nD τ sig) → Buf (Elt Ideal) ℓ) (c : Dev nD) : res_main_v101 m c
    = out0 (m ((c.tc : Thread nD τ).loc main_arg0)) (m ((c.tc : Thread nD τ).loc main_arg1)) (m ((c.tc : Thread nD τ).loc main_arg2)) := rfl
theorem res1 (m : (ℓ : Loc nD τ sig) → Buf (Elt Ideal) ℓ) (c : Dev nD) : res_main_v94 m c
    = out1 (m ((c.tc : Thread nD τ).loc main_arg0)) (m ((c.tc : Thread nD τ).loc main_arg1)) (m ((c.tc : Thread nD τ).loc main_arg2)) := rfl
theorem res2 (m : (ℓ : Loc nD τ sig) → Buf (Elt Ideal) ℓ) (c : Dev nD) : res_main_v103 m c
    = out2 (m ((c.tc : Thread nD τ).loc main_arg0)) (m ((c.tc : Thread nD τ).loc main_arg1)) (m ((c.tc : Thread nD τ).loc main_arg2)) := rfl

section
variable (x : FVec Ideal S32x32x1024 .f32) (g : FVec Ideal S2x1024 .f32) (w : FVec Ideal S1x1024x3072 .f32)

theorem refNorm_at (a : Fin 32) (b : Fin 32) (j : Fin 1024) :
    refNorm x g (ix3 a b j) = rmsAt 1149239296#32 (fun k => x (ix3 a b k)) (fun k => g (ix2 0 k)) j := by
  pointwise [refNorm, rmsAt]
theorem refProd_at (a : Fin 32) (b : Fin 32) (n : Fin 3) (j : Fin 1024) :
    refProd x g w (ix3 a b ⟨1024 * n.val + j, by omega⟩)
      = projAt (fun k => x (ix3 a b k)) (fun k => g (ix2 0 k)) (thirdCols n fun k j => w (ix3 0 k j)) j := by
  pointwise [refProd]
  simp only [refNorm_at, projAt, thirdCols]
theorem refAngle_at (b : Fin 32) (i : Fin 32) : refAngle (ix2 b i) = angle (1024#32 + BitVec.ofNat 32 b) i := by
  pointwise [refAngle, angle]
  rfl
theorem refTab_at (t : FVec Ideal S32x32 .f32) (a : Fin 32) (b : Fin 32) (h : Fin 8) (s : Fin 2) (d : Fin 32) :
    refTab t (ix5 a b h s d) = t (ix2 b d) := by
  pointwise [refTab]

/-- A third by heads, turned: the row turned by its position. -/
theorem refRope_at (y : FVec Ideal S32x32x1024 .f32) (a : Fin 32) (b : Fin 32) (j : Fin 1024) :
    refRope (shapeCast _ y shapeCasts_S32x32x1024_S32x32x8x2x64)
        (ix5 a b ⟨j.val / 128, by omega⟩ ⟨j.val % 128 / 64, by omega⟩ ⟨j.val % 64, by omega⟩)
      = ropeAt (1024#32 + BitVec.ofNat 32 b) (fun j => y (ix3 a b j)) j := by
  pointwise [refRope]
  unfold ropeAt
  by_cases h : j.val % 64 < 32
  · have e : (⟨j.val / 128 * 128 + j.val % 128 / 64 * 64 + (32 + j.val % 64), by omega⟩ : Fin 1024) = ⟨j.val + 32, by omega⟩ :=
      Fin.ext (by show j.val / 128 * 128 + j.val % 128 / 64 * 64 + (32 + j.val % 64) = j.val + 32; omega)
    rw [dif_pos h, dif_pos h, refTab_at, refTab_at, e]
    pointwise
    simp only [refAngle_at]
  · have e : (⟨j.val / 128 * 128 + j.val % 128 / 64 * 64 + (32 + (j.val % 64 - 32)), by omega⟩ : Fin 1024) = j :=
      Fin.ext (by show j.val / 128 * 128 + j.val % 128 / 64 * 64 + (32 + (j.val % 64 - 32)) = j.val; omega)
    have e' : (⟨j.val / 128 * 128 + j.val % 128 / 64 * 64 + (j.val % 64 - 32), by omega⟩ : Fin 1024) = ⟨j.val - 32, by omega⟩ :=
      Fin.ext (by show j.val / 128 * 128 + j.val % 128 / 64 * 64 + (j.val % 64 - 32) = j.val - 32; omega)
    rw [dif_neg h, dif_neg h, refTab_at, refTab_at, e, e']
    pointwise
    simp only [refAngle_at]

/-- The turned third `n` of the product and the third `n` itself, at one entry of one row. -/
def turnedAt (n : Fin 3) (a : Fin 32) (b : Fin 32) (j : Fin 1024) : EReal :=
  ropeAt (1024#32 + BitVec.ofNat 32 b) (projAt (fun k => x (ix3 a b k)) (fun k => g (ix2 0 k)) (thirdCols n fun k j => w (ix3 0 k j))) j
def plainAt (n : Fin 3) (a : Fin 32) (b : Fin 32) (j : Fin 1024) : EReal :=
  projAt (fun k => x (ix3 a b k)) (fun k => g (ix2 0 k)) (thirdCols n fun k j => w (ix3 0 k j)) j

theorem refThird_at (n : Fin 3) (y : FVec Ideal S32x32x1024 .f32)
    (hy : ∀ (a : Fin 32) (b : Fin 32) (j : Fin 1024), y (ix3 a b j) = refProd x g w (ix3 a b ⟨1024 * n.val + j, by omega⟩))
    (a : Fin 32) (b : Fin 32) (h : Fin 8) (s : Fin 2) (d : Fin 64) :
    refRope (shapeCast _ y shapeCasts_S32x32x1024_S32x32x8x2x64) (ix5 a b h s d)
      = turnedAt x g w n a b ⟨128 * h.val + 64 * s.val + d.val, by omega⟩ := by
  have e := refRope_at y a b ⟨128 * h.val + 64 * s.val + d.val, by omega⟩
  rw [show (⟨(128 * h.val + 64 * s.val + d.val) / 128, by omega⟩ : Fin 8) = h from Fin.ext (by show (128 * h.val + 64 * s.val + d.val) / 128 = h.val; omega),
    show (⟨(128 * h.val + 64 * s.val + d.val) % 128 / 64, by omega⟩ : Fin 2) = s from Fin.ext (by show (128 * h.val + 64 * s.val + d.val) % 128 / 64 = s.val; omega),
    show (⟨(128 * h.val + 64 * s.val + d.val) % 64, by omega⟩ : Fin 64) = d from Fin.ext (by show (128 * h.val + 64 * s.val + d.val) % 64 = d.val; omega)] at e
  refine e.trans ?_
  unfold turnedAt
  refine congrArg (fun f => ropeAt _ f _) (funext fun j => ?_)
  exact (hy a b j).trans (refProd_at x g w a b n j)
theorem refQuery_at (a : Fin 32) (b : Fin 32) (h : Fin 8) (s : Fin 2) (d : Fin 64) :
    refQuery x g w (ix5 a b h s d) = turnedAt x g w 0 a b ⟨128 * h.val + 64 * s.val + d.val, by omega⟩ := by
  refine refThird_at x g w 0 _ (fun a b j => ?_) a b h s d
  pointwise
theorem refKey_at (a : Fin 32) (b : Fin 32) (h : Fin 8) (s : Fin 2) (d : Fin 64) :
    refKey x g w (ix5 a b h s d) = turnedAt x g w 1 a b ⟨128 * h.val + 64 * s.val + d.val, by omega⟩ := by
  refine refThird_at x g w 1 _ (fun a b j => ?_) a b h s d
  pointwise

theorem out0_at (r : Fin 1024) (j : Fin 1024) :
    out0 x g w (ix2 r j) = turnedAt x g w 0 ⟨r.val / 32, by omega⟩ ⟨r.val % 32, by omega⟩ j * qScale := by
  rw [← qScale_eq]
  pointwise [out0]
  rw [refQuery_at]
  exact congrArg (· * _) (congrArg (turnedAt x g w 0 _ _) (Fin.ext (by show 128 * (j.val / 128) + 64 * (j.val / 64 % 2) + j.val % 64 = j.val; omega)))
theorem out1_at (r : Fin 8192) (l : Fin 128) :
    out1 x g w (ix2 r l) = turnedAt x g w 1 ⟨r.val / 8 / 32, by omega⟩ ⟨r.val / 8 % 32, by omega⟩ ⟨128 * (r.val % 8) + l.val, by omega⟩ := by
  pointwise [out1]
  rw [refKey_at]
  congr 1
  · exact Fin.ext (by show r.val / 256 = r.val / 8 / 32; omega)
  · exact Fin.ext (by show 128 * (r.val % 8) + 64 * (l.val / 64) + l.val % 64 = 128 * (r.val % 8) + l.val; omega)
theorem out2_at (r : Fin 1024) (j : Fin 1024) :
    out2 x g w (ix2 r j) = turnedAt x g w 1 ⟨r.val / 32, by omega⟩ ⟨r.val % 32, by omega⟩ j := by
  pointwise [out2]
  rw [refKey_at]
  congr 1
  exact Fin.ext (by show 128 * (j.val / 128) + 64 * (j.val / 64 % 2) + j.val % 64 = j.val; omega)
theorem out3_at (r : Fin 8192) (l : Fin 128) :
    out3 x g w (ix2 r l) = plainAt x g w 2 ⟨r.val / 8 / 32, by omega⟩ ⟨r.val / 8 % 32, by omega⟩ ⟨128 * (r.val % 8) + l.val, by omega⟩ := by
  pointwise [out3, refVal]
  refine Eq.trans ?_ (refProd_at x g w _ _ 2 _)
  congr 2
  · exact Fin.ext (by show r.val / 256 = r.val / 8 / 32; omega)
  · exact Fin.ext (by show 2048 + (r.val % 8 * 128 + l.val) = 1024 * 2 + (128 * (r.val % 8) + l.val); omega)
theorem out4_at (r : Fin 1024) (j : Fin 1024) :
    out4 x g w (ix2 r j) = plainAt x g w 2 ⟨r.val / 32, by omega⟩ ⟨r.val % 32, by omega⟩ j := by
  pointwise [out4, refVal]
  exact (congrArg _ (congrArg (ix3 _ _) (Fin.ext (by show 2048 + j.val = 1024 * 2 + j.val; omega)))).trans (refProd_at x g w _ _ 2 j)
end
end Cert.Reference7Ideal.Value
end
-- ==== Proof.Turn7.lean ====
/- The seventh program: each grid step's projections of the sample are the reference's. The bodies' buffers hold the sixth
   program's values, so its lemmas about them are used. -/
module
public import proofs.«01_k».proof.Proof.Rot7Ideal
public import proofs.«01_k».proof.Proof.RefRot7
public import proofs.«01_k».proof.Proof.Turn6
public import Idealize.ShloMosaic.Lib.Pipeline.ValueKit
@[expose] public section
set_option maxRecDepth 16384
noncomputable section
namespace Cert.Kernel7Ideal.Rot
open Cert.Kernel7Ideal Cert.Kernel7Ideal.Gen Idealize.ShloMosaic Idealize.ShloMosaic.TcCoe Idealize.SL.Sem Cert.Layer
open Idealize.ShloMosaic.Pipeline (Dat)
open Cert.Kernel6Ideal.Rot (turned natRow natCol)

/-- What the buffers hold after the body is what the sixth program's hold. -/
theorem same5 : out0_5 (F := Ideal) = Cert.Kernel6Ideal.Rot.out0_5 (F := Ideal) := rfl
theorem same6 : out0_6 (F := Ideal) = Cert.Kernel6Ideal.Rot.out0_6 (F := Ideal) := rfl
theorem same7 : out0_7 (F := Ideal) = Cert.Kernel6Ideal.Rot.out0_7 (F := Ideal) := rfl
theorem same8 : out0_8 (F := Ideal) = Cert.Kernel6Ideal.Rot.out0_8 (F := Ideal) := rfl

/-- The values in rows. -/
theorem out9_at (x0 : Vec Ideal S512x1024 .f32) (x1 : Vec Ideal S1x1024 .f32) (x2 : Vec Ideal S1024x3072 .bf16) (x3 x4 : Vec Ideal S512x128 .f32)
    (i : Fin 512) (j : Fin 1024) : out0_9 x0 x1 x2 x3 x4 (ix2 i j) = Cert.Kernel6Ideal.Rot.k0_pay53 x0 x1 x2 x3 x4 (ix2 i j) := by
  unfold out0_9
  refine (View.canon_apply_of_pieces (Val := Elt Ideal) (e := .bf16) (fun y => k0_pay8 (k0_pay53 x0 x1 x2 x3 x4) y) _ ?_ _ (cover0_9 _ _)).trans ?_
  · simp only [List.forall_mem_cons]
    exact ⟨fun x => congrArg _ (by funext a; fin_cases a <;> exact Fin.ext (by show _ = 0 + 1 * _; omega)), fun _ h => nomatch h⟩
  · pointwise [k0_pay8]
    rfl

section
variable (m : (ℓ : Loc nD τ sig) → Buf (Elt Ideal) ℓ) (ρ : Dev nD → PrngReg)

/-- After the frame run, output window 5's array is `(dats m 0 c).arrAt 5 N`. -/
theorem post5 (r : PUnit × MemSt nD τ sig (Elt Ideal)) (h : Pipeline.FramePost cfgs (dats m) 0 (V m) r) (c : Dev nD) :
    r.2.mem ((c : Thread nD τ).loc main_v39_0) = (dats m 0 c).arrAt 5 cfg0.N :=
  (h c).1 5

/-- After the frame run, output window 6's array is `(dats m 0 c).arrAt 6 N`. -/
theorem post6 (r : PUnit × MemSt nD τ sig (Elt Ideal)) (h : Pipeline.FramePost cfgs (dats m) 0 (V m) r) (c : Dev nD) :
    r.2.mem ((c : Thread nD τ).loc main_v39_1) = (dats m 0 c).arrAt 6 cfg0.N :=
  (h c).1 6

/-- After the frame run, output window 7's array is `(dats m 0 c).arrAt 7 N`. -/
theorem post7 (r : PUnit × MemSt nD τ sig (Elt Ideal)) (h : Pipeline.FramePost cfgs (dats m) 0 (V m) r) (c : Dev nD) :
    r.2.mem ((c : Thread nD τ).loc main_v39_2) = (dats m 0 c).arrAt 7 cfg0.N :=
  (h c).1 7

/-- After the frame run, output window 8's array is `(dats m 0 c).arrAt 8 N`. -/
theorem post8 (r : PUnit × MemSt nD τ sig (Elt Ideal)) (h : Pipeline.FramePost cfgs (dats m) 0 (V m) r) (c : Dev nD) :
    r.2.mem ((c : Thread nD τ).loc main_v39_3) = (dats m 0 c).arrAt 8 cfg0.N :=
  (h c).1 8

/-- After the frame run, output window 9's array is `(dats m 0 c).arrAt 9 N`. -/
theorem post9 (r : PUnit × MemSt nD τ sig (Elt Ideal)) (h : Pipeline.FramePost cfgs (dats m) 0 (V m) r) (c : Dev nD) :
    r.2.mem ((c : Thread nD τ).loc main_v39_4) = (dats m 0 c).arrAt 9 cfg0.N :=
  (h c).1 9

/-- After the frame run, argument `main_arg0` is as launched: no window stages it, and the run leaves the region's other buffers as they were. -/
theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := Ideal))) ⟨m, fun _ => 0, ρ⟩ fun r => ∀ c : Dev nD,
      r.2.mem ((c : Thread nD τ).loc main_v39_0) = (dats m 0 c).arrAt 5 cfg0.N
      ∧ r.2.mem ((c : Thread nD τ).loc main_v39_1) = (dats m 0 c).arrAt 6 cfg0.N
      ∧ r.2.mem ((c : Thread nD τ).loc main_v39_2) = (dats m 0 c).arrAt 7 cfg0.N
      ∧ r.2.mem ((c : Thread nD τ).loc main_v39_3) = (dats m 0 c).arrAt 8 cfg0.N
      ∧ r.2.mem ((c : Thread nD τ).loc main_v39_4) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post5 m r h c,
      post6 m r h c,
      post7 m r h c,
      post8 m r h c,
      post9 m r h c,
      kept_main_arg0 m r h c,
      kept_main_arg1 m r h c,
      kept_main_arg2 m r h c⟩)
    (run_main m ρ)

/-- The host-prepared operands at an index, in the arguments. -/
theorem V_x (c : Dev nD) (r : Fin 1024) (j : Fin 1024) :
    V m c main_v38 (ix2 r j) = m ((c.tc : Thread nD τ).loc main_arg0) (ix3 ⟨r / 32, by omega⟩ ⟨r % 32, by omega⟩ j) := by
  entry_read; pointwise; try rfl
theorem V_g (c : Dev nD) (j : Fin 1024) :
    V m c main_v4 (ix2 0 j) = m ((c.tc : Thread nD τ).loc main_arg1) (ix2 0 j) := by
  entry_read; pointwise; try rfl
theorem V_w (c : Dev nD) (k : Fin 1024) (j : Fin 3072) :
    V m c main_v1 (ix2 k j) = m ((c.tc : Thread nD τ).loc main_arg2) (ix3 0 k j) := by
  entry_read; pointwise; try rfl
theorem V_cos (c : Dev nD) (p : Fin 512) (l : Fin 128) :
    (V m c main_v34 (ix2 p l) : EReal) = cosTab (1024#32 + BitVec.ofNat 32 (p.val % 32)) l := by
  entry_read; pointwise; rfl
theorem V_sin (c : Dev nD) (p : Fin 512) (l : Fin 128) :
    (V m c main_v37 (ix2 p l) : EReal) = sinTab (1024#32 + BitVec.ofNat 32 (p.val % 32)) l := by
  entry_read; pointwise; rfl

/-- Where the windows lie at each grid step. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem lt_N (t : Fin cfg0.N) : t.val < 2 := t.isLt.trans_eq N_0

/-- The blocks of the operands at an index, in the arguments. -/
theorem blk_x (c : Dev nD) (t : Fin cfg0.N) (i : Fin 512) (j : Fin 1024) :
    iblk m c 0 t (ix2 i j) = m ((c.tc : Thread nD τ).loc main_arg0)
      (ix3 ⟨(t.val * 512 + i) / 32, by have := lt_N t; omega⟩ ⟨(t.val * 512 + i) % 32, by omega⟩ j) := by
  refine Eq.trans ?_ (V_x m c ⟨t.val * 512 + i, by have := lt_N t; omega⟩ j)
  blk_simp [iblk]
  blk_point [idx t]
theorem blk_g (c : Dev nD) (t : Fin cfg0.N) (j : Fin 1024) :
    iblk m c 1 t (ix2 0 j) = m ((c.tc : Thread nD τ).loc main_arg1) (ix2 0 j) := by
  refine Eq.trans ?_ (V_g m c j)
  blk_simp [iblk]
  blk_point [idx t]
theorem blk_w (c : Dev nD) (t : Fin cfg0.N) (k : Fin 1024) (j : Fin 3072) :
    iblk m c 2 t (ix2 k j) = m ((c.tc : Thread nD τ).loc main_arg2) (ix3 0 k j) := by
  refine Eq.trans ?_ (V_w m c k j)
  blk_simp [iblk]
  blk_point [idx t]
theorem blk_cos (c : Dev nD) (t : Fin cfg0.N) (i : Fin 512) (l : Fin 128) :
    (iblk m c 3 t (ix2 i l) : EReal) = cosTab (1024#32 + BitVec.ofNat 32 ((t.val * 512 + i) % 32)) l := by
  rw [show (t.val * 512 + i.val) % 32 = i.val % 32 by omega]
  refine Eq.trans ?_ (V_cos m c i l)
  blk_simp [iblk]
  blk_point [idx t]
theorem blk_sin (c : Dev nD) (t : Fin cfg0.N) (i : Fin 512) (l : Fin 128) :
    (iblk m c 4 t (ix2 i l) : EReal) = sinTab (1024#32 + BitVec.ofNat 32 ((t.val * 512 + i) % 32)) l := by
  rw [show (t.val * 512 + i.val) % 32 = i.val % 32 by omega]
  refine Eq.trans ?_ (V_sin m c i l)
  blk_simp [iblk]
  blk_point [idx t]

open Cert.Reference7Ideal.Value

/-- The rows of the blocks, read at one row of the sample. -/
theorem turned_blk (c : Dev nD) (t : Fin cfg0.N) (n : Fin 3) (p : FVec Ideal S512x1024 .f32)
    (hp : ∀ (i : Fin 512) (j : Fin 1024), p (ix2 i j)
      = projAt (fun k => iblk m c 0 t (ix2 i k)) (fun k => iblk m c 1 t (ix2 0 k)) (thirdCols n fun k j => iblk m c 2 t (ix2 k j)) j)
    (i : Fin 512) (j : Fin 1024) :
    turned (iblk m c 3 t) (iblk m c 4 t) p i j
      = turnedAt (m ((c.tc : Thread nD τ).loc main_arg0)) (m ((c.tc : Thread nD τ).loc main_arg1)) (m ((c.tc : Thread nD τ).loc main_arg2)) n
          ⟨(t.val * 512 + i) / 32, by have := lt_N t; omega⟩ ⟨(t.val * 512 + i) % 32, by omega⟩ j := by
  refine Eq.trans ?_ (turnAt_tables _ _ j)
  unfold turned
  congr 1
  · funext l; exact blk_cos m c t i l
  · funext l; exact blk_sin m c t i l
  · funext j; rw [hp]; simp only [blk_x, blk_g, blk_w]
theorem plain_blk (c : Dev nD) (t : Fin cfg0.N) (i : Fin 512) (j : Fin 1024) :
    Cert.Kernel6Ideal.Rot.k0_pay53 (iblk m c 0 t) (iblk m c 1 t) (iblk m c 2 t) (iblk m c 3 t) (iblk m c 4 t) (ix2 i j)
      = plainAt (m ((c.tc : Thread nD τ).loc main_arg0)) (m ((c.tc : Thread nD τ).loc main_arg1)) (m ((c.tc : Thread nD τ).loc main_arg2)) 2
          ⟨(t.val * 512 + i) / 32, by have := lt_N t; omega⟩ ⟨(t.val * 512 + i) % 32, by omega⟩ j := by
  rw [Cert.Kernel6Ideal.Rot.proj2, plainAt]
  simp only [blk_x, blk_g, blk_w]

/-- The program's query is the reference's. -/
theorem final5 (c : Dev nD) :
    (dats m 0 c).arrAt 5 cfg0.N = out0 (m ((c.tc : Thread nD τ).loc main_arg0)) (m ((c.tc : Thread nD τ).loc main_arg1))
      (m ((c.tc : Thread nD τ).loc main_arg2)) := by
  refine (dats m 0 c).arrAt_eq_of_covers 5 _ (by decide +kernel) fun t _ y => ?_
  have hout : ∀ (i : Fin 512) (j : Fin 1024), ((View.whole main_v39_0).slice (win0_5.rect t)).emb (ix2 i j)
      = ix2 ⟨t.val * 512 + i, by have := lt_N t; omega⟩ j := by
    intro i j
    blk_ext [idx t]
  blk_simp
  rw [after0_5, same5]
  obtain ⟨i, j, rfl⟩ : ∃ (i : Fin 512) (j : Fin 1024), y = ix2 i j := ⟨y 0, y 1, by funext a; fin_cases a <;> rfl⟩
  refine (Cert.Kernel6Ideal.Rot.out5_ix (iblk m c 0 t) (iblk m c 1 t) (iblk m c 2 t) (iblk m c 3 t) (iblk m c 4 t) i j).trans ?_
  rw [turned_blk m c t 0 _ (Cert.Kernel6Ideal.Rot.proj0 _ _ _ _ _) i j]
  rw [hout, out0_at]

/-- The program's keys in the cache's layout are the reference's. -/
theorem final6 (c : Dev nD) :
    (dats m 0 c).arrAt 6 cfg0.N = out1 (m ((c.tc : Thread nD τ).loc main_arg0)) (m ((c.tc : Thread nD τ).loc main_arg1))
      (m ((c.tc : Thread nD τ).loc main_arg2)) := by
  refine (dats m 0 c).arrAt_eq_of_covers 6 _ (by decide +kernel) fun t _ y => ?_
  have hout : ∀ (i : Fin 4096) (j : Fin 128), ((View.whole main_v39_1).slice (win0_6.rect t)).emb (ix2 i j)
      = ix2 ⟨t.val * 4096 + i, by have := lt_N t; omega⟩ j := by
    intro i j
    blk_ext [idx t]
  blk_simp
  rw [after0_6, same6]
  obtain ⟨i, j, rfl⟩ : ∃ (i : Fin 4096) (j : Fin 128), y = ix2 i j := ⟨y 0, y 1, by funext a; fin_cases a <;> rfl⟩
  refine ((Cert.Kernel6Ideal.Rot.out6_at _ _ _ _ _ _).trans (turned_blk m c t 1 _ (Cert.Kernel6Ideal.Rot.proj1 _ _ _ _ _) _ _)).trans ?_
  rw [hout, out1_at]
  congr 1
  · exact Fin.ext (by show (t.val * 512 + i.val / 8) / 32 = (t.val * 4096 + i.val) / 8 / 32; omega)
  · exact Fin.ext (by show (t.val * 512 + i.val / 8) % 32 = (t.val * 4096 + i.val) / 8 % 32; omega)
  · exact Fin.ext (by show 128 * (i.val % 8) + j.val = 128 * ((t.val * 4096 + i.val) % 8) + j.val; omega)

/-- The program's keys in rows are the reference's. -/
theorem final7 (c : Dev nD) :
    (dats m 0 c).arrAt 7 cfg0.N = out2 (m ((c.tc : Thread nD τ).loc main_arg0)) (m ((c.tc : Thread nD τ).loc main_arg1))
      (m ((c.tc : Thread nD τ).loc main_arg2)) := by
  refine (dats m 0 c).arrAt_eq_of_covers 7 _ (by decide +kernel) fun t _ y => ?_
  have hout : ∀ (i : Fin 512) (j : Fin 1024), ((View.whole main_v39_2).slice (win0_7.rect t)).emb (ix2 i j)
      = ix2 ⟨t.val * 512 + i, by have := lt_N t; omega⟩ j := by
    intro i j
    blk_ext [idx t]
  blk_simp
  rw [after0_7, same7]
  obtain ⟨i, j, rfl⟩ : ∃ (i : Fin 512) (j : Fin 1024), y = ix2 i j := ⟨y 0, y 1, by funext a; fin_cases a <;> rfl⟩
  refine (Cert.Kernel6Ideal.Rot.out7_ix (iblk m c 0 t) (iblk m c 1 t) (iblk m c 2 t) (iblk m c 3 t) (iblk m c 4 t) i j).trans ?_
  rw [turned_blk m c t 1 _ (Cert.Kernel6Ideal.Rot.proj1 _ _ _ _ _) i j]
  rw [hout, out2_at]

/-- The program's values in the cache's layout are the reference's. -/
theorem final8 (c : Dev nD) :
    (dats m 0 c).arrAt 8 cfg0.N = out3 (m ((c.tc : Thread nD τ).loc main_arg0)) (m ((c.tc : Thread nD τ).loc main_arg1))
      (m ((c.tc : Thread nD τ).loc main_arg2)) := by
  refine (dats m 0 c).arrAt_eq_of_covers 8 _ (by decide +kernel) fun t _ y => ?_
  have hout : ∀ (i : Fin 4096) (j : Fin 128), ((View.whole main_v39_3).slice (win0_8.rect t)).emb (ix2 i j)
      = ix2 ⟨t.val * 4096 + i, by have := lt_N t; omega⟩ j := by
    intro i j
    blk_ext [idx t]
  blk_simp
  rw [after0_8, same8]
  obtain ⟨i, j, rfl⟩ : ∃ (i : Fin 4096) (j : Fin 128), y = ix2 i j := ⟨y 0, y 1, by funext a; fin_cases a <;> rfl⟩
  refine ((Cert.Kernel6Ideal.Rot.out8_at _ _ _ _ _ _).trans (plain_blk m c t _ _)).trans ?_
  rw [hout, out3_at]
  congr 1
  · exact Fin.ext (by show (t.val * 512 + i.val / 8) / 32 = (t.val * 4096 + i.val) / 8 / 32; omega)
  · exact Fin.ext (by show (t.val * 512 + i.val / 8) % 32 = (t.val * 4096 + i.val) / 8 % 32; omega)
  · exact Fin.ext (by show 128 * (i.val % 8) + j.val = 128 * ((t.val * 4096 + i.val) % 8) + j.val; omega)

/-- The program's values in rows are the reference's. -/
theorem final9 (c : Dev nD) :
    (dats m 0 c).arrAt 9 cfg0.N = out4 (m ((c.tc : Thread nD τ).loc main_arg0)) (m ((c.tc : Thread nD τ).loc main_arg1))
      (m ((c.tc : Thread nD τ).loc main_arg2)) := by
  refine (dats m 0 c).arrAt_eq_of_covers 9 _ (by decide +kernel) fun t _ y => ?_
  have hout : ∀ (i : Fin 512) (j : Fin 1024), ((View.whole main_v39_4).slice (win0_9.rect t)).emb (ix2 i j)
      = ix2 ⟨t.val * 512 + i, by have := lt_N t; omega⟩ j := by
    intro i j
    blk_ext [idx t]
  blk_simp
  rw [after0_9]
  obtain ⟨i, j, rfl⟩ : ∃ (i : Fin 512) (j : Fin 1024), y = ix2 i j := ⟨y 0, y 1, by funext a; fin_cases a <;> rfl⟩
  refine ((out9_at _ _ _ _ _ _ _).trans (plain_blk m c t i j)).trans ?_
  rw [hout, out4_at]
end
end Cert.Kernel7Ideal.Rot
-- ==== Proof.lean ====
module

public import proofs.«01_k».proof.Proof.Gen.KernelIdeal.Value
public import proofs.«01_k».proof.Proof.Finite
public import proofs.«01_k».proof.Proof.Attn
public import proofs.«01_k».proof.Proof.Band
public import proofs.«01_k».proof.Proof.Post3
public import proofs.«01_k».proof.Proof.Proj4
public import proofs.«01_k».proof.Proof.Proj5
public import proofs.«01_k».proof.Proof.Rot6
public import proofs.«01_k».proof.Proof.Turn6
public import proofs.«01_k».proof.Proof.Rot7
public import proofs.«01_k».proof.Proof.Turn7
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6Ideal.Points
public import proofs.«01_k».proof.Proof.Gen.Kernel6Ideal.Launch
public import proofs.«01_k».proof.Proof.Gen.Kernel6Ideal.Skeleton
public import proofs.«01_k».proof.Proof.Gen.Kernel6.Points
public import proofs.«01_k».proof.Proof.Gen.Kernel6.Launch
public import proofs.«01_k».proof.Proof.Gen.Kernel6.Skeleton
public import proofs.«01_k».proof.Proof.Gen.Kernel7Ideal.Points
public import proofs.«01_k».proof.Proof.Gen.Kernel7Ideal.Launch
public import proofs.«01_k».proof.Proof.Gen.Kernel7Ideal.Skeleton
public import proofs.«01_k».proof.Proof.Gen.Kernel7.Points
public import proofs.«01_k».proof.Proof.Gen.Kernel7.Launch
public import proofs.«01_k».proof.Proof.Gen.Kernel7.Skeleton
public import proofs.«01_k».proof.Proof.Gen.Reference6Ideal.Run
public import proofs.«01_k».proof.Proof.Gen.Reference7Ideal.Run
public import proofs.«01_k».proof.Proof.Gen.Kernel8.Frame
public import proofs.«01_k».proof.Proof.Gen.Kernel8Ideal.Frame
public import Idealize.ShloMosaic.Adequacy
public import Idealize.ShloMosaic.Init

@[expose] public section

noncomputable section

namespace Cert.Proof

open Idealize.ShloMosaic Idealize.SL.Sem

/-- The facts the preconditions' predicates state about their shapes. -/
theorem finite_facts : Cert.Pre_finite_scores.Facts := ⟨by decide, by decide⟩
theorem band_facts : Cert.Pre_finite_band.Facts := ⟨by decide, by decide, by decide⟩

/-- The references run, keep their arguments, and declare no semaphore. -/
theorem reference_frame : Cert.quiescent_ReferenceIdeal (hReferenceIdeal := Cert.ReferenceIdeal.Gen.facts) := fun m g _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m g)
theorem reference2_frame : Cert.quiescent_Reference2Ideal (hReference2Ideal := Cert.Reference2Ideal.Gen.facts) := fun m g _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m g)
theorem reference3_frame : Cert.quiescent_Reference3Ideal (hReference3Ideal := Cert.Reference3Ideal.Gen.facts) := fun m g _ =>
  (θ_run Cert.Reference3Ideal.defs _ _).mono
    (fun r h => ⟨fun c => (h c).2, Idealize.ShloMosaic.sem_eq_zero_of_no_sems (by decide) r.2⟩)
    (Cert.Reference3Ideal.Value.run (F := Ideal) m g)
theorem reference4_frame : Cert.quiescent_Reference4Ideal (hReference4Ideal := Cert.Reference4Ideal.Gen.facts) := fun m g _ =>
  (θ_run Cert.Reference4Ideal.defs _ _).mono
    (fun r h => ⟨fun c => (h c).2.2.2.2.2, Idealize.ShloMosaic.sem_eq_zero_of_no_sems (by decide) r.2⟩)
    (Cert.Reference4Ideal.Value.run (F := Ideal) m g)
theorem reference5_frame : Cert.quiescent_Reference5Ideal (hReference5Ideal := Cert.Reference5Ideal.Gen.facts) := fun m g _ =>
  (θ_run Cert.Reference5Ideal.defs _ _).mono
    (fun r h => ⟨fun c => (h c).2.2.2.2.2, Idealize.ShloMosaic.sem_eq_zero_of_no_sems (by decide) r.2⟩)
    (Cert.Reference5Ideal.Value.run (F := Ideal) m g)
theorem reference6_frame : Cert.quiescent_Reference6Ideal (hReference6Ideal := Cert.Reference6Ideal.Gen.facts) := fun m g _ =>
  (θ_run Cert.Reference6Ideal.defs _ _).mono
    (fun r h => ⟨fun c => (h c).2.2.2.2.2, Idealize.ShloMosaic.sem_eq_zero_of_no_sems (by decide) r.2⟩)
    (Cert.Reference6Ideal.Value.run (F := Ideal) m g)
theorem reference7_frame : Cert.quiescent_Reference7Ideal (hReference7Ideal := Cert.Reference7Ideal.Gen.facts) := fun m g _ =>
  (θ_run Cert.Reference7Ideal.defs _ _).mono
    (fun r h => ⟨fun c => (h c).2.2.2.2.2, Idealize.ShloMosaic.sem_eq_zero_of_no_sems (by decide) r.2⟩)
    (Cert.Reference7Ideal.Value.run (F := Ideal) m g)

/-- The first program's two results are its reference's. -/
theorem value : Cert.algebraic_KernelIdeal_ReferenceIdeal_pre_finite_scores (hKernelIdeal := Cert.KernelIdeal.Gen.facts)
    (hReferenceIdeal := Cert.ReferenceIdeal.Gen.facts) (hPre_finite_scores := finite_facts) := by
  pair_intro
  · run_from Cert.KernelIdeal.Value.run_blocks m g
  · run_from Cert.ReferenceIdeal.Value.run m' g'
    · obtain ⟨h0, h1, h2, h3, h4, h5, _⟩ := hagree c
      refine (Cert.ReferenceIdeal.Value.res_main_v27_eq m' c).trans ?_
      rw [h0, h1, h2, h3, h4, h5]
      exact (Cert.KernelIdeal.Value.final13 m c).symm
    · obtain ⟨hq, hkn, hck⟩ := hpre c
      obtain ⟨_, _, _, _, _, _, h6, h7, h8, h9, h10, h11, h12⟩ := hagree c
      obtain ⟨qr, hqr⟩ := Cert.Layer.reals_of_below _ fun i => congrFun hq i
      obtain ⟨knr, hknr⟩ := Cert.Layer.reals_of_below _ fun i => congrFun hkn i
      obtain ⟨ckr, hckr⟩ := Cert.Layer.reals_of_below _ fun i => congrFun hck i
      refine (Cert.ReferenceIdeal.Value.res_main_v90_eq m' c).trans ?_
      rw [h6, h7, h8, h9, h10, h11, h12]
      exact (Cert.KernelIdeal.Value.final14 m c qr knr ckr hqr hknr hckr).symm

/-- The second program's two results are its reference's. -/
theorem value2 : Cert.algebraic_Kernel2Ideal_Reference2Ideal_pre_finite_band (hKernel2Ideal := Cert.Kernel2Ideal.Gen.facts)
    (hReference2Ideal := Cert.Reference2Ideal.Gen.facts) (hPre_finite_band := band_facts) := by
  pair_intro
  · run_from Cert.Kernel2Ideal.Value.run_blocks m g
  · run_from Cert.Reference2Ideal.Value.run m' g'
    · obtain ⟨h0, h1, h2, h3, h4, h5, h6, _⟩ := hagree c
      refine (Cert.Reference2Ideal.Value.res_main_v84_eq m' c).trans ?_
      rw [h0, h1, h2, h3, h4, h5, h6]
      exact (Cert.Kernel2Ideal.Value.final13 m c).symm
    · obtain ⟨htb, hq, hkn, hck⟩ := hpre c
      obtain ⟨_, _, _, _, _, _, _, h7, h8, h9, h10, h11, h12⟩ := hagree c
      obtain ⟨tbr, htbr⟩ := Cert.Layer.reals_of_below _ fun i => congrFun htb i
      obtain ⟨qr, hqr⟩ := Cert.Layer.reals_of_below _ fun i => congrFun hq i
      obtain ⟨knr, hknr⟩ := Cert.Layer.reals_of_below _ fun i => congrFun hkn i
      obtain ⟨ckr, hckr⟩ := Cert.Layer.reals_of_below _ fun i => congrFun hck i
      refine (Cert.Reference2Ideal.Value.res_main_v85_eq m' c).trans ?_
      rw [h7, h8, h9, h10, h11, h12]
      exact (Cert.Kernel2Ideal.Value.final14 m c tbr qr knr ckr htbr hqr hknr hckr).symm

/-- The third program's result is its reference's. -/
theorem value3 : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    obtain ⟨h0, h1, h2, h3, h4, h5, h6⟩ := hagree c
    refine (Cert.Reference3Ideal.Value.res_main_v40_eq m' c).trans ?_
    rw [h0, h1, h2, h3, h4, h5, h6]
    exact (Cert.Kernel3Ideal.Value.final7 m c).symm

/-- The fourth program's five results are its reference's. -/
theorem value4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · exact (Cert.Kernel4Ideal.Value.final5 m c).symm
    · exact (Cert.Kernel4Ideal.Value.final6 m c).symm
    · exact (Cert.Kernel4Ideal.Value.final7 m c).symm
    · exact (Cert.Kernel4Ideal.Value.final8 m c).symm
    · exact (Cert.Kernel4Ideal.Value.final9 m c).symm

/-- The fifth program's five results are its reference's. -/
theorem value5 : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    · exact (Cert.Kernel5Ideal.Value.final5 m c).symm
    · exact (Cert.Kernel5Ideal.Value.final6 m c).symm
    · exact (Cert.Kernel5Ideal.Value.final7 m c).symm
    · exact (Cert.Kernel5Ideal.Value.final8 m c).symm
    · exact (Cert.Kernel5Ideal.Value.final9 m c).symm

/-- The sixth program's five results are its reference's. -/
theorem value6 : Cert.algebraic_Kernel6Ideal_Reference6Ideal (hKernel6Ideal := Cert.Kernel6Ideal.Gen.facts)
    (hReference6Ideal := Cert.Reference6Ideal.Gen.facts) := by
  pair_intro
  · run_from Cert.Kernel6Ideal.Rot.run_blocks m g
  · run_from Cert.Reference6Ideal.Value.run m' g'
    · obtain ⟨h0, h1, h2⟩ := hagree c
      refine (Cert.Reference6Ideal.Value.res0 m' c).trans ?_
      rw [h0, h1, h2]
      exact (Cert.Kernel6Ideal.Rot.final5 m c).symm
    · obtain ⟨h0, h1, h2⟩ := hagree c
      refine (Cert.Reference6Ideal.Value.res1 m' c).trans ?_
      rw [h0, h1, h2]
      exact (Cert.Kernel6Ideal.Rot.final6 m c).symm
    · obtain ⟨h0, h1, h2⟩ := hagree c
      refine (Cert.Reference6Ideal.Value.res2 m' c).trans ?_
      rw [h0, h1, h2]
      exact (Cert.Kernel6Ideal.Rot.final7 m c).symm
    · exact (Cert.Kernel6Ideal.Rot.final8 m c).symm
    · exact (Cert.Kernel6Ideal.Rot.final9 m c).symm

/-- The seventh program's five results are its reference's. -/
theorem value7 : Cert.algebraic_Kernel7Ideal_Reference7Ideal (hKernel7Ideal := Cert.Kernel7Ideal.Gen.facts)
    (hReference7Ideal := Cert.Reference7Ideal.Gen.facts) := by
  pair_intro
  · run_from Cert.Kernel7Ideal.Rot.run_blocks m g
  · run_from Cert.Reference7Ideal.Value.run m' g'
    · obtain ⟨h0, h1, h2⟩ := hagree c
      refine (Cert.Reference7Ideal.Value.res0 m' c).trans ?_
      rw [h0, h1, h2]
      exact (Cert.Kernel7Ideal.Rot.final5 m c).symm
    · obtain ⟨h0, h1, h2⟩ := hagree c
      refine (Cert.Reference7Ideal.Value.res1 m' c).trans ?_
      rw [h0, h1, h2]
      exact (Cert.Kernel7Ideal.Rot.final6 m c).symm
    · obtain ⟨h0, h1, h2⟩ := hagree c
      refine (Cert.Reference7Ideal.Value.res2 m' c).trans ?_
      rw [h0, h1, h2]
      exact (Cert.Kernel7Ideal.Rot.final7 m c).symm
    · exact (Cert.Kernel7Ideal.Rot.final8 m c).symm
    · exact (Cert.Kernel7Ideal.Rot.final9 m c).symm

/-- Everything claimed, from the kernels' runs and the value theorems. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, finite_facts, band_facts,
    fun m g _ => Cert.Kernel.Gen.frame m g,
    fun m g _ => Cert.KernelIdeal.Gen.frame m g,
    fun m g _ => Cert.KernelIdeal.Gen.frame m g,
    reference_frame,
    fun m g _ => reference_frame m g trivial,
    fun m g _ => Cert.Kernel2.Gen.frame m g,
    fun m g _ => Cert.Kernel2Ideal.Gen.frame m g,
    fun m g _ => Cert.Kernel2Ideal.Gen.frame m g,
    reference2_frame,
    fun m g _ => reference2_frame m g trivial,
    fun m g _ => Cert.Kernel3.Gen.frame m g,
    fun m g _ => Cert.Kernel3Ideal.Gen.frame m g,
    reference3_frame,
    fun m g _ => Cert.Kernel4.Gen.frame m g,
    fun m g _ => Cert.Kernel4Ideal.Gen.frame m g,
    reference4_frame,
    fun m g _ => Cert.Kernel5.Gen.frame m g,
    fun m g _ => Cert.Kernel5Ideal.Gen.frame m g,
    reference5_frame,
    fun m g _ => Cert.Kernel6.Rot.frame m g,
    fun m g _ => Cert.Kernel6Ideal.Rot.frame m g,
    reference6_frame,
    fun m g _ => Cert.Kernel7.Rot.frame m g,
    fun m g _ => Cert.Kernel7Ideal.Rot.frame m g,
    reference7_frame,
    fun m g _ => Cert.Kernel8.Gen.frame m g,
    fun m g _ => Cert.Kernel8Ideal.Gen.frame m g,
    trivial, value,
    IdealRules.named_const.statement Cert.Kernel2Ideal.κ "log2e" .f32 0x3FB8AA3B#32 (((Real.log 2)⁻¹ : ℝ) : EReal) rfl, value2,
    trivial, value3,
    IdealRules.named_const.statement Cert.Kernel4Ideal.κ "qscale" .f32 0x3E38AA3B#32 ((8⁻¹ * (Real.log 2)⁻¹ : ℝ) : EReal) rfl, value4,
    IdealRules.named_const.statement Cert.Kernel5Ideal.κ "qscale" .f32 0x3E38AA3B#32 ((8⁻¹ * (Real.log 2)⁻¹ : ℝ) : EReal) rfl, value5,
    IdealRules.named_const.statement Cert.Kernel6Ideal.κ "qscale" .f32 0x3E38AA3B#32 ((8⁻¹ * (Real.log 2)⁻¹ : ℝ) : EReal) rfl, value6,
    IdealRules.named_const.statement Cert.Kernel7Ideal.κ "qscale" .f32 0x3E38AA3B#32 ((8⁻¹ * (Real.log 2)⁻¹ : ℝ) : EReal) rfl, value7,
    trivial⟩

end Cert.Proof

end
